-- ==== Defs.lean ====
def Pre_Whole (m : (ℓ : Loc Cert.Whole.nD Cert.Whole.τ Cert.Whole.sig) → Buf (Elt Bits) ℓ) : Prop :=
  True

def Pre_WholeIdeal (m : (ℓ : Loc Cert.WholeIdeal.nD Cert.WholeIdeal.τ Cert.WholeIdeal.sig) → Buf (Elt Ideal) ℓ) : Prop :=
  True

def Pre_WholeIdeal_tokens_in_table_WholeIdeal [hPre_tokens_in_table_WholeIdeal : Cert.Pre_tokens_in_table_WholeIdeal.Facts] (m : (ℓ : Loc Cert.WholeIdeal.nD Cert.WholeIdeal.τ Cert.WholeIdeal.sig) → Buf (Elt Ideal) ℓ) : Prop :=
  ∀ c : Dev Cert.WholeIdeal.nD,
    (Cert.Pre_tokens_in_table_WholeIdeal.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1))) = (fun _ => 1#1)

def Pre_WholeReferenceIdeal (m : (ℓ : Loc Cert.WholeReferenceIdeal.nD Cert.WholeReferenceIdeal.τ Cert.WholeReferenceIdeal.sig) → Buf (Elt Ideal) ℓ) : Prop :=
  True

def Pre_WholeReferenceIdeal_tokens_in_table_WholeReferenceIdeal [hPre_tokens_in_table_WholeReferenceIdeal : Cert.Pre_tokens_in_table_WholeReferenceIdeal.Facts] (m : (ℓ : Loc Cert.WholeReferenceIdeal.nD Cert.WholeReferenceIdeal.τ Cert.WholeReferenceIdeal.sig) → Buf (Elt Ideal) ℓ) : Prop :=
  ∀ c : Dev Cert.WholeReferenceIdeal.nD,
    (Cert.Pre_tokens_in_table_WholeReferenceIdeal.fn (F := Ideal) (m ((c.tc : Thread Cert.WholeReferenceIdeal.nD Cert.WholeReferenceIdeal.τ).loc Cert.WholeReferenceIdeal.main_arg0)) (m ((c.tc : Thread Cert.WholeReferenceIdeal.nD Cert.WholeReferenceIdeal.τ).loc Cert.WholeReferenceIdeal.main_arg1))) = (fun _ => 1#1)

def quiescent_Whole [hWhole : Cert.Whole.Facts] : Prop :=
  ∀ (m : (ℓ : Loc Cert.Whole.nD Cert.Whole.τ Cert.Whole.sig) → Buf (Elt Bits) ℓ) (g : Dev Cert.Whole.nD → PrngReg), Pre_Whole m →
    θ_run (Cert.Whole.defs (F := Bits)) (onTc (τ := Cert.Whole.τ) (Cert.Whole.main (F := Bits))) ⟨m, fun _ => 0, g⟩ (fun r => (∀ c : Dev Cert.Whole.nD,
      r.2.mem ((c.tc : Thread Cert.Whole.nD Cert.Whole.τ).loc Cert.Whole.main_arg0) = m ((c.tc : Thread Cert.Whole.nD Cert.Whole.τ).loc Cert.Whole.main_arg0)
      ∧ r.2.mem ((c.tc : Thread Cert.Whole.nD Cert.Whole.τ).loc Cert.Whole.main_arg1) = m ((c.tc : Thread Cert.Whole.nD Cert.Whole.τ).loc Cert.Whole.main_arg1))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1))
      ∧ r.2.sem = fun _ => 0)

def quiescent_WholeIdeal_pre_tokens_in_table_WholeIdeal [hWholeIdeal : Cert.WholeIdeal.Facts] [hPre_tokens_in_table_WholeIdeal : Cert.Pre_tokens_in_table_WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal_tokens_in_table_WholeIdeal m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1))
      ∧ r.2.sem = fun _ => 0)

def quiescent_WholeReferenceIdeal [hWholeReferenceIdeal : Cert.WholeReferenceIdeal.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1))
      ∧ r.2.sem = fun _ => 0)

def quiescent_WholeReferenceIdeal_pre_tokens_in_table_WholeReferenceIdeal [hWholeReferenceIdeal : Cert.WholeReferenceIdeal.Facts] [hPre_tokens_in_table_WholeReferenceIdeal : Cert.Pre_tokens_in_table_WholeReferenceIdeal.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal_tokens_in_table_WholeReferenceIdeal m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1))
      ∧ r.2.sem = fun _ => 0)

def preserves_Whole_WholeIdeal : Prop :=
  True

def algebraic_WholeIdeal_WholeReferenceIdeal_pre_tokens_in_table_WholeIdeal [hWholeIdeal : Cert.WholeIdeal.Facts] [hWholeReferenceIdeal : Cert.WholeReferenceIdeal.Facts] [hPre_tokens_in_table_WholeIdeal : Cert.Pre_tokens_in_table_WholeIdeal.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeReferenceIdeal.nD Cert.WholeReferenceIdeal.τ Cert.WholeReferenceIdeal.sig) → Buf (Elt Ideal) ℓ) (g' : Dev Cert.WholeReferenceIdeal.nD → PrngReg), Pre_WholeIdeal_tokens_in_table_WholeIdeal m →
    (∀ c : Dev Cert.WholeIdeal.nD,
      m ((c.tc : Thread Cert.WholeIdeal.nD Cert.WholeIdeal.τ).loc Cert.WholeIdeal.main_arg0) = m' (((0 : Dev Cert.WholeReferenceIdeal.nD).tc : Thread Cert.WholeReferenceIdeal.nD Cert.WholeReferenceIdeal.τ).loc Cert.WholeReferenceIdeal.main_arg0)
      ∧ m ((c.tc : Thread Cert.WholeIdeal.nD Cert.WholeIdeal.τ).loc Cert.WholeIdeal.main_arg1) = Layout.blockN ⟨2, ![8192, 2048]⟩ ⟨2, ![32768, 2048]⟩ (Layout.meshBlock [2, 4, 4] ![[2], []] c) (m' (((0 : Dev Cert.WholeReferenceIdeal.nD).tc : Thread Cert.WholeReferenceIdeal.nD Cert.WholeReferenceIdeal.τ).loc Cert.WholeReferenceIdeal.main_arg1))) →
    ∃ (v0 : Buf (Elt Ideal) (((0 : Dev Cert.WholeReferenceIdeal.nD).tc : Thread Cert.WholeReferenceIdeal.nD Cert.WholeReferenceIdeal.τ).loc Cert.WholeReferenceIdeal.main_v6)),
      θ_run (Cert.WholeIdeal.defs (F := Ideal)) (onTc (τ := Cert.WholeIdeal.τ) (Cert.WholeIdeal.main (F := Ideal))) ⟨m, fun _ => 0, g⟩ (fun r => ∀ c : Dev Cert.WholeIdeal.nD,
          r.2.mem ((c.tc : Thread Cert.WholeIdeal.nD Cert.WholeIdeal.τ).loc Cert.WholeIdeal.main_v5) = v0
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1))
      ∧ θ_run (Cert.WholeReferenceIdeal.defs (F := Ideal)) (onTc (τ := Cert.WholeReferenceIdeal.τ) (Cert.WholeReferenceIdeal.main (F := Ideal))) ⟨m', fun _ => 0, g'⟩ (fun r =>
          r.2.mem (((0 : Dev Cert.WholeReferenceIdeal.nD).tc : Thread Cert.WholeReferenceIdeal.nD Cert.WholeReferenceIdeal.τ).loc Cert.WholeReferenceIdeal.main_v6) = v0
          ∧ r.2.mem (((0 : Dev Cert.WholeReferenceIdeal.nD).tc : Thread Cert.WholeReferenceIdeal.nD Cert.WholeReferenceIdeal.τ).loc Cert.WholeReferenceIdeal.main_arg0) = m' (((0 : Dev Cert.WholeReferenceIdeal.nD).tc : Thread Cert.WholeReferenceIdeal.nD Cert.WholeReferenceIdeal.τ).loc Cert.WholeReferenceIdeal.main_arg0)
          ∧ r.2.mem (((0 : Dev Cert.WholeReferenceIdeal.nD).tc : Thread Cert.WholeReferenceIdeal.nD Cert.WholeReferenceIdeal.τ).loc Cert.WholeReferenceIdeal.main_arg1) = m' (((0 : Dev Cert.WholeReferenceIdeal.nD).tc : Thread Cert.WholeReferenceIdeal.nD Cert.WholeReferenceIdeal.τ).loc Cert.WholeReferenceIdeal.main_arg1))

def Claim : Prop :=
  ∃ (hWhole : Cert.Whole.Facts) (hWholeIdeal : Cert.WholeIdeal.Facts) (hWholeReferenceIdeal : Cert.WholeReferenceIdeal.Facts) (hPre_tokens_in_table_WholeIdeal : Cert.Pre_tokens_in_table_WholeIdeal.Facts) (hPre_tokens_in_table_WholeReferenceIdeal : Cert.Pre_tokens_in_table_WholeReferenceIdeal.Facts),
    quiescent_Whole (hWhole := hWhole)
    ∧ quiescent_WholeIdeal (hWholeIdeal := hWholeIdeal)
    ∧ quiescent_WholeIdeal_pre_tokens_in_table_WholeIdeal (hWholeIdeal := hWholeIdeal) (hPre_tokens_in_table_WholeIdeal := hPre_tokens_in_table_WholeIdeal)
    ∧ quiescent_WholeReferenceIdeal (hWholeReferenceIdeal := hWholeReferenceIdeal)
    ∧ quiescent_WholeReferenceIdeal_pre_tokens_in_table_WholeReferenceIdeal (hWholeReferenceIdeal := hWholeReferenceIdeal) (hPre_tokens_in_table_WholeReferenceIdeal := hPre_tokens_in_table_WholeReferenceIdeal)
    ∧ preserves_Whole_WholeIdeal
    ∧ algebraic_WholeIdeal_WholeReferenceIdeal_pre_tokens_in_table_WholeIdeal (hWholeIdeal := hWholeIdeal) (hWholeReferenceIdeal := hWholeReferenceIdeal) (hPre_tokens_in_table_WholeIdeal := hPre_tokens_in_table_WholeIdeal)
-- ==== Pre_tokens_in_table_WholeIdeal.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 32768#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Pre_tokens_in_table_WholeReferenceIdeal.lean ====
abbrev S4096 : Shape := ⟨1, ![4096]⟩
abbrev S32768x2048 : Shape := ⟨2, ![32768, 2048]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : IVec S4096 32) (main_arg1 : FVec F S32768x2048 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 32768#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Whole.lean ====
abbrev S4096 : Shape := ⟨1, ![4096]⟩
abbrev S8192x2048 : Shape := ⟨2, ![8192, 2048]⟩
abbrev S4096x1 : Shape := ⟨2, ![4096, 1]⟩
abbrev S512x2048 : Shape := ⟨2, ![512, 2048]⟩
abbrev S_ : Shape := ⟨0, ![]⟩
abbrev S1 : Shape := ⟨1, ![1]⟩
abbrev S1x2048 : Shape := ⟨2, ![1, 2048]⟩
abbrev S512x1 : Shape := ⟨2, ![512, 1]⟩
abbrev S2x128x2048 : Shape := ⟨3, ![2, 128, 2048]⟩
abbrev S2 : Shape := ⟨1, ![2]⟩
abbrev S128x2048 : Shape := ⟨2, ![128, 2048]⟩
abbrev S1x128x2048 : Shape := ⟨3, ![1, 128, 2048]⟩
abbrev S4096x2048 : Shape := ⟨2, ![4096, 2048]⟩
abbrev S3x512x2048 : Shape := ⟨3, ![3, 512, 2048]⟩
abbrev S3 : Shape := ⟨1, ![3]⟩
abbrev S4 : Shape := ⟨1, ![4]⟩
abbrev S1x512x2048 : Shape := ⟨3, ![1, 512, 2048]⟩
abbrev S1x256x2048 : Shape := ⟨3, ![1, 256, 2048]⟩
abbrev S256x2048 : Shape := ⟨2, ![256, 2048]⟩

abbrev nBuf : Space → Nat
  | .hbm => 7
  | .vmem => 11
  | .smem => 1
  | _ => 0

abbrev bufTy : (tb : Table) → Fin (tcTables nBuf tb) → BufTy
  | .hbm, ⟨0, _⟩ => ⟨S4096, .i32⟩
  | .hbm, ⟨1, _⟩ => ⟨S8192x2048, .f32⟩
  | .hbm, ⟨2, _⟩ => ⟨S4096x1, .i32⟩
  | .hbm, ⟨3, _⟩ => ⟨S512x2048, .bf16⟩
  | .hbm, ⟨4, _⟩ => ⟨S512x2048, .bf16⟩
  | .hbm, ⟨5, _⟩ => ⟨S4096x2048, .bf16⟩
  | .hbm, ⟨6, _⟩ => ⟨S4096x2048, .f32⟩
  | .local _ .vmem, ⟨0, _⟩ => ⟨S4096x1, .i32⟩
  | .local _ .vmem, ⟨1, _⟩ => ⟨S512x2048, .bf16⟩
  | .local _ .vmem, ⟨2, _⟩ => ⟨S512x2048, .f32⟩
  | .local _ .vmem, ⟨3, _⟩ => ⟨S512x2048, .bf16⟩
  | .local _ .vmem, ⟨4, _⟩ => ⟨S512x2048, .bf16⟩
  | .local _ .vmem, ⟨5, _⟩ => ⟨S2x128x2048, .bf16⟩
  | .local _ .vmem, ⟨6, _⟩ => ⟨S2x128x2048, .bf16⟩
  | .local _ .vmem, ⟨7, _⟩ => ⟨S512x2048, .bf16⟩
  | .local _ .vmem, ⟨8, _⟩ => ⟨S4096x2048, .bf16⟩
  | .local _ .vmem, ⟨9, _⟩ => ⟨S3x512x2048, .bf16⟩
  | .local _ .vmem, ⟨10, _⟩ => ⟨S3x512x2048, .bf16⟩
  | .local _ .smem, ⟨0, _⟩ => ⟨S4096, .i32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 4 → Bool
  | ⟨0, _⟩ => true
  | ⟨1, _⟩ => false
  | ⟨2, _⟩ => true
  | ⟨3, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 4 26 bufScoped semScoped dmaSemScoped tileCredit tileCredit_eq_zero tileCredit_pos).withBarriers [(0, 1), (1, 3)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev cc0_stg1_0 : Ref sig .tc := ⟨.vmem, 0, rfl⟩
abbrev cc0_stg2_0 : Ref sig .tc := ⟨.vmem, 1, rfl⟩
abbrev cc0_scratch0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_scratch0 : Ref sig .tc := ⟨.vmem, 5, rfl⟩
abbrev cc1_scratch1 : Ref sig .tc := ⟨.vmem, 6, rfl⟩
abbrev cc2_stg0_0 : Ref sig .tc := ⟨.vmem, 7, rfl⟩
abbrev cc2_stg1_0 : Ref sig .tc := ⟨.vmem, 8, rfl⟩
abbrev cc2_scratch0 : Ref sig .tc := ⟨.vmem, 9, rfl⟩
abbrev cc2_scratch1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc1_sem0_0 : DmaSem sig := 4
abbrev cc1_sem1_0 : DmaSem sig := 5
abbrev cc2_sem0_0 : DmaSem sig := 10
abbrev cc2_sem1_0 : DmaSem sig := 11
abbrev barrier0 : Sem sig := 1
abbrev barrier1 : Sem sig := 3

abbrev nD : Nat := 32
abbrev τ : Topo := Topo.v7x

variable {F : FTy → Type} [FloatOps F]

abbrev grid0 : Pipeline.Grid := .none

@[reducible] def k0_t1_loop : Scf.Loop 32 :=
  let c0_i32_3 : BitVec 32 := 0#32
  let c512_i32_4 : BitVec 32 := 512#32
  let v14 : BitVec 32 := Scalar.addi c0_i32_3 c512_i32_4
  let c1_i32_5 : BitVec 32 := 1#32
  ⟨c0_i32_3, v14, c1_i32_5⟩
def k0_off1 (d0 : Dev nD) (k0_t1 : Fin k0_t1_loop.trips) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c512_i32 : BitVec 32 := 512#32
  let v13 : BitVec 32 := Scalar.muli v11 c512_i32
  let c0_i32_3 : BitVec 32 := 0#32
  let c1_i32_5 : BitVec 32 := 1#32
  let arg6 : BitVec 32 := Scf.iv c0_i32_3 c1_i32_5 k0_t1
  let v39 : BitVec 32 := Scalar.addi v13 arg6
  let v40 : Index := Scalar.indexCast v39
  ![v40.toNat]
def k0_off2 (k0_t1 : Fin k0_t1_loop.trips) : Fin 2 → Nat :=
  let c0_i32_3 : BitVec 32 := 0#32
  let c1_i32_5 : BitVec 32 := 1#32
  let arg6 : BitVec 32 := Scf.iv c0_i32_3 c1_i32_5 k0_t1
  let c0_i32_21 : BitVec 32 := 0#32
  ![arg6.toNat, 0]
def k0_off3 (d0 : Dev nD) (v41 : BitVec 32) : Fin 2 → Nat :=
  let c8191_i32 : BitVec 32 := 8191#32
  let c0_i32_20 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32 : BitVec 32 := 8192#32
  let v12 : BitVec 32 := Scalar.muli v8 c8192_i32
  let v42 : BitVec 32 := Scalar.subi v41 v12
  let v50 : BitVec 32 := Scalar.maxsi c0_i32_20 v42
  let v51 : BitVec 32 := Scalar.minsi c8191_i32 v50
  let c0_i32_22 : BitVec 32 := 0#32
  ![v51.toNat, 0]
def k0_cond1 (d0 : Dev nD) (v41 : BitVec 32) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c8192_i32 : BitVec 32 := 8192#32
  let v12 : BitVec 32 := Scalar.muli v8 c8192_i32
  let v42 : BitVec 32 := Scalar.subi v41 v12
  let c0_i32_17 : BitVec 32 := 0#32
  let v43 : BitVec 1 := Scalar.cmpi .sge v42 c0_i32_17
  let c8192_i32_18 : BitVec 32 := 8192#32
  let v44 : BitVec 1 := Scalar.cmpi .slt v42 c8192_i32_18
  let v45 : BitVec 1 := Scalar.andi v43 v44
  let v46 : BitVec 32 := Scalar.extui v45
  let c0_i32_19 : BitVec 32 := 0#32
  let v47 : BitVec 1 := Scalar.cmpi .ne v46 c0_i32_19
  v47

def k0_chk1 (d0 : Dev nD) (v41 : BitVec 32) : Prop :=
  (∀ (k0_h1 : k0_cond1 d0 v41 = 1#1), ∀ a, (k0_off3 d0 v41) a + S1x2048.size a ≤ S8192x2048.size a)
theorem k0_off3_inb : ∀ (d0 : Dev nD) (v41 : BitVec 32) (k0_hw1 : k0_chk1 d0 v41), ∀ (k0_h1 : k0_cond1 d0 v41 = 1#1), ∀ a, (k0_off3 d0 v41) a + S1x2048.size a ≤ S8192x2048.size a := fun d0 v41 k0_hw1 k0_h1 => k0_hw1 k0_h1

@[reducible] def k0_t2_loop (v15 : BitVec 32) : Scf.Loop 32 :=
  let c0_i32_7 : BitVec 32 := 0#32
  let v16 : BitVec 32 := Scalar.subi v15 c0_i32_7
  let c1_i32_9 : BitVec 32 := 1#32
  let v18 : BitVec 32 := Scalar.divsi v16 c1_i32_9
  let v19 : BitVec 32 := Scalar.muli v18 c1_i32_9
  let v20 : BitVec 32 := Scalar.addi c0_i32_7 v19
  let c1_i32_10 : BitVec 32 := 1#32
  ⟨c0_i32_7, v20, c1_i32_10⟩

@[reducible] def k0_t3_loop (v15 : BitVec 32) : Scf.Loop 32 :=
  let c0_i32_7 : BitVec 32 := 0#32
  let v16 : BitVec 32 := Scalar.subi v15 c0_i32_7
  let c1_i32_9 : BitVec 32 := 1#32
  let v18 : BitVec 32 := Scalar.divsi v16 c1_i32_9
  let v19 : BitVec 32 := Scalar.muli v18 c1_i32_9
  let v20 : BitVec 32 := Scalar.addi c0_i32_7 v19
  let v17 : BitVec 32 := Scalar.addi c0_i32_7 v16
  let c1_i32_11 : BitVec 32 := 1#32
  ⟨v20, v17, c1_i32_11⟩

def k0_chk2 (v15 : BitVec 32) : Prop :=
  ((k0_t2_loop v15).OK) ∧
  ((k0_t3_loop v15).OK)
theorem k0_t2_ok : ∀ (v15 : BitVec 32) (k0_hw2 : k0_chk2 v15), (k0_t2_loop v15).OK := fun v15 k0_hw2 => k0_hw2.1
theorem k0_t3_ok : ∀ (v15 : BitVec 32) (k0_hw2 : k0_chk2 v15), (k0_t3_loop v15).OK := fun v15 k0_hw2 => k0_hw2.2

def k0_off4 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c512_i32 : BitVec 32 := 512#32
  let v13 : BitVec 32 := Scalar.muli v11 c512_i32
  let v23 : Index := Scalar.indexCast v13
  let c0 : Index := 0#32
  ![v23.toNat, 0]
abbrev stage0_0 : Fin 1 → Memref sig .tc .smem S4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := .none

def k1_dev1 (d0 : Dev nD) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_16 : BitVec 32 := 16#32
  let v32 : BitVec 32 := Scalar.muli v2 c16_i32_16
  let v33 : BitVec 32 := Scalar.addi c0_i32_17 v32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_18 : BitVec 32 := 4#32
  let v34 : BitVec 32 := Scalar.muli v5 c4_i32_18
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_19 : BitVec 32 := 1#32
  let v36 : BitVec 32 := Scalar.muli v30 c1_i32_19
  let v37 : BitVec 32 := Scalar.addi v35 v36
  v37.toNat
def k1_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_24 : BitVec 32 := 1#32
  let v42 : BitVec 32 := Scalar.muli v19 c1_i32_24
  let v43 : BitVec 32 := Scalar.addi v41 v42
  v43.toNat
def k1_off1 (d0 : Dev nD) (c0_i32_29 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v47 : BitVec 32 := Scalar.subi v8 c0_i32_29
  let c4_i32_30 : BitVec 32 := 4#32
  let c0_i32_31 : BitVec 32 := 0#32
  let v48 : BitVec 1 := Scalar.cmpi .eq c4_i32_30 c0_i32_31
  let c1_i32_32 : BitVec 32 := 1#32
  let v49 : BitVec 32 := Scalar.select v48 c1_i32_32 c4_i32_30
  let v50 : BitVec 32 := Scalar.remsi v47 v49
  let c0_i32_34 : BitVec 32 := 0#32
  let v52 : BitVec 1 := Scalar.cmpi .slt v50 c0_i32_34
  let c0_i32_35 : BitVec 32 := 0#32
  let v53 : BitVec 1 := Scalar.cmpi .slt v49 c0_i32_35
  let v54 : BitVec 1 := Scalar.xori v52 v53
  let c0_i32_33 : BitVec 32 := 0#32
  let v51 : BitVec 1 := Scalar.cmpi .ne v50 c0_i32_33
  let v55 : BitVec 1 := Scalar.andi v54 v51
  let v56 : BitVec 32 := Scalar.addi v50 v49
  let v57 : BitVec 32 := Scalar.select v55 v56 v50
  let c128_i32 : BitVec 32 := 128#32
  let v69 : BitVec 32 := Scalar.muli v57 c128_i32
  let v70 : Index := Scalar.indexCast v69
  let c0_43 : Index := 0#32
  ![v70.toNat, 0]
def k1_dev3 (d0 : Dev nD) : Nat :=
  let c0_i32_52 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_51 : BitVec 32 := 16#32
  let v76 : BitVec 32 := Scalar.muli v2 c16_i32_51
  let v77 : BitVec 32 := Scalar.addi c0_i32_52 v76
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_53 : BitVec 32 := 4#32
  let v78 : BitVec 32 := Scalar.muli v5 c4_i32_53
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_54 : BitVec 32 := 1#32
  let v80 : BitVec 32 := Scalar.muli v19 c1_i32_54
  let v81 : BitVec 32 := Scalar.addi v79 v80
  v81.toNat
def k1_off2 (d0 : Dev nD) (c0_i32_29 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v47 : BitVec 32 := Scalar.subi v8 c0_i32_29
  let c4_i32_30 : BitVec 32 := 4#32
  let c0_i32_31 : BitVec 32 := 0#32
  let v48 : BitVec 1 := Scalar.cmpi .eq c4_i32_30 c0_i32_31
  let c1_i32_32 : BitVec 32 := 1#32
  let v49 : BitVec 32 := Scalar.select v48 c1_i32_32 c4_i32_30
  let v50 : BitVec 32 := Scalar.remsi v47 v49
  let c0_i32_34 : BitVec 32 := 0#32
  let v52 : BitVec 1 := Scalar.cmpi .slt v50 c0_i32_34
  let c0_i32_35 : BitVec 32 := 0#32
  let v53 : BitVec 1 := Scalar.cmpi .slt v49 c0_i32_35
  let v54 : BitVec 1 := Scalar.xori v52 v53
  let c0_i32_33 : BitVec 32 := 0#32
  let v51 : BitVec 1 := Scalar.cmpi .ne v50 c0_i32_33
  let v55 : BitVec 1 := Scalar.andi v54 v51
  let v56 : BitVec 32 := Scalar.addi v50 v49
  let v57 : BitVec 32 := Scalar.select v55 v56 v50
  let c1_i32_36 : BitVec 32 := 1#32
  let v58 : BitVec 32 := Scalar.subi v57 c1_i32_36
  let c4_i32_37 : BitVec 32 := 4#32
  let c0_i32_38 : BitVec 32 := 0#32
  let v59 : BitVec 1 := Scalar.cmpi .eq c4_i32_37 c0_i32_38
  let c1_i32_39 : BitVec 32 := 1#32
  let v60 : BitVec 32 := Scalar.select v59 c1_i32_39 c4_i32_37
  let v61 : BitVec 32 := Scalar.remsi v58 v60
  let c0_i32_41 : BitVec 32 := 0#32
  let v63 : BitVec 1 := Scalar.cmpi .slt v61 c0_i32_41
  let c0_i32_42 : BitVec 32 := 0#32
  let v64 : BitVec 1 := Scalar.cmpi .slt v60 c0_i32_42
  let v65 : BitVec 1 := Scalar.xori v63 v64
  let c0_i32_40 : BitVec 32 := 0#32
  let v62 : BitVec 1 := Scalar.cmpi .ne v61 c0_i32_40
  let v66 : BitVec 1 := Scalar.andi v65 v62
  let v67 : BitVec 32 := Scalar.addi v61 v60
  let v68 : BitVec 32 := Scalar.select v66 v67 v61
  let c128_i32_80 : BitVec 32 := 128#32
  let v108 : BitVec 32 := Scalar.muli v68 c128_i32_80
  let v109 : Index := Scalar.indexCast v108
  let c0_81 : Index := 0#32
  ![v109.toNat, 0]
def k1_dev4 (d0 : Dev nD) : Nat :=
  let c0_i32_88 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_87 : BitVec 32 := 16#32
  let v117 : BitVec 32 := Scalar.muli v2 c16_i32_87
  let v118 : BitVec 32 := Scalar.addi c0_i32_88 v117
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_89 : BitVec 32 := 4#32
  let v119 : BitVec 32 := Scalar.muli v5 c4_i32_89
  let v120 : BitVec 32 := Scalar.addi v118 v119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_90 : BitVec 32 := 1#32
  let v121 : BitVec 32 := Scalar.muli v30 c1_i32_90
  let v122 : BitVec 32 := Scalar.addi v120 v121
  v122.toNat
def k1_dev5 (d0 : Dev nD) : Nat :=
  let c0_i32_114 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_113 : BitVec 32 := 16#32
  let v152 : BitVec 32 := Scalar.muli v2 c16_i32_113
  let v153 : BitVec 32 := Scalar.addi c0_i32_114 v152
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_115 : BitVec 32 := 4#32
  let v154 : BitVec 32 := Scalar.muli v5 c4_i32_115
  let v155 : BitVec 32 := Scalar.addi v153 v154
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_116 : BitVec 32 := 1#32
  let v156 : BitVec 32 := Scalar.muli v19 c1_i32_116
  let v157 : BitVec 32 := Scalar.addi v155 v156
  v157.toNat
def k1_dev6 (d0 : Dev nD) : Nat :=
  let c0_i32_150 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_149 : BitVec 32 := 16#32
  let v193 : BitVec 32 := Scalar.muli v2 c16_i32_149
  let v194 : BitVec 32 := Scalar.addi c0_i32_150 v193
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_151 : BitVec 32 := 4#32
  let v195 : BitVec 32 := Scalar.muli v5 c4_i32_151
  let v196 : BitVec 32 := Scalar.addi v194 v195
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_152 : BitVec 32 := 1#32
  let v197 : BitVec 32 := Scalar.muli v30 c1_i32_152
  let v198 : BitVec 32 := Scalar.addi v196 v197
  v198.toNat
def k1_dev7 (d0 : Dev nD) : Nat :=
  let c0_i32_179 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_178 : BitVec 32 := 16#32
  let v228 : BitVec 32 := Scalar.muli v2 c16_i32_178
  let v229 : BitVec 32 := Scalar.addi c0_i32_179 v228
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_180 : BitVec 32 := 4#32
  let v230 : BitVec 32 := Scalar.muli v5 c4_i32_180
  let v231 : BitVec 32 := Scalar.addi v229 v230
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_181 : BitVec 32 := 1#32
  let v232 : BitVec 32 := Scalar.muli v19 c1_i32_181
  let v233 : BitVec 32 := Scalar.addi v231 v232
  v233.toNat
def k1_dev8 (d0 : Dev nD) : Nat :=
  let c0_i32_215 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_214 : BitVec 32 := 16#32
  let v269 : BitVec 32 := Scalar.muli v2 c16_i32_214
  let v270 : BitVec 32 := Scalar.addi c0_i32_215 v269
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_216 : BitVec 32 := 4#32
  let v271 : BitVec 32 := Scalar.muli v5 c4_i32_216
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_217 : BitVec 32 := 1#32
  let v273 : BitVec 32 := Scalar.muli v30 c1_i32_217
  let v274 : BitVec 32 := Scalar.addi v272 v273
  v274.toNat
def k1_off3 (d0 : Dev nD) (c0_i32_219 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_218 : BitVec 32 := 1#32
  let v275 : BitVec 32 := Scalar.addi v8 c1_i32_218
  let v276 : BitVec 32 := Scalar.subi v275 c0_i32_219
  let c4_i32_220 : BitVec 32 := 4#32
  let c0_i32_221 : BitVec 32 := 0#32
  let v277 : BitVec 1 := Scalar.cmpi .eq c4_i32_220 c0_i32_221
  let c1_i32_222 : BitVec 32 := 1#32
  let v278 : BitVec 32 := Scalar.select v277 c1_i32_222 c4_i32_220
  let v279 : BitVec 32 := Scalar.remsi v276 v278
  let c0_i32_224 : BitVec 32 := 0#32
  let v281 : BitVec 1 := Scalar.cmpi .slt v279 c0_i32_224
  let c0_i32_225 : BitVec 32 := 0#32
  let v282 : BitVec 1 := Scalar.cmpi .slt v278 c0_i32_225
  let v283 : BitVec 1 := Scalar.xori v281 v282
  let c0_i32_223 : BitVec 32 := 0#32
  let v280 : BitVec 1 := Scalar.cmpi .ne v279 c0_i32_223
  let v284 : BitVec 1 := Scalar.andi v283 v280
  let v285 : BitVec 32 := Scalar.addi v279 v278
  let v286 : BitVec 32 := Scalar.select v284 v285 v279
  let c128_i32_233 : BitVec 32 := 128#32
  let v298 : BitVec 32 := Scalar.muli v286 c128_i32_233
  let v299 : Index := Scalar.indexCast v298
  let c0_234 : Index := 0#32
  ![v299.toNat, 0]
def k1_dev9 (d0 : Dev nD) : Nat :=
  let c0_i32_245 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_244 : BitVec 32 := 16#32
  let v305 : BitVec 32 := Scalar.muli v2 c16_i32_244
  let v306 : BitVec 32 := Scalar.addi c0_i32_245 v305
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_246 : BitVec 32 := 4#32
  let v307 : BitVec 32 := Scalar.muli v5 c4_i32_246
  let v308 : BitVec 32 := Scalar.addi v306 v307
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_247 : BitVec 32 := 1#32
  let v309 : BitVec 32 := Scalar.muli v19 c1_i32_247
  let v310 : BitVec 32 := Scalar.addi v308 v309
  v310.toNat
def k1_off4 (d0 : Dev nD) (c0_i32_219 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_218 : BitVec 32 := 1#32
  let v275 : BitVec 32 := Scalar.addi v8 c1_i32_218
  let v276 : BitVec 32 := Scalar.subi v275 c0_i32_219
  let c4_i32_220 : BitVec 32 := 4#32
  let c0_i32_221 : BitVec 32 := 0#32
  let v277 : BitVec 1 := Scalar.cmpi .eq c4_i32_220 c0_i32_221
  let c1_i32_222 : BitVec 32 := 1#32
  let v278 : BitVec 32 := Scalar.select v277 c1_i32_222 c4_i32_220
  let v279 : BitVec 32 := Scalar.remsi v276 v278
  let c0_i32_224 : BitVec 32 := 0#32
  let v281 : BitVec 1 := Scalar.cmpi .slt v279 c0_i32_224
  let c0_i32_225 : BitVec 32 := 0#32
  let v282 : BitVec 1 := Scalar.cmpi .slt v278 c0_i32_225
  let v283 : BitVec 1 := Scalar.xori v281 v282
  let c0_i32_223 : BitVec 32 := 0#32
  let v280 : BitVec 1 := Scalar.cmpi .ne v279 c0_i32_223
  let v284 : BitVec 1 := Scalar.andi v283 v280
  let v285 : BitVec 32 := Scalar.addi v279 v278
  let v286 : BitVec 32 := Scalar.select v284 v285 v279
  let c1_i32_226 : BitVec 32 := 1#32
  let v287 : BitVec 32 := Scalar.subi v286 c1_i32_226
  let c4_i32_227 : BitVec 32 := 4#32
  let c0_i32_228 : BitVec 32 := 0#32
  let v288 : BitVec 1 := Scalar.cmpi .eq c4_i32_227 c0_i32_228
  let c1_i32_229 : BitVec 32 := 1#32
  let v289 : BitVec 32 := Scalar.select v288 c1_i32_229 c4_i32_227
  let v290 : BitVec 32 := Scalar.remsi v287 v289
  let c0_i32_231 : BitVec 32 := 0#32
  let v292 : BitVec 1 := Scalar.cmpi .slt v290 c0_i32_231
  let c0_i32_232 : BitVec 32 := 0#32
  let v293 : BitVec 1 := Scalar.cmpi .slt v289 c0_i32_232
  let v294 : BitVec 1 := Scalar.xori v292 v293
  let c0_i32_230 : BitVec 32 := 0#32
  let v291 : BitVec 1 := Scalar.cmpi .ne v290 c0_i32_230
  let v295 : BitVec 1 := Scalar.andi v294 v291
  let v296 : BitVec 32 := Scalar.addi v290 v289
  let v297 : BitVec 32 := Scalar.select v295 v296 v290
  let c128_i32_276 : BitVec 32 := 128#32
  let v339 : BitVec 32 := Scalar.muli v297 c128_i32_276
  let v340 : Index := Scalar.indexCast v339
  let c0_277 : Index := 0#32
  ![v340.toNat, 0]
def k1_dev10 (d0 : Dev nD) : Nat :=
  let c0_i32_280 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_279 : BitVec 32 := 16#32
  let v342 : BitVec 32 := Scalar.muli v2 c16_i32_279
  let v343 : BitVec 32 := Scalar.addi c0_i32_280 v342
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_281 : BitVec 32 := 4#32
  let v344 : BitVec 32 := Scalar.muli v5 c4_i32_281
  let v345 : BitVec 32 := Scalar.addi v343 v344
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_282 : BitVec 32 := 1#32
  let v346 : BitVec 32 := Scalar.muli v30 c1_i32_282
  let v347 : BitVec 32 := Scalar.addi v345 v346
  v347.toNat
def k1_dev11 (d0 : Dev nD) : Nat :=
  let c0_i32_310 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_309 : BitVec 32 := 16#32
  let v378 : BitVec 32 := Scalar.muli v2 c16_i32_309
  let v379 : BitVec 32 := Scalar.addi c0_i32_310 v378
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_311 : BitVec 32 := 4#32
  let v380 : BitVec 32 := Scalar.muli v5 c4_i32_311
  let v381 : BitVec 32 := Scalar.addi v379 v380
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_312 : BitVec 32 := 1#32
  let v382 : BitVec 32 := Scalar.muli v19 c1_i32_312
  let v383 : BitVec 32 := Scalar.addi v381 v382
  v383.toNat
def k1_dev12 (d0 : Dev nD) : Nat :=
  let c0_i32_370 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_369 : BitVec 32 := 16#32
  let v445 : BitVec 32 := Scalar.muli v2 c16_i32_369
  let v446 : BitVec 32 := Scalar.addi c0_i32_370 v445
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_371 : BitVec 32 := 4#32
  let v447 : BitVec 32 := Scalar.muli v5 c4_i32_371
  let v448 : BitVec 32 := Scalar.addi v446 v447
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_372 : BitVec 32 := 1#32
  let v449 : BitVec 32 := Scalar.muli v19 c1_i32_372
  let v450 : BitVec 32 := Scalar.addi v448 v449
  v450.toNat
abbrev stage1_0 : Fin 1 → Memref sig .tc .vmem S512x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := .none

def k2_dev1 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_11 : BitVec 32 := 0#32
  let v26 : BitVec 1 := Scalar.cmpi .eq v2 c0_i32_11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_12 : BitVec 32 := 0#32
  let v27 : BitVec 1 := Scalar.cmpi .eq v5 c0_i32_12
  let v28 : BitVec 32 := Scalar.extui v27
  let c3_i32_13 : BitVec 32 := 3#32
  let v29 : BitVec 1 := Scalar.cmpi .slt v5 c3_i32_13
  let v30 : BitVec 32 := Scalar.extui v29
  let v31 : BitVec 32 := Scalar.select v26 v28 v30
  let c16_i32_22 : BitVec 32 := 16#32
  let v41 : BitVec 32 := Scalar.muli v31 c16_i32_22
  let v42 : BitVec 32 := Scalar.addi c0_i32_23 v41
  let c0_i32_14 : BitVec 32 := 0#32
  let v32 : BitVec 1 := Scalar.cmpi .eq v2 c0_i32_14
  let c0_i32_15 : BitVec 32 := 0#32
  let v33 : BitVec 1 := Scalar.cmpi .eq v5 c0_i32_15
  let c0_i32_17 : BitVec 32 := 0#32
  let c1_i32_16 : BitVec 32 := 1#32
  let v34 : BitVec 32 := Scalar.subi v5 c1_i32_16
  let v35 : BitVec 32 := Scalar.select v33 c0_i32_17 v34
  let c3_i32_18 : BitVec 32 := 3#32
  let v36 : BitVec 1 := Scalar.cmpi .eq v5 c3_i32_18
  let c3_i32_20 : BitVec 32 := 3#32
  let c1_i32_19 : BitVec 32 := 1#32
  let v37 : BitVec 32 := Scalar.addi v5 c1_i32_19
  let v38 : BitVec 32 := Scalar.select v36 c3_i32_20 v37
  let v39 : BitVec 32 := Scalar.select v32 v35 v38
  let c4_i32_24 : BitVec 32 := 4#32
  let v43 : BitVec 32 := Scalar.muli v39 c4_i32_24
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v45 : BitVec 32 := Scalar.muli v8 c1_i32_25
  let v46 : BitVec 32 := Scalar.addi v44 v45
  v46.toNat
def k2_dev2 (d0 : Dev nD) : Nat :=
  let c0_i32_28 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_2 : BitVec 32 := 0#32
  let v12 : BitVec 1 := Scalar.cmpi .eq v2 c0_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .eq v5 c3_i32
  let v14 : BitVec 32 := Scalar.extui v13
  let c0_i32_3 : BitVec 32 := 0#32
  let v15 : BitVec 1 := Scalar.cmpi .sgt v5 c0_i32_3
  let v16 : BitVec 32 := Scalar.extui v15
  let v17 : BitVec 32 := Scalar.select v12 v14 v16
  let c16_i32_27 : BitVec 32 := 16#32
  let v47 : BitVec 32 := Scalar.muli v17 c16_i32_27
  let v48 : BitVec 32 := Scalar.addi c0_i32_28 v47
  let c0_i32_4 : BitVec 32 := 0#32
  let v18 : BitVec 1 := Scalar.cmpi .eq v2 c0_i32_4
  let c3_i32_5 : BitVec 32 := 3#32
  let v19 : BitVec 1 := Scalar.cmpi .eq v5 c3_i32_5
  let c3_i32_7 : BitVec 32 := 3#32
  let c1_i32_6 : BitVec 32 := 1#32
  let v20 : BitVec 32 := Scalar.addi v5 c1_i32_6
  let v21 : BitVec 32 := Scalar.select v19 c3_i32_7 v20
  let c0_i32_8 : BitVec 32 := 0#32
  let v22 : BitVec 1 := Scalar.cmpi .sgt v5 c0_i32_8
  let c1_i32_9 : BitVec 32 := 1#32
  let v23 : BitVec 32 := Scalar.subi v5 c1_i32_9
  let c0_i32_10 : BitVec 32 := 0#32
  let v24 : BitVec 32 := Scalar.select v22 v23 c0_i32_10
  let v25 : BitVec 32 := Scalar.select v18 v21 v24
  let c4_i32_29 : BitVec 32 := 4#32
  let v49 : BitVec 32 := Scalar.muli v25 c4_i32_29
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_30 : BitVec 32 := 1#32
  let v51 : BitVec 32 := Scalar.muli v8 c1_i32_30
  let v52 : BitVec 32 := Scalar.addi v50 v51
  v52.toNat
def k2_off1 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c512_i32 : BitVec 32 := 512#32
  let v55 : BitVec 32 := Scalar.muli v11 c512_i32
  let v56 : Index := Scalar.indexCast v55
  let c0_33 : Index := 0#32
  ![v56.toNat, 0]
def k2_dev3 (d0 : Dev nD) : Nat :=
  let c0_i32_38 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_2 : BitVec 32 := 0#32
  let v12 : BitVec 1 := Scalar.cmpi .eq v2 c0_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .eq v5 c3_i32
  let v14 : BitVec 32 := Scalar.extui v13
  let c0_i32_3 : BitVec 32 := 0#32
  let v15 : BitVec 1 := Scalar.cmpi .sgt v5 c0_i32_3
  let v16 : BitVec 32 := Scalar.extui v15
  let v17 : BitVec 32 := Scalar.select v12 v14 v16
  let c16_i32_37 : BitVec 32 := 16#32
  let v58 : BitVec 32 := Scalar.muli v17 c16_i32_37
  let v59 : BitVec 32 := Scalar.addi c0_i32_38 v58
  let c0_i32_4 : BitVec 32 := 0#32
  let v18 : BitVec 1 := Scalar.cmpi .eq v2 c0_i32_4
  let c3_i32_5 : BitVec 32 := 3#32
  let v19 : BitVec 1 := Scalar.cmpi .eq v5 c3_i32_5
  let c3_i32_7 : BitVec 32 := 3#32
  let c1_i32_6 : BitVec 32 := 1#32
  let v20 : BitVec 32 := Scalar.addi v5 c1_i32_6
  let v21 : BitVec 32 := Scalar.select v19 c3_i32_7 v20
  let c0_i32_8 : BitVec 32 := 0#32
  let v22 : BitVec 1 := Scalar.cmpi .sgt v5 c0_i32_8
  let c1_i32_9 : BitVec 32 := 1#32
  let v23 : BitVec 32 := Scalar.subi v5 c1_i32_9
  let c0_i32_10 : BitVec 32 := 0#32
  let v24 : BitVec 32 := Scalar.select v22 v23 c0_i32_10
  let v25 : BitVec 32 := Scalar.select v18 v21 v24
  let c4_i32_39 : BitVec 32 := 4#32
  let v60 : BitVec 32 := Scalar.muli v25 c4_i32_39
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v62 : BitVec 32 := Scalar.muli v8 c1_i32_40
  let v63 : BitVec 32 := Scalar.addi v61 v62
  v63.toNat
def k2_dev4 (d0 : Dev nD) : Nat :=
  let c0_i32_47 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_11 : BitVec 32 := 0#32
  let v26 : BitVec 1 := Scalar.cmpi .eq v2 c0_i32_11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_12 : BitVec 32 := 0#32
  let v27 : BitVec 1 := Scalar.cmpi .eq v5 c0_i32_12
  let v28 : BitVec 32 := Scalar.extui v27
  let c3_i32_13 : BitVec 32 := 3#32
  let v29 : BitVec 1 := Scalar.cmpi .slt v5 c3_i32_13
  let v30 : BitVec 32 := Scalar.extui v29
  let v31 : BitVec 32 := Scalar.select v26 v28 v30
  let c16_i32_46 : BitVec 32 := 16#32
  let v70 : BitVec 32 := Scalar.muli v31 c16_i32_46
  let v71 : BitVec 32 := Scalar.addi c0_i32_47 v70
  let c0_i32_14 : BitVec 32 := 0#32
  let v32 : BitVec 1 := Scalar.cmpi .eq v2 c0_i32_14
  let c0_i32_15 : BitVec 32 := 0#32
  let v33 : BitVec 1 := Scalar.cmpi .eq v5 c0_i32_15
  let c0_i32_17 : BitVec 32 := 0#32
  let c1_i32_16 : BitVec 32 := 1#32
  let v34 : BitVec 32 := Scalar.subi v5 c1_i32_16
  let v35 : BitVec 32 := Scalar.select v33 c0_i32_17 v34
  let c3_i32_18 : BitVec 32 := 3#32
  let v36 : BitVec 1 := Scalar.cmpi .eq v5 c3_i32_18
  let c3_i32_20 : BitVec 32 := 3#32
  let c1_i32_19 : BitVec 32 := 1#32
  let v37 : BitVec 32 := Scalar.addi v5 c1_i32_19
  let v38 : BitVec 32 := Scalar.select v36 c3_i32_20 v37
  let v39 : BitVec 32 := Scalar.select v32 v35 v38
  let c4_i32_48 : BitVec 32 := 4#32
  let v72 : BitVec 32 := Scalar.muli v39 c4_i32_48
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v74 : BitVec 32 := Scalar.muli v8 c1_i32_49
  let v75 : BitVec 32 := Scalar.addi v73 v74
  v75.toNat
def k2_dev5 (d0 : Dev nD) : Nat :=
  let c0_i32_87 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_2 : BitVec 32 := 0#32
  let v12 : BitVec 1 := Scalar.cmpi .eq v2 c0_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .eq v5 c3_i32
  let v14 : BitVec 32 := Scalar.extui v13
  let c0_i32_3 : BitVec 32 := 0#32
  let v15 : BitVec 1 := Scalar.cmpi .sgt v5 c0_i32_3
  let v16 : BitVec 32 := Scalar.extui v15
  let v17 : BitVec 32 := Scalar.select v12 v14 v16
  let c16_i32_86 : BitVec 32 := 16#32
  let v110 : BitVec 32 := Scalar.muli v17 c16_i32_86
  let v111 : BitVec 32 := Scalar.addi c0_i32_87 v110
  let c0_i32_4 : BitVec 32 := 0#32
  let v18 : BitVec 1 := Scalar.cmpi .eq v2 c0_i32_4
  let c3_i32_5 : BitVec 32 := 3#32
  let v19 : BitVec 1 := Scalar.cmpi .eq v5 c3_i32_5
  let c3_i32_7 : BitVec 32 := 3#32
  let c1_i32_6 : BitVec 32 := 1#32
  let v20 : BitVec 32 := Scalar.addi v5 c1_i32_6
  let v21 : BitVec 32 := Scalar.select v19 c3_i32_7 v20
  let c0_i32_8 : BitVec 32 := 0#32
  let v22 : BitVec 1 := Scalar.cmpi .sgt v5 c0_i32_8
  let c1_i32_9 : BitVec 32 := 1#32
  let v23 : BitVec 32 := Scalar.subi v5 c1_i32_9
  let c0_i32_10 : BitVec 32 := 0#32
  let v24 : BitVec 32 := Scalar.select v22 v23 c0_i32_10
  let v25 : BitVec 32 := Scalar.select v18 v21 v24
  let c4_i32_88 : BitVec 32 := 4#32
  let v112 : BitVec 32 := Scalar.muli v25 c4_i32_88
  let v113 : BitVec 32 := Scalar.addi v111 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_89 : BitVec 32 := 1#32
  let v114 : BitVec 32 := Scalar.muli v8 c1_i32_89
  let v115 : BitVec 32 := Scalar.addi v113 v114
  v115.toNat
def k2_dev6 (d0 : Dev nD) : Nat :=
  let c0_i32_99 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_11 : BitVec 32 := 0#32
  let v26 : BitVec 1 := Scalar.cmpi .eq v2 c0_i32_11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_12 : BitVec 32 := 0#32
  let v27 : BitVec 1 := Scalar.cmpi .eq v5 c0_i32_12
  let v28 : BitVec 32 := Scalar.extui v27
  let c3_i32_13 : BitVec 32 := 3#32
  let v29 : BitVec 1 := Scalar.cmpi .slt v5 c3_i32_13
  let v30 : BitVec 32 := Scalar.extui v29
  let v31 : BitVec 32 := Scalar.select v26 v28 v30
  let c16_i32_98 : BitVec 32 := 16#32
  let v124 : BitVec 32 := Scalar.muli v31 c16_i32_98
  let v125 : BitVec 32 := Scalar.addi c0_i32_99 v124
  let c0_i32_14 : BitVec 32 := 0#32
  let v32 : BitVec 1 := Scalar.cmpi .eq v2 c0_i32_14
  let c0_i32_15 : BitVec 32 := 0#32
  let v33 : BitVec 1 := Scalar.cmpi .eq v5 c0_i32_15
  let c0_i32_17 : BitVec 32 := 0#32
  let c1_i32_16 : BitVec 32 := 1#32
  let v34 : BitVec 32 := Scalar.subi v5 c1_i32_16
  let v35 : BitVec 32 := Scalar.select v33 c0_i32_17 v34
  let c3_i32_18 : BitVec 32 := 3#32
  let v36 : BitVec 1 := Scalar.cmpi .eq v5 c3_i32_18
  let c3_i32_20 : BitVec 32 := 3#32
  let c1_i32_19 : BitVec 32 := 1#32
  let v37 : BitVec 32 := Scalar.addi v5 c1_i32_19
  let v38 : BitVec 32 := Scalar.select v36 c3_i32_20 v37
  let v39 : BitVec 32 := Scalar.select v32 v35 v38
  let c4_i32_100 : BitVec 32 := 4#32
  let v126 : BitVec 32 := Scalar.muli v39 c4_i32_100
  let v127 : BitVec 32 := Scalar.addi v125 v126
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v128 : BitVec 32 := Scalar.muli v8 c1_i32_101
  let v129 : BitVec 32 := Scalar.addi v127 v128
  v129.toNat
def k2_off2 (d0 : Dev nD) (c1_i32_109 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let v140 : BitVec 32 := Scalar.subi v11 c1_i32_109
  let c8_i32 : BitVec 32 := 8#32
  let c0_i32_110 : BitVec 32 := 0#32
  let v141 : BitVec 1 := Scalar.cmpi .eq c8_i32 c0_i32_110
  let c1_i32_111 : BitVec 32 := 1#32
  let v142 : BitVec 32 := Scalar.select v141 c1_i32_111 c8_i32
  let v143 : BitVec 32 := Scalar.remsi v140 v142
  let c0_i32_113 : BitVec 32 := 0#32
  let v145 : BitVec 1 := Scalar.cmpi .slt v143 c0_i32_113
  let c0_i32_114 : BitVec 32 := 0#32
  let v146 : BitVec 1 := Scalar.cmpi .slt v142 c0_i32_114
  let v147 : BitVec 1 := Scalar.xori v145 v146
  let c0_i32_112 : BitVec 32 := 0#32
  let v144 : BitVec 1 := Scalar.cmpi .ne v143 c0_i32_112
  let v148 : BitVec 1 := Scalar.andi v147 v144
  let v149 : BitVec 32 := Scalar.addi v143 v142
  let v150 : BitVec 32 := Scalar.select v148 v149 v143
  let c512_i32_115 : BitVec 32 := 512#32
  let v151 : BitVec 32 := Scalar.muli v150 c512_i32_115
  let v152 : Index := Scalar.indexCast v151
  let c0_116 : Index := 0#32
  ![v152.toNat, 0]
def k2_off3 (d0 : Dev nD) (c1_i32_120 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let v156 : BitVec 32 := Scalar.addi v11 c1_i32_120
  let c8_i32_121 : BitVec 32 := 8#32
  let c0_i32_122 : BitVec 32 := 0#32
  let v157 : BitVec 1 := Scalar.cmpi .eq c8_i32_121 c0_i32_122
  let c1_i32_123 : BitVec 32 := 1#32
  let v158 : BitVec 32 := Scalar.select v157 c1_i32_123 c8_i32_121
  let v159 : BitVec 32 := Scalar.remsi v156 v158
  let c0_i32_125 : BitVec 32 := 0#32
  let v161 : BitVec 1 := Scalar.cmpi .slt v159 c0_i32_125
  let c0_i32_126 : BitVec 32 := 0#32
  let v162 : BitVec 1 := Scalar.cmpi .slt v158 c0_i32_126
  let v163 : BitVec 1 := Scalar.xori v161 v162
  let c0_i32_124 : BitVec 32 := 0#32
  let v160 : BitVec 1 := Scalar.cmpi .ne v159 c0_i32_124
  let v164 : BitVec 1 := Scalar.andi v163 v160
  let v165 : BitVec 32 := Scalar.addi v159 v158
  let v166 : BitVec 32 := Scalar.select v164 v165 v159
  let c512_i32_127 : BitVec 32 := 512#32
  let v167 : BitVec 32 := Scalar.muli v166 c512_i32_127
  let v168 : Index := Scalar.indexCast v167
  let c0_128 : Index := 0#32
  ![v168.toNat, 0]
def k2_dev7 (d0 : Dev nD) : Nat :=
  let c0_i32_173 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_11 : BitVec 32 := 0#32
  let v26 : BitVec 1 := Scalar.cmpi .eq v2 c0_i32_11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_12 : BitVec 32 := 0#32
  let v27 : BitVec 1 := Scalar.cmpi .eq v5 c0_i32_12
  let v28 : BitVec 32 := Scalar.extui v27
  let c3_i32_13 : BitVec 32 := 3#32
  let v29 : BitVec 1 := Scalar.cmpi .slt v5 c3_i32_13
  let v30 : BitVec 32 := Scalar.extui v29
  let v31 : BitVec 32 := Scalar.select v26 v28 v30
  let c16_i32_172 : BitVec 32 := 16#32
  let v206 : BitVec 32 := Scalar.muli v31 c16_i32_172
  let v207 : BitVec 32 := Scalar.addi c0_i32_173 v206
  let c0_i32_14 : BitVec 32 := 0#32
  let v32 : BitVec 1 := Scalar.cmpi .eq v2 c0_i32_14
  let c0_i32_15 : BitVec 32 := 0#32
  let v33 : BitVec 1 := Scalar.cmpi .eq v5 c0_i32_15
  let c0_i32_17 : BitVec 32 := 0#32
  let c1_i32_16 : BitVec 32 := 1#32
  let v34 : BitVec 32 := Scalar.subi v5 c1_i32_16
  let v35 : BitVec 32 := Scalar.select v33 c0_i32_17 v34
  let c3_i32_18 : BitVec 32 := 3#32
  let v36 : BitVec 1 := Scalar.cmpi .eq v5 c3_i32_18
  let c3_i32_20 : BitVec 32 := 3#32
  let c1_i32_19 : BitVec 32 := 1#32
  let v37 : BitVec 32 := Scalar.addi v5 c1_i32_19
  let v38 : BitVec 32 := Scalar.select v36 c3_i32_20 v37
  let v39 : BitVec 32 := Scalar.select v32 v35 v38
  let c4_i32_174 : BitVec 32 := 4#32
  let v208 : BitVec 32 := Scalar.muli v39 c4_i32_174
  let v209 : BitVec 32 := Scalar.addi v207 v208
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_175 : BitVec 32 := 1#32
  let v210 : BitVec 32 := Scalar.muli v8 c1_i32_175
  let v211 : BitVec 32 := Scalar.addi v209 v210
  v211.toNat
def k2_dev8 (d0 : Dev nD) : Nat :=
  let c0_i32_181 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_2 : BitVec 32 := 0#32
  let v12 : BitVec 1 := Scalar.cmpi .eq v2 c0_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .eq v5 c3_i32
  let v14 : BitVec 32 := Scalar.extui v13
  let c0_i32_3 : BitVec 32 := 0#32
  let v15 : BitVec 1 := Scalar.cmpi .sgt v5 c0_i32_3
  let v16 : BitVec 32 := Scalar.extui v15
  let v17 : BitVec 32 := Scalar.select v12 v14 v16
  let c16_i32_180 : BitVec 32 := 16#32
  let v212 : BitVec 32 := Scalar.muli v17 c16_i32_180
  let v213 : BitVec 32 := Scalar.addi c0_i32_181 v212
  let c0_i32_4 : BitVec 32 := 0#32
  let v18 : BitVec 1 := Scalar.cmpi .eq v2 c0_i32_4
  let c3_i32_5 : BitVec 32 := 3#32
  let v19 : BitVec 1 := Scalar.cmpi .eq v5 c3_i32_5
  let c3_i32_7 : BitVec 32 := 3#32
  let c1_i32_6 : BitVec 32 := 1#32
  let v20 : BitVec 32 := Scalar.addi v5 c1_i32_6
  let v21 : BitVec 32 := Scalar.select v19 c3_i32_7 v20
  let c0_i32_8 : BitVec 32 := 0#32
  let v22 : BitVec 1 := Scalar.cmpi .sgt v5 c0_i32_8
  let c1_i32_9 : BitVec 32 := 1#32
  let v23 : BitVec 32 := Scalar.subi v5 c1_i32_9
  let c0_i32_10 : BitVec 32 := 0#32
  let v24 : BitVec 32 := Scalar.select v22 v23 c0_i32_10
  let v25 : BitVec 32 := Scalar.select v18 v21 v24
  let c4_i32_182 : BitVec 32 := 4#32
  let v214 : BitVec 32 := Scalar.muli v25 c4_i32_182
  let v215 : BitVec 32 := Scalar.addi v213 v214
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_183 : BitVec 32 := 1#32
  let v216 : BitVec 32 := Scalar.muli v8 c1_i32_183
  let v217 : BitVec 32 := Scalar.addi v215 v216
  v217.toNat
def k2_dev9 (d0 : Dev nD) : Nat :=
  let c0_i32_193 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_11 : BitVec 32 := 0#32
  let v26 : BitVec 1 := Scalar.cmpi .eq v2 c0_i32_11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_12 : BitVec 32 := 0#32
  let v27 : BitVec 1 := Scalar.cmpi .eq v5 c0_i32_12
  let v28 : BitVec 32 := Scalar.extui v27
  let c3_i32_13 : BitVec 32 := 3#32
  let v29 : BitVec 1 := Scalar.cmpi .slt v5 c3_i32_13
  let v30 : BitVec 32 := Scalar.extui v29
  let v31 : BitVec 32 := Scalar.select v26 v28 v30
  let c16_i32_192 : BitVec 32 := 16#32
  let v226 : BitVec 32 := Scalar.muli v31 c16_i32_192
  let v227 : BitVec 32 := Scalar.addi c0_i32_193 v226
  let c0_i32_14 : BitVec 32 := 0#32
  let v32 : BitVec 1 := Scalar.cmpi .eq v2 c0_i32_14
  let c0_i32_15 : BitVec 32 := 0#32
  let v33 : BitVec 1 := Scalar.cmpi .eq v5 c0_i32_15
  let c0_i32_17 : BitVec 32 := 0#32
  let c1_i32_16 : BitVec 32 := 1#32
  let v34 : BitVec 32 := Scalar.subi v5 c1_i32_16
  let v35 : BitVec 32 := Scalar.select v33 c0_i32_17 v34
  let c3_i32_18 : BitVec 32 := 3#32
  let v36 : BitVec 1 := Scalar.cmpi .eq v5 c3_i32_18
  let c3_i32_20 : BitVec 32 := 3#32
  let c1_i32_19 : BitVec 32 := 1#32
  let v37 : BitVec 32 := Scalar.addi v5 c1_i32_19
  let v38 : BitVec 32 := Scalar.select v36 c3_i32_20 v37
  let v39 : BitVec 32 := Scalar.select v32 v35 v38
  let c4_i32_194 : BitVec 32 := 4#32
  let v228 : BitVec 32 := Scalar.muli v39 c4_i32_194
  let v229 : BitVec 32 := Scalar.addi v227 v228
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_195 : BitVec 32 := 1#32
  let v230 : BitVec 32 := Scalar.muli v8 c1_i32_195
  let v231 : BitVec 32 := Scalar.addi v229 v230
  v231.toNat
def k2_dev10 (d0 : Dev nD) : Nat :=
  let c0_i32_272 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_2 : BitVec 32 := 0#32
  let v12 : BitVec 1 := Scalar.cmpi .eq v2 c0_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v13 : BitVec 1 := Scalar.cmpi .eq v5 c3_i32
  let v14 : BitVec 32 := Scalar.extui v13
  let c0_i32_3 : BitVec 32 := 0#32
  let v15 : BitVec 1 := Scalar.cmpi .sgt v5 c0_i32_3
  let v16 : BitVec 32 := Scalar.extui v15
  let v17 : BitVec 32 := Scalar.select v12 v14 v16
  let c16_i32_271 : BitVec 32 := 16#32
  let v308 : BitVec 32 := Scalar.muli v17 c16_i32_271
  let v309 : BitVec 32 := Scalar.addi c0_i32_272 v308
  let c0_i32_4 : BitVec 32 := 0#32
  let v18 : BitVec 1 := Scalar.cmpi .eq v2 c0_i32_4
  let c3_i32_5 : BitVec 32 := 3#32
  let v19 : BitVec 1 := Scalar.cmpi .eq v5 c3_i32_5
  let c3_i32_7 : BitVec 32 := 3#32
  let c1_i32_6 : BitVec 32 := 1#32
  let v20 : BitVec 32 := Scalar.addi v5 c1_i32_6
  let v21 : BitVec 32 := Scalar.select v19 c3_i32_7 v20
  let c0_i32_8 : BitVec 32 := 0#32
  let v22 : BitVec 1 := Scalar.cmpi .sgt v5 c0_i32_8
  let c1_i32_9 : BitVec 32 := 1#32
  let v23 : BitVec 32 := Scalar.subi v5 c1_i32_9
  let c0_i32_10 : BitVec 32 := 0#32
  let v24 : BitVec 32 := Scalar.select v22 v23 c0_i32_10
  let v25 : BitVec 32 := Scalar.select v18 v21 v24
  let c4_i32_273 : BitVec 32 := 4#32
  let v310 : BitVec 32 := Scalar.muli v25 c4_i32_273
  let v311 : BitVec 32 := Scalar.addi v309 v310
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_274 : BitVec 32 := 1#32
  let v312 : BitVec 32 := Scalar.muli v8 c1_i32_274
  let v313 : BitVec 32 := Scalar.addi v311 v312
  v313.toNat
def k2_dev11 (d0 : Dev nD) : Nat :=
  let c0_i32_284 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_11 : BitVec 32 := 0#32
  let v26 : BitVec 1 := Scalar.cmpi .eq v2 c0_i32_11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_12 : BitVec 32 := 0#32
  let v27 : BitVec 1 := Scalar.cmpi .eq v5 c0_i32_12
  let v28 : BitVec 32 := Scalar.extui v27
  let c3_i32_13 : BitVec 32 := 3#32
  let v29 : BitVec 1 := Scalar.cmpi .slt v5 c3_i32_13
  let v30 : BitVec 32 := Scalar.extui v29
  let v31 : BitVec 32 := Scalar.select v26 v28 v30
  let c16_i32_283 : BitVec 32 := 16#32
  let v322 : BitVec 32 := Scalar.muli v31 c16_i32_283
  let v323 : BitVec 32 := Scalar.addi c0_i32_284 v322
  let c0_i32_14 : BitVec 32 := 0#32
  let v32 : BitVec 1 := Scalar.cmpi .eq v2 c0_i32_14
  let c0_i32_15 : BitVec 32 := 0#32
  let v33 : BitVec 1 := Scalar.cmpi .eq v5 c0_i32_15
  let c0_i32_17 : BitVec 32 := 0#32
  let c1_i32_16 : BitVec 32 := 1#32
  let v34 : BitVec 32 := Scalar.subi v5 c1_i32_16
  let v35 : BitVec 32 := Scalar.select v33 c0_i32_17 v34
  let c3_i32_18 : BitVec 32 := 3#32
  let v36 : BitVec 1 := Scalar.cmpi .eq v5 c3_i32_18
  let c3_i32_20 : BitVec 32 := 3#32
  let c1_i32_19 : BitVec 32 := 1#32
  let v37 : BitVec 32 := Scalar.addi v5 c1_i32_19
  let v38 : BitVec 32 := Scalar.select v36 c3_i32_20 v37
  let v39 : BitVec 32 := Scalar.select v32 v35 v38
  let c4_i32_285 : BitVec 32 := 4#32
  let v324 : BitVec 32 := Scalar.muli v39 c4_i32_285
  let v325 : BitVec 32 := Scalar.addi v323 v324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_286 : BitVec 32 := 1#32
  let v326 : BitVec 32 := Scalar.muli v8 c1_i32_286
  let v327 : BitVec 32 := Scalar.addi v325 v326
  v327.toNat
abbrev stage2_0 : Fin 1 → Memref sig .tc .vmem S512x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S4096x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
-- ==== WholeReferenceIdeal.lean ====
abbrev S4096 : Shape := ⟨1, ![4096]⟩
abbrev S32768x2048 : Shape := ⟨2, ![32768, 2048]⟩
abbrev S_ : Shape := ⟨0, ![]⟩
abbrev S4096x1 : Shape := ⟨2, ![4096, 1]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096, .i32⟩
  | .hbm, ⟨1, _⟩ => ⟨S32768x2048, .f32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S4096x2048, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Whole.Gather.Words.lean ====
/-
# The gather's words

Which rows of its group of tokens a device owns, read off the words that the gather computes: a token's row lies in the
device's part of the table when its number is in the part's range; the copies' offsets and the loops' trip counts follow.
-/
module

public import proofs.«01_k».proof.Proof.Gen.WholeIdeal
public import proofs.«01_k».proof.Proof.Gen.WholeIdeal.Skeleton
public import Idealize.ShloMosaic.Lib.Batch
public import Idealize.ShloMosaic.Lib.Pipeline.Value
public import Idealize.ShloMosaic.Lib.MemrefSat
public import Idealize.ShloMosaic.Lib.Tactic

@[expose] public section

noncomputable section

namespace Cert.WholeProof.Gather

open Cert.WholeIdeal Cert.WholeIdeal.Gen
open Idealize.ShloMosaic Idealize.ShloMosaic.TcCoe

/-- The position of a device along its plane's cycle, which numbers its group of tokens. -/
def grp (c : Dev nD) : ℕ := if c.val / 16 = 0 then c.val / 4 % 4 else 7 - c.val / 4 % 4

theorem grp_lt (c : Dev nD) : grp c < 8 := by unfold grp; split <;> omega

/-- The first row of the device's part of the table, as a word and as a number. -/
def partW (c : Dev nD) : BitVec 32 := Scalar.muli (Scalar.remsi (Scalar.divsi (Dev.word c) 1#32) 4#32) 8192#32
def part (c : Dev nD) : ℕ := 8192 * (c.val % 4)

theorem partW_eq (c : Dev nD) : (partW c).toNat = part c := by revert c; decide +kernel

theorem part_le (c : Dev nD) : part c ≤ 24576 := by unfold part; omega

/-- The row that the word `w` names lies in the device's part. -/
def Mine (c : Dev nD) (w : BitVec 32) : Prop := part c ≤ w.toNat ∧ w.toNat < part c + 8192

instance (c : Dev nD) (w : BitVec 32) : Decidable (Mine c w) := inferInstanceAs (Decidable (_ ∧ _))

theorem one_iff (p q : Bool) : BitVec.ofBool p &&& BitVec.ofBool q = 1#1 ↔ (p = true ∧ q = true) := by revert p q; decide

theorem ofBool_one (p : Bool) : BitVec.ofBool p = 1#1 ↔ p = true := by revert p; decide

theorem mine_toInt (c : Dev nD) (w : BitVec 32) :
    Mine c w ↔ ((part c : ℤ) ≤ w.toInt ∧ w.toInt < (part c : ℤ) + 8192) := by
  have h := part_le c
  have hw := w.isLt
  unfold Mine
  rw [BitVec.toInt_eq_toNat_cond]
  split <;> omega

/-- The test of the first loop. -/
theorem ok_iff (c : Dev nD) (w : BitVec 32) :
    Scalar.andi (Scalar.cmpi .sge (Scalar.subi w (partW c)) 0#32) (Scalar.cmpi .slt (Scalar.subi w (partW c)) 8192#32) = 1#1 ↔ Mine c w := by
  have h := part_le c
  have hw := w.isLt
  have hp := partW_eq c
  have hs : (w - partW c).toNat = (2 ^ 32 - part c + w.toNat) % 2 ^ 32 := by rw [BitVec.toNat_sub, hp]
  show BitVec.ofBool ((0#32).sle (w - partW c)) &&& BitVec.ofBool ((w - partW c).slt 8192#32) = 1#1 ↔ _
  rw [one_iff, BitVec.sle_iff_toInt_le, BitVec.slt_iff_toInt_lt]
  unfold Mine
  rw [show (0#32).toInt = 0 from rfl, show (8192#32).toInt = 8192 from rfl, BitVec.toInt_eq_toNat_cond, hs]
  split <;> omega

theorem cond_iff (c : Dev nD) (w : BitVec 32) : k0_cond1 c w = 1#1 ↔ Mine c w := by
  rw [← ok_iff]
  show Scalar.cmpi .ne (Scalar.extui (Scalar.andi (Scalar.cmpi .sge (Scalar.subi w (partW c)) 0#32) (Scalar.cmpi .slt (Scalar.subi w (partW c)) 8192#32))) 0#32 = 1#1 ↔ _
  generalize Scalar.andi (Scalar.cmpi .sge (Scalar.subi w (partW c)) 0#32) (Scalar.cmpi .slt (Scalar.subi w (partW c)) 8192#32) = b
  revert b
  decide

/-- The count grows by one at an owned row. -/
theorem count_step (c : Dev nD) (w : BitVec 32) (a : ℕ) :
    Scalar.addi (BitVec.ofNat 32 a) (Scalar.extui (Scalar.andi (Scalar.cmpi .sge (Scalar.subi w (partW c)) 0#32) (Scalar.cmpi .slt (Scalar.subi w (partW c)) 8192#32)))
      = BitVec.ofNat 32 (a + if Mine c w then 1 else 0) := by
  have h := ok_iff c w
  revert h
  generalize Scalar.andi (Scalar.cmpi .sge (Scalar.subi w (partW c)) 0#32) (Scalar.cmpi .slt (Scalar.subi w (partW c)) 8192#32) = b
  intro h
  have hb : b = 0#1 ∨ b = 1#1 := (by decide : ∀ b : BitVec 1, b = 0#1 ∨ b = 1#1) b
  rcases hb with rfl | rfl
  · rw [if_neg (by rw [← h]; decide)]
    exact BitVec.add_zero _
  · rw [if_pos (h.mp rfl), BitVec.ofNat_add]; rfl

/-- The row copied, within the part. -/
theorem off3_eq (c : Dev nD) (w : BitVec 32) (h : Mine c w) : k0_off3 c w = ![w.toNat - part c, 0] := by
  have hp := partW_eq c
  have hl := part_le c
  have hw := w.isLt
  have hs : (w - partW c).toNat = w.toNat - part c := by
    rw [BitVec.toNat_sub, hp]; unfold Mine at h; omega
  have hi : (w - partW c).toInt = (w.toNat - part c : ℕ) := by
    rw [BitVec.toInt_eq_toNat_cond, hs]; unfold Mine at h; rw [if_pos (by omega)]
  show ![(Scalar.minsi 8191#32 (Scalar.maxsi 0#32 (w - partW c))).toNat, 0] = _
  have e : Scalar.minsi 8191#32 (Scalar.maxsi 0#32 (w - partW c)) = w - partW c := by
    have h1 : Scalar.maxsi 0#32 (w - partW c) = w - partW c := by
      show (if (w - partW c).slt 0#32 then _ else _) = _
      rw [if_neg]
      rw [BitVec.slt_iff_toInt_lt, hi, show (0#32).toInt = 0 from rfl]
      omega
    rw [h1]
    show (if (8191#32).slt (w - partW c) then _ else _) = _
    rw [if_neg]
    rw [BitVec.slt_iff_toInt_lt, hi, show (8191#32).toInt = 8191 from rfl]
    unfold Mine at h
    omega
  rw [e, hs]

theorem chk1 (c : Dev nD) (w : BitVec 32) : k0_chk1 c w := by
  intro h a
  have hm := (cond_iff c w).mp h
  rw [off3_eq c w hm]
  have hl := part_le c
  unfold Mine at hm
  match a with
  | 0 => show w.toNat - part c + 1 ≤ 8192; omega
  | 1 => show 0 + 2048 ≤ 2048; omega

/-- The number of trips of the first loop, and where trip `t` reads its token and puts its row. -/
theorem trips1 : k0_t1_loop.trips = 512 := by decide +kernel

theorem tok_eq (c : Dev nD) (t : Fin k0_t1_loop.trips) : k0_off1 c t = ![512 * grp c + t.val] := by
  have ht : t.val < 512 := trips1 ▸ t.isLt
  have hb : ∀ c : Dev nD, Scalar.muli (Scalar.select (Scalar.cmpi .eq (Scalar.remsi (Scalar.divsi (Dev.word c) 16#32) 2#32) 0#32)
      (Scalar.remsi (Scalar.divsi (Dev.word c) 4#32) 4#32) (Scalar.subi 7#32 (Scalar.remsi (Scalar.divsi (Dev.word c) 4#32) 4#32))) 512#32
      = BitVec.ofNat 32 (512 * grp c) := by decide +kernel
  show ![(Scalar.addi (Scalar.muli (Scalar.select (Scalar.cmpi .eq (Scalar.remsi (Scalar.divsi (Dev.word c) 16#32) 2#32) 0#32)
      (Scalar.remsi (Scalar.divsi (Dev.word c) 4#32) 4#32) (Scalar.subi 7#32 (Scalar.remsi (Scalar.divsi (Dev.word c) 4#32) 4#32))) 512#32)
      (Scf.iv 0#32 1#32 t)).toNat] = _
  rw [hb]
  have hg := grp_lt c
  have e : (BitVec.ofNat 32 (512 * grp c) + (0#32 + BitVec.ofNat 32 t.val * 1#32)).toNat = 512 * grp c + t.val := by
    rw [BitVec.mul_one, BitVec.zero_add, ← BitVec.ofNat_add, BitVec.toNat_ofNat, Nat.mod_eq_of_lt (by omega)]
  show ![(BitVec.ofNat 32 (512 * grp c) + (0#32 + BitVec.ofNat 32 t.val * 1#32)).toNat] = _
  rw [e]

theorem row_eq (t : Fin k0_t1_loop.trips) : k0_off2 t = ![t.val, 0] := by
  have ht : t.val < 512 := trips1 ▸ t.isLt
  show ![(0#32 + BitVec.ofNat 32 t.val * 1#32).toNat, 0] = _
  rw [BitVec.mul_one, BitVec.zero_add, BitVec.toNat_ofNat, Nat.mod_eq_of_lt (by omega)]

theorem base_eq (c : Dev nD) : k0_off4 c = ![512 * grp c, 0] := by revert c; decide +kernel

/-- The second loop waits once for every copy, the third never. -/
theorem trips2 {n : ℕ} (hn : n ≤ 512) : (k0_t2_loop (BitVec.ofNat 32 n)).trips = n ∧ (k0_t3_loop (BitVec.ofNat 32 n)).trips = 0
    ∧ k0_chk2 (BitVec.ofNat 32 n) := by
  have h : ∀ n : Fin 513, (k0_t2_loop (BitVec.ofNat 32 n.val)).trips = n.val ∧ (k0_t3_loop (BitVec.ofNat 32 n.val)).trips = 0
      ∧ k0_chk2 (BitVec.ofNat 32 n.val) := by decide +kernel
  exact h ⟨n, by omega⟩

end Cert.WholeProof.Gather

end
-- ==== Proof.Whole.Gather.Rows.lean ====
/-
# The gather's rows

The row buffer and the table held row by row, and what a copy leaves in its row.
-/
module

public import proofs.«01_k».proof.Proof.Whole.Gather.Words

@[expose] public section

noncomputable section

namespace Cert.WholeProof.Gather

open Cert.WholeIdeal Cert.WholeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable {U : Type} [URA U]

local notation "𝕄" => MT nD τ sig ℕ (Elt F) ℕ U ℕ

/-- The tokens, as scalars and as vectors, the device's part of the table, the result, and the buffer of rows. -/
abbrev idsS : Memref sig .tc .smem S4096 .i32 := Memref.whole cc0_stg0_0
abbrev idsV : Memref sig .tc .vmem S4096x1 .i32 := Memref.whole cc0_stg1_0
abbrev tabM : Memref sig .tc .hbm S8192x2048 .f32 := Memref.whole main_arg1
abbrev slabM : Memref sig .tc .vmem S512x2048 .bf16 := Memref.whole cc0_stg2_0
abbrev rowsM : Memref sig .tc .vmem S512x2048 .f32 := Memref.whole cc0_scratch0

abbrev Ids (F : FTy → Type) := S4096.Idx → Elt F .i32
abbrev Tab (F : FTy → Type) := S8192x2048.Idx → Elt F .f32
abbrev Rows (F : FTy → Type) := S512x2048.Idx → Elt F .f32

/-- Token `i` of the device's group. -/
def word (c : Dev nD) (ids : Ids F) (i : ℕ) : BitVec 32 :=
  ids (fun | 0 => ⟨(512 * grp c + i) % 4096, Nat.mod_lt _ (by decide)⟩)

/-- Token `i`'s row lies in the device's part of the table. -/
def Owned (c : Dev nD) (ids : Ids F) (i : ℕ) : Prop := Mine c (word c ids i)

instance (c : Dev nD) (ids : Ids F) : DecidablePred (Owned c ids) := fun i => inferInstanceAs (Decidable (Mine _ _))

/-- That row, counted in the part. -/
def from_ (c : Dev nD) (ids : Ids F) (i : ℕ) : ℕ := (word c ids i).toNat - part c

/-- Element `j` of row `r` of the table. -/
def at_ (r : ℕ) (j : Fin 2048) : S8192x2048.Idx := fun | 0 => ⟨r % 8192, Nat.mod_lt _ (by decide)⟩ | 1 => j

/-- The row buffer once every copy has landed. -/
def landed (c : Dev nD) (ids : Ids F) (E : Tab F) (f : Rows F) : Rows F := fun x =>
  if Owned c ids (x 0).val then E (at_ (from_ c ids (x 0).val) (x 1))
  else f x

/-- The elements of row `i` of the row buffer, and of row `r` of the table. -/
def rowSet (i : ℕ) : Finset S512x2048.Idx := Finset.univ.filter fun x => (x 0).val = i
def tabSet (r : ℕ) : Finset S8192x2048.Idx := Finset.univ.filter fun x => (x 0).val = r

section Row

variable {o : Fin 2 → ℕ} {i r : ℕ}

theorem set_row (h : o = ![i, 0]) (hb : ∀ a, o a + S1x2048.size a ≤ S512x2048.size a) :
    (rowsM.slice (Rect.unit (s := S512x2048) o S1x2048.size hb) (fun _ => rfl)).view.set = rowSet i := by
  subst h
  rw [show (rowsM.slice (Rect.unit (s := S512x2048) ![i, 0] S1x2048.size hb) (fun _ => rfl)).view.set
    = (Rect.unit (s := S512x2048) ![i, 0] S1x2048.size hb).set from View.set_slice_whole _ _]
  ext x
  have h1 : (x 1).val < 2048 := (x 1).isLt
  rw [Rect.mem_set_unit, rowSet, Finset.mem_filter, Fin.forall_fin_two]
  show (i ≤ (x 0).val ∧ (x 0).val < i + 1) ∧ (0 ≤ (x 1).val ∧ (x 1).val < 0 + 2048) ↔ _ ∧ (x 0).val = i
  simp only [Finset.mem_univ, true_and]
  omega

theorem set_tab (h : o = ![r, 0]) (hb : ∀ a, o a + S1x2048.size a ≤ S8192x2048.size a) :
    (tabM.slice (Rect.unit (s := S8192x2048) o S1x2048.size hb) (fun _ => rfl)).view.set = tabSet r := by
  subst h
  rw [show (tabM.slice (Rect.unit (s := S8192x2048) ![r, 0] S1x2048.size hb) (fun _ => rfl)).view.set
    = (Rect.unit (s := S8192x2048) ![r, 0] S1x2048.size hb).set from View.set_slice_whole _ _]
  ext x
  have h1 : (x 1).val < 2048 := (x 1).isLt
  rw [Rect.mem_set_unit, tabSet, Finset.mem_filter, Fin.forall_fin_two]
  show (r ≤ (x 0).val ∧ (x 0).val < r + 1) ∧ (0 ≤ (x 1).val ∧ (x 1).val < 0 + 2048) ↔ _ ∧ (x 0).val = r
  simp only [Finset.mem_univ, true_and]
  omega

/-- Where an element of the copied row lies: in the row buffer, and in the table. -/
def atCol (x : S512x2048.Idx) : S1x2048.Idx := fun | 0 => ⟨0, by decide⟩ | 1 => ⟨(x 1).val, (x 1).isLt⟩

theorem emb_row (h : o = ![i, 0]) (hb : ∀ a, o a + S1x2048.size a ≤ S512x2048.size a) (x : S512x2048.Idx) (hx : (x 0).val = i) :
    (rowsM.slice (Rect.unit (s := S512x2048) o S1x2048.size hb) (fun _ => rfl)).view.emb (atCol x) = x := by
  subst h
  funext a
  apply Fin.ext
  match a with
  | 0 => show i + 1 * 0 = (x 0).val; omega
  | 1 => show 0 + 1 * (x 1).val = (x 1).val; omega

theorem emb_tab (h : o = ![r, 0]) (hr : r < 8192) (hb : ∀ a, o a + S1x2048.size a ≤ S8192x2048.size a) (x : S512x2048.Idx) :
    (tabM.slice (Rect.unit (s := S8192x2048) o S1x2048.size hb) (fun _ => rfl)).view.emb (atCol x)
      = at_ r (x 1) := by
  subst h
  funext a
  apply Fin.ext
  match a with
  | 0 => show r + 1 * 0 = r % 8192; rw [Nat.mod_eq_of_lt hr]; omega
  | 1 => show 0 + 1 * (x 1).val = (x 1).val; omega

/-- A copy of the owned row of the table to row `i` leaves there what `landed` says. -/
theorem write_row (c : Dev nD) (ids : Ids F) (E : Tab F) (f : Rows F) (ho : Owned c ids i) (h : o = ![i, 0])
    {o' : Fin 2 → ℕ} (h' : o' = ![from_ c ids i, 0])
    (hb : ∀ a, o a + S1x2048.size a ≤ S512x2048.size a) (hb' : ∀ a, o' a + S1x2048.size a ≤ S8192x2048.size a)
    (x : S512x2048.Idx) (hx : x ∈ rowSet i) :
    (rowsM.slice (Rect.unit (s := S512x2048) o S1x2048.size hb) (fun _ => rfl)).view.write (Elt F) f
      ((tabM.slice (Rect.unit (s := S8192x2048) o' S1x2048.size hb') (fun _ => rfl)).view.read (Elt F) E) Finset.univ x = landed c ids E f x := by
  have hx0 : (x 0).val = i := (Finset.mem_filter.mp hx).2
  have hr : from_ c ids i < 8192 := by unfold from_; unfold Owned Mine at ho; omega
  have hw := View.write_emb (Val := Elt F) (v := (rowsM.slice (Rect.unit (s := S512x2048) o S1x2048.size hb) (fun _ => rfl)).view) f
    ((tabM.slice (Rect.unit (s := S8192x2048) o' S1x2048.size hb') (fun _ => rfl)).view.read (Elt F) E) Finset.univ (atCol x)
  rw [emb_row h hb x hx0, if_pos (Finset.mem_univ _), View.read_apply, emb_tab h' hr hb' x] at hw
  refine hw.trans ?_
  unfold landed
  rw [if_pos (hx0.symm ▸ ho)]
  subst hx0
  rw [cast_cast, cast_eq]

end Row

/-- The row buffer is its rows; -/
theorem rows_split (c : Dev nD) (f : Rows F) :
    (rowsM.view.loc (c : Thread nD τ) ↦{fullShare} f : sProp 𝕄)
      = bigSep (Finset.range 512) fun i => (rowsM.view.loc (c : Thread nD τ) ↦[rowSet i]{fullShare} f : sProp 𝕄) := by
  have hd : ∀ t ∈ Finset.range 512, ∀ t' ∈ Finset.range 512, t ≠ t' → Disjoint (rowSet t) (rowSet t') := fun t _ t' _ hn =>
    Finset.disjoint_left.mpr fun x hx hx' => hn ((Finset.mem_filter.mp hx).2.symm.trans (Finset.mem_filter.mp hx').2)
  have hc : (Finset.range 512).biUnion rowSet = (Finset.univ : Finset S512x2048.Idx) := by
    ext x
    simp only [Finset.mem_biUnion, Finset.mem_range, rowSet, Finset.mem_filter, Finset.mem_univ, true_and, iff_true]
    exact ⟨(x 0).val, (x 0).isLt, rfl⟩
  rw [← pointsTo_biUnion (ℓ := rowsM.view.loc (c : Thread nD τ)) (Finset.range 512) rowSet hd]
  exact congrArg (fun S => (rowsM.view.loc (c : Thread nD τ) ↦[S]{fullShare} f : sProp 𝕄)) hc.symm

end Cert.WholeProof.Gather

end
-- ==== Proof.Whole.Gather.Body.lean ====
/-
# The gather's body

The first loop starts a copy of every owned row, the second waits for as many, and the rows then in the buffer, with zero
at the rows that are not owned, are the result.
-/
module

public import proofs.«01_k».proof.Proof.Whole.Gather.Rows

@[expose] public section

noncomputable section

namespace Cert.WholeProof.Gather

open Cert.WholeIdeal Cert.WholeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable {U : Type} [URA U]

local notation "𝕄" => MT nD τ sig ℕ (Elt F) ℕ U ℕ

local notation "𝕎" => wpE (defs₀ (F := F)) Variants.none

set_option maxRecDepth 100000

/-- The copies' semaphore, and what one copy adds to it. -/
abbrev semG : DmaSem sig := cc0_scratch1.sem
def unit_ : ℕ := (rowsM.slice (Rect.unit (s := S512x2048) ![0, 0] S1x2048.size inb_S512x2048_S1x2048_0_0) (fun _ => rfl)).view.dmaCredit

section Rows

variable (c : Dev nD) (ids : Ids F) (E : Tab F) (f : Rows F)

/-- Row `i` of the buffer, and its share of the table. -/
def rowAt (f : Rows F) (i : ℕ) : sProp 𝕄 := iprop(rowsM.view.loc (c : Thread nD τ) ↦[rowSet i]{fullShare} f)
def tabAt (S : Finset S8192x2048.Idx) (i : ℕ) : sProp 𝕄 := iprop(tabM.view.loc (c : Thread nD τ) ↦[S]{Transfers.shareTokN fullShare i} E)

/-- What is kept of row `i` once the first `k` tokens were looked at. -/
def kept (k i : ℕ) : sProp 𝕄 :=
  if i < k ∧ Owned c ids i then tabAt c E (Finset.univ \ tabSet (from_ c ids i)) i
  else iprop(rowAt c f i ∗ tabAt c E Finset.univ i)

/-- What the copy to row `i` gives back. -/
def given (i : ℕ) : sProp 𝕄 := iprop(rowAt c (landed c ids E f) i ∗ tabAt c E (tabSet (from_ c ids i)) i)

instance (i : ℕ) : Storable (upEmb : UEmb _ 𝕄) (given (U := U) c ids E f i) := by unfold given rowAt tabAt; infer_instance

/-- The number of owned rows among the first `k`. -/
def cnt (c : Dev nD) (ids : Ids F) (k : ℕ) : ℕ := ((Finset.range k).filter (Owned c ids)).card

theorem cnt_succ (c : Dev nD) (ids : Ids F) (k : ℕ) : cnt c ids (k + 1) = cnt c ids k + if Owned c ids k then 1 else 0 := by
  unfold cnt
  rw [Finset.range_add_one, Finset.filter_insert]
  split
  · rw [Finset.card_insert_of_notMem fun h => Finset.notMem_range_self (Finset.mem_filter.mp h).1]
  · rfl

theorem cnt_mono (c : Dev nD) (ids : Ids F) {k l : ℕ} (h : k ≤ l) : cnt c ids k ≤ cnt c ids l :=
  Finset.card_le_card (Finset.filter_subset_filter _ (Finset.range_mono h))

theorem cnt_lt (c : Dev nD) (ids : Ids F) {k l : ℕ} (hk : Owned c ids k) (h : k < l) : cnt c ids k < cnt c ids l := by
  have h1 := cnt_succ c ids k
  rw [if_pos hk] at h1
  have h2 := cnt_mono c ids (Nat.succ_le_of_lt h)
  simp only [Nat.succ_eq_add_one] at h2
  omega

theorem cnt_le (c : Dev nD) (ids : Ids F) (k : ℕ) : cnt c ids k ≤ k :=
  (Finset.card_filter_le _ _).trans (le_of_eq (Finset.card_range k))

/-- The owned row with number `t`. -/
def pick (c : Dev nD) (ids : Ids F) (t : ℕ) : ℕ := Classical.epsilon fun i => Owned c ids i ∧ cnt c ids i = t

theorem pick_cnt (c : Dev nD) (ids : Ids F) {i : ℕ} (hi : Owned c ids i) : pick c ids (cnt c ids i) = i := by
  obtain ⟨h1, h2⟩ : Owned c ids (pick c ids (cnt c ids i)) ∧ cnt c ids (pick c ids (cnt c ids i)) = cnt c ids i :=
    Classical.epsilon_spec (p := fun j => Owned c ids j ∧ cnt c ids j = cnt c ids i) ⟨i, hi, rfl⟩
  rcases Nat.lt_trichotomy (pick c ids (cnt c ids i)) i with h3 | h3 | h3
  · have := cnt_lt c ids h1 h3; omega
  · exact h3
  · have := cnt_lt c ids hi h3; omega

/-- Copy number `t` is that of the owned row with number `t`. -/
def back (t : Fin (cnt c ids 512)) : sProp 𝕄 := given c ids E f (pick c ids t.val)

instance (t : Fin (cnt c ids 512)) : Storable (upEmb : UEmb _ 𝕄) (back (U := U) c ids E f t) := by unfold back; infer_instance

theorem kept_next (k i : ℕ) (h : i ≠ k) : kept (U := U) c ids E f (k + 1) i = kept c ids E f k i := by
  unfold kept
  have : (i < k + 1 ∧ Owned c ids i) ↔ (i < k ∧ Owned c ids i) := by constructor <;> rintro ⟨h1, h2⟩ <;> exact ⟨by omega, h2⟩
  rw [if_congr this rfl rfl]

theorem kept_here (k : ℕ) : kept (U := U) c ids E f k k = iprop(rowAt c f k ∗ tabAt c E Finset.univ k) := if_neg fun h => lt_irrefl k h.1

theorem kept_took (k : ℕ) (h : Owned c ids k) : kept (U := U) c ids E f (k + 1) k = tabAt c E (Finset.univ \ tabSet (from_ c ids k)) k :=
  if_pos ⟨Nat.lt_succ_self k, h⟩

theorem kept_not (k : ℕ) (h : ¬ Owned c ids k) : kept (U := U) c ids E f (k + 1) k = kept c ids E f k k := by
  rw [kept_here]; exact if_neg fun h' => h h'.2

/-- One row looked at: the others are kept as they were. -/
theorem kept_step (k : ℕ) (h : k < 512) :
    bigSep (Finset.range 512) (kept (U := U) c ids E f k) = iprop((rowAt c f k ∗ tabAt c E Finset.univ k) ∗ bigSep ((Finset.range 512).erase k) (kept c ids E f (k + 1))) := by
  rw [bigSep_erase (Finset.mem_range.mpr h), kept_here]
  congr 1
  exact bigSep_congr fun i hi => (kept_next c ids E f k i (Finset.ne_of_mem_erase hi)).symm

theorem kept_join (k : ℕ) (h : k < 512) :
    bigSep (Finset.range 512) (kept (U := U) c ids E f (k + 1)) = iprop(kept c ids E f (k + 1) k ∗ bigSep ((Finset.range 512).erase k) (kept c ids E f (k + 1))) :=
  bigSep_erase (Finset.mem_range.mpr h)

/-- A row with its copy given back. -/
theorem kept_given (i : ℕ) :
    iprop(kept (U := U) c ids E f 512 i ∗ (if Owned c ids i then given c ids E f i else BI.emp)) ⊢ if i < 512 then iprop(rowAt c (landed c ids E f) i ∗ tabAt c E Finset.univ i) else iprop(True) := by
  by_cases hi : i < 512
  · rw [if_pos hi]
    by_cases h : Owned c ids i
    · rw [if_pos h]
      unfold kept given tabAt
      rw [if_pos ⟨hi, h⟩]
      iintro ⟨HA, HR, HB⟩
      isplitl [HR]; · iexact HR
      iapply (pointsTo_split_subset (Finset.subset_univ (tabSet (from_ c ids i)))).2
      isplitl [HB]; · iexact HB
      iexact HA
    · rw [if_neg h]
      unfold kept
      rw [if_neg fun h' => h h'.2]
      iintro ⟨⟨HR, HT⟩, -⟩
      isplitl [HR]
      · unfold rowAt
        iapply (Entails.of_eq (pointsTo_congr (ℓ := rowsM.view.loc (c : Thread nD τ)) (f := f) (g := landed c ids E f) fun x hx => by
          unfold landed; rw [if_neg]; rw [(Finset.mem_filter.mp hx).2]; exact h))
        iexact HR
      iexact HT
  · rw [if_neg hi]
    iintro -
    ipureintro
    trivial

theorem nothing (s : Finset ℕ) : bigSep s (fun _ => (BI.emp : sProp 𝕄)) = BI.emp := by
  induction s using Finset.induction_on with
  | empty => exact bigSep_empty
  | insert a s ha ih => rw [bigSep_insert ha, ih]; exact Entails.antisymm sep_emp.1 sep_emp.2

/-- The copies given back, by row. -/
theorem backs_rows : bigSep Finset.univ (back (U := U) c ids E f) = bigSep (Finset.range 512) fun i => if Owned c ids i then given (U := U) c ids E f i else BI.emp := by
  have h1 : bigSep Finset.univ (back (U := U) c ids E f) = bigSep (Finset.range (cnt c ids 512)) fun t => given (U := U) c ids E f (pick c ids t) := by
    rw [show Finset.range (cnt c ids 512) = Finset.univ.map Fin.valEmbedding from by
      ext x; simp only [Finset.mem_range, Finset.mem_map, Finset.mem_univ, true_and, Fin.valEmbedding_apply]
      exact ⟨fun h => ⟨⟨x, h⟩, rfl⟩, fun ⟨y, h⟩ => h ▸ y.isLt⟩, bigSep_map]
    rfl
  have h2 : ((Finset.range 512).filter (Owned c ids)).card = cnt c ids 512 := rfl
  rw [h1, ← h2, ← Transfers.bigSep_rank]
  have h3 : ∀ i ∈ (Finset.range 512).filter (Owned c ids), (given (U := U) c ids E f (pick c ids (((Finset.range 512).filter (Owned c ids)).filter (· < i)).card))
      = given (U := U) c ids E f i := fun i hi => by
    obtain ⟨hi1, hi2⟩ := Finset.mem_filter.mp hi
    have : (((Finset.range 512).filter (Owned c ids)).filter (· < i)) = (Finset.range i).filter (Owned c ids) := by
      ext x
      simp only [Finset.mem_filter, Finset.mem_range] at hi1 ⊢
      constructor
      · rintro ⟨⟨_, h⟩, h'⟩; exact ⟨h', h⟩
      · rintro ⟨h', h⟩; exact ⟨⟨by omega, h⟩, h'⟩
    rw [this]; exact congrArg _ (pick_cnt c ids hi2)
  rw [bigSep_congr h3, bigSep_filter_split (Finset.range 512) (Owned c ids) (Φ := fun i => if Owned c ids i then given (U := U) c ids E f i else BI.emp),
    bigSep_congr (s := (Finset.range 512).filter fun i => ¬ Owned c ids i) (Ψ := fun _ => BI.emp) fun i hi => if_neg (Finset.mem_filter.mp hi).2,
    bigSep_congr (s := (Finset.range 512).filter (Owned c ids)) (Φ := fun i => if Owned c ids i then given (U := U) c ids E f i else BI.emp)
      (Ψ := given (U := U) c ids E f) fun i hi => if_pos (Finset.mem_filter.mp hi).2]
  rw [show bigSep ((Finset.range 512).filter fun i => ¬ Owned c ids i) (fun _ => (BI.emp : sProp 𝕄)) = BI.emp from nothing _]
  exact Entails.antisymm sep_emp.2 sep_emp.1

end Rows

section Loop

variable (EC : UEmb Counters (MT nD τ sig ℕ (Elt F) ℕ U ℕ)) [EC.LandsIn (upEmb : UEmb _ (MT nD τ sig ℕ (Elt F) ℕ U ℕ))]
variable {c : Dev nD} {ids : Ids F} {E : Tab F} {f : Rows F}

/-- The copies started and waited for. -/
abbrev copies (c : Dev nD) (ids : Ids F) (E : Tab F) (f : Rows F) (lv : ℕ) (k u : ℕ) : sProp 𝕄 :=
  Transfers.Batch EC (c : Thread nD τ) (.dma semG) lv unit_ (back (U := U) c ids E f) k u

/-- Before trip `k` of the first loop. -/
def looked (c : Dev nD) (ids : Ids F) (E : Tab F) (f : Rows F) (lv : ℕ) (k : ℕ) (acc : BitVec 32) : sProp 𝕄 :=
  iprop(⌜acc = BitVec.ofNat 32 (cnt c ids k)⌝ ∗ (idsS.view.loc (c : Thread nD τ) ↦{fullShare} ids)
    ∗ bigSep (Finset.range 512) (kept (U := U) c ids E f k) ∗ copies EC c ids E f lv (cnt c ids k) 0)

variable {harg0 : idsS.IsWhole} {harg1 : idsV.IsWhole} {harg2 : tabM.IsWhole} {harg3 : slabM.IsWhole} {harg4 : rowsM.IsWhole}

/-- The token read at trip `t`. -/
theorem read_tok (t : Fin k0_t1_loop.trips) (x : S1.Idx) :
    (idsS.access (Rect.unit (s := S4096) (k0_off1 c t) S1.size (k0_off1_inb c t))).read (Elt F) ids x = word c ids t.val := by
  have ht : t.val < 512 := trips1 ▸ t.isLt
  have hg := grp_lt c
  have hx : (x 0).val < 1 := (x 0).isLt
  show ids ((Rect.unit (s := S4096) (k0_off1 c t) S1.size (k0_off1_inb c t)).emb x) = _
  unfold word
  congr 1
  funext a
  apply Fin.ext
  match a with
  | 0 =>
    show k0_off1 c t 0 + 1 * (x 0).val = (512 * grp c + t.val) % 4096
    rw [tok_eq, Nat.mod_eq_of_lt (by omega)]
    show 512 * grp c + t.val + 1 * (x 0).val = _
    omega

/-- The start of a copy at an owned row. -/
theorem start {lv : ℕ} {k : ℕ} (hm : Owned c ids k) (hk : k < 512) {α : Type} {Q : α → sProp 𝕄}
    {o : Fin 2 → ℕ} (h : o = ![k, 0]) {o' : Fin 2 → ℕ} (h' : o' = ![from_ c ids k, 0])
    {hb : ∀ a, o a + S1x2048.size a ≤ S512x2048.size a} {hb' : ∀ a, o' a + S1x2048.size a ≤ S8192x2048.size a}
    {cont : PUnit → Prog (TpuEff nD τ sig (Elt F) Λ₀ .tc) α} {hsrc hdst hsem} :
    iprop((rowAt (U := U) c f k ∗ tabAt c E Finset.univ k) ∗ copies EC c ids E f lv (cnt c ids k) 0)
      ⊢ iprop(((tabAt c E (Finset.univ \ tabSet (from_ c ids k)) k ∗ copies EC c ids E f lv (cnt c ids (k + 1)) 0)
          -∗ wp frame (𝕎 (c : Thread nD τ) none) Set.univ (cont ⟨⟩) Q)
        -∗ wp frame (𝕎 (c : Thread nD τ) none) Set.univ
          (.op (.enqueueDma (tabM.slice (Rect.unit (s := S8192x2048) o' S1x2048.size hb') (fun _ => rfl))
            (.here (rowsM.slice (Rect.unit (s := S512x2048) o S1x2048.size hb) (fun _ => rfl))) (.dma semG) hsrc hdst hsem) cont) Q) := by
  have hn : cnt c ids k < cnt c ids 512 := cnt_lt c ids hm hk
  have hs := cnt_succ c ids k
  rw [if_pos hm] at hs
  rw [hs]
  iintro ⟨⟨HR, HT⟩, HB⟩ Hk
  ihave HT := (show tabAt (U := U) c E Finset.univ k ⊢ iprop(tabAt c E (tabSet (from_ c ids k)) k ∗ tabAt c E (Finset.univ \ tabSet (from_ c ids k)) k) from
    (pointsTo_split_subset (Finset.subset_univ (tabSet (from_ c ids k)))).1) $$ HT
  icases HT with ⟨HT, HT'⟩
  have hSr := set_row h hb
  have hSt := set_tab h' hb'
  iapply (Transfers.wp_dmaBatch EC Variants.none (c : Thread nD τ) none (q := Transfers.shareTokN fullShare k) (fs := E) (Sd := rowSet k) (fd := f)
    (D := back (U := U) c ids E f)
    (src := tabM.slice (Rect.unit (s := S8192x2048) o' S1x2048.size hb') (fun _ => rfl))
    (dst := rowsM.slice (Rect.unit (s := S512x2048) o S1x2048.size hb) (fun _ => rfl)) (sm := .dma semG) lv unit_ rfl (by rw [hSr]) hn (Nat.zero_le _) (by
      show _ ⊢ given c ids E f (pick c ids (cnt c ids k))
      rw [pick_cnt c ids hm, hSt]
      unfold given
      refine sep_mono (Entails.of_eq ?_) (Entails.of_eq rfl)
      unfold rowAt
      exact pointsTo_congr fun x hx => write_row c ids E f hm h h' hb hb' x hx)) $$ [HR HT HB]
  · isplitl [HT]
    · rw [hSt]; unfold tabAt; iexact HT
    isplitl [HR]
    · unfold rowAt; iexact HR
    iexact HB
  iintro HB
  iapply Hk
  isplitl [HT']; · iexact HT'
  iexact HB

/-- Trip `t` after the token is read. -/
def rest1 (c : Dev nD) (t : Fin k0_t1_loop.trips) (acc v : BitVec 32) : Prog (TpuEff nD τ sig (Elt F) Λ₀ .tc) (BitVec 32) :=
  .op (.assume (k0_chk1 c v) (k0_chk1.dec c v)) fun hw =>
    if h1 : k0_cond1 c v = 1#1 then
      .op (.enqueueDma (tabM.slice (Rect.unit (s := S8192x2048) (k0_off3 c v) S1x2048.size (k0_off3_inb c v hw.down h1)) (fun _ => rfl))
        (.here (rowsM.slice (Rect.unit (s := S512x2048) (k0_off2 t) S1x2048.size (k0_off2_inb t)) (fun _ => rfl))) (.dma semG)
        (View.wordExact_bits rfl) (View.wordExact_bits rfl) ⟨Or.inl rfl, trivial⟩) fun _ =>
      .ret (Scalar.addi acc (Scalar.extui (Scalar.andi (Scalar.cmpi .sge (Scalar.subi v (partW c)) 0#32) (Scalar.cmpi .slt (Scalar.subi v (partW c)) 8192#32))))
    else .ret (Scalar.addi acc (Scalar.extui (Scalar.andi (Scalar.cmpi .sge (Scalar.subi v (partW c)) 0#32) (Scalar.cmpi .slt (Scalar.subi v (partW c)) 8192#32))))

theorem body1 (t : Fin k0_t1_loop.trips) (acc : BitVec 32) :
    k0_t1_body (F := F) idsS harg0 idsV harg1 tabM harg2 slabM harg3 rowsM harg4 cc0_scratch1 c (partW c) t acc
      = smemLoadElt idsS (Rect.unit (s := S4096) (k0_off1 c t) S1.size (k0_off1_inb c t)) (View.loads_smem_one rfl numel1_S1) (Shape.Idx.first (numel1_S1.symm ▸ Nat.one_pos))
        (rest1 c t acc) := by
  unfold k0_t1_body rest1
  rfl

theorem trip1 {lv : ℕ} (t : Fin k0_t1_loop.trips) (acc : BitVec 32) :
    looked EC c ids E f lv t.val acc ⊢ wp frame (𝕎 (c : Thread nD τ) none) Set.univ
      (k0_t1_body idsS harg0 idsV harg1 tabM harg2 slabM harg3 rowsM harg4 cc0_scratch1 c (partW c) t acc) (looked EC c ids E f lv (t.val + 1)) := by
  have ht : t.val < 512 := trips1 ▸ t.isLt
  rw [body1]
  unfold looked
  rw [kept_step c ids E f t.val ht, kept_join c ids E f t.val ht]
  iintro ⟨%ha, HI, ⟨HK, HR⟩, HB⟩
  iapply (wp_smemLoadElt Variants.none (c : Thread nD τ) none Set.univ (m := idsS) (r := Rect.unit (s := S4096) (k0_off1 c t) S1.size (k0_off1_inb c t)) (S := Finset.univ) (Finset.subset_univ _)) $$ HI
  iintro HI
  rw [read_tok, rest1]
  iapply (wp_assume Variants.none (c : Thread nD τ) none Set.univ (chk1 c (word c ids t.val)))
  have hacc : Scalar.addi acc (Scalar.extui (Scalar.andi (Scalar.cmpi .sge (Scalar.subi (word c ids t.val) (partW c)) 0#32) (Scalar.cmpi .slt (Scalar.subi (word c ids t.val) (partW c)) 8192#32)))
      = BitVec.ofNat 32 (cnt c ids (t.val + 1)) := by
    rw [ha, cnt_succ]; exact count_step c (word c ids t.val) _
  dsimp only
  rw [hacc]
  by_cases hm : Owned c ids t.val
  · rw [dif_pos ((cond_iff c _).mpr hm)]
    iapply (start EC hm ht (row_eq t) (off3_eq c _ hm)) $$ [HK HB]
    · isplitl [HK] <;> iassumption
    iintro ⟨HK, HB⟩
    rw [wp_ret]; imodintro
    isplitr; · ipureintro; rfl
    isplitl [HI]; · iexact HI
    isplitl [HK HR]
    · isplitl [HK]
      · rw [kept_took c ids E f t.val hm]; iexact HK
      iexact HR
    iexact HB
  · rw [dif_neg fun h => hm ((cond_iff c _).mp h)]
    rw [wp_ret]; imodintro
    isplitr; · ipureintro; rfl
    isplitl [HI]; · iexact HI
    isplitl [HK HR]
    · isplitl [HK]
      · rw [kept_not c ids E f t.val hm, kept_here]; iexact HK
      iexact HR
    rw [show cnt c ids (t.val + 1) = cnt c ids t.val by rw [cnt_succ, if_neg hm]; rfl]
    iexact HB

/-- Before trip `k` of the second loop. -/
def waited (c : Dev nD) (ids : Ids F) (E : Tab F) (f : Rows F) (O : CellTallies nD τ sig ℕ) (lv : ℕ) (k : ℕ) (_ : BitVec 32) : sProp 𝕄 :=
  iprop((∃ W, owes (c : Thread nD τ) O W) ∗ copies EC c ids E f lv (cnt c ids 512) (k * unit_))

theorem trip2 {lv : ℕ} {O : CellTallies nD τ sig ℕ} {R : sProp 𝕄} [BI.Persistent R] (hR : R ⊢ MayWait (c : Thread nD τ) (.dma semG) lv O)
    (v : BitVec 32) (hv : k0_chk2 v) (hn : (k0_t2_loop v).trips = cnt c ids 512) (t : Fin (k0_t2_loop v).trips) (acc : BitVec 32) :
    iprop(R ∗ waited EC c ids E f O lv t.val acc) ⊢ wp frame (𝕎 (c : Thread nD τ) none) Set.univ
      (k0_t2_body idsS harg0 idsV harg1 tabM harg2 slabM harg3 rowsM harg4 cc0_scratch1 v hv t acc) (fun acc => iprop(R ∗ waited EC c ids E f O lv (t.val + 1) acc)) := by
  have ht : t.val + 1 ≤ cnt c ids 512 := hn ▸ t.isLt
  unfold waited k0_t2_body
  iintro ⟨#HR, ⟨%W, HO⟩, HB⟩
  iapply (Transfers.wp_waitBatchMulO EC Variants.none (c : Thread nD τ) none lv 1 (N := unit_) (D := back (U := U) c ids E f) (j := cnt c ids 512) (u := t.val * unit_) (O := O) (W := W)
    (by rw [Nat.one_mul]; rfl) (by
      rw [← Nat.add_mul, Nat.mul_comm unit_]; exact Nat.mul_le_mul_right _ ht)) $$ [HB HO]
  · isplitl [HB]; · iexact HB
    isplitl [HO]; · iexact HO
    iapply hR; iexact HR
  iintro ⟨HB, HO⟩
  rw [show ((Prog.ret PUnit.unit : Prog (TpuEff nD τ sig (Elt F) Λ₀ .tc) PUnit).bind fun _ => (Pure.pure 0#32 : Prog _ (BitVec 32))) = .ret 0#32 from rfl, wp_ret]; imodintro
  isplitr; · iexact HR
  isplitl [HO]; · iexists _; iexact HO
  rw [show (t.val + 1) * unit_ = t.val * unit_ + 1 * unit_ from Nat.add_mul _ _ _]
  iexact HB

theorem unit_pos : 0 < unit_ := View.dmaCredit_pos _ (by decide)

/-- The vector test of a token agrees with the scalar one. -/
theorem own_iff (c : Dev nD) (w : BitVec 32) :
    Scalar.andi (Scalar.cmpi .sge w (partW c)) (Scalar.cmpi .slt w (Scalar.addi (partW c) 8192#32)) = 1#1 ↔ Mine c w := by
  have h := part_le c
  have hp := partW_eq c
  have h1 : (partW c).toInt = (part c : ℤ) := by
    rw [BitVec.toInt_eq_toNat_cond, hp, if_pos (by omega)]
  have h2 : (partW c + 8192#32).toInt = (part c : ℤ) + 8192 := by
    have e : (partW c + 8192#32).toNat = part c + 8192 := by
      rw [BitVec.toNat_add, hp, show (8192#32).toNat = 8192 from rfl]; omega
    rw [BitVec.toInt_eq_toNat_cond, e, if_pos (by omega)]; omega
  show BitVec.ofBool ((partW c).sle w) &&& BitVec.ofBool (w.slt (partW c + 8192#32)) = 1#1 ↔ _
  rw [one_iff, BitVec.sle_iff_toInt_le, BitVec.slt_iff_toInt_lt, mine_toInt, h1, h2]

/-- The result: the owned rows of the group, zero at the others. -/
def slabOf (c : Dev nD) (ids : Ids F) (E : Tab F) : S512x2048.Idx → Elt F .bf16 :=
  truncf .bf16 (fun x => if Owned c ids (x 0).val then E (at_ (from_ c ids (x 0).val) (x 1)) else (Scalar.ofBits .f32 0x00000000#32 : F .f32)) bitsLt_bf16_f32

/-- The column index of row `i`. -/
def col1 (i : Fin 512) : S512x1.Idx := fun | 0 => i | 1 => ⟨0, by decide⟩

theorem pay_eq (v : Vec F S512x1 .i32) (hv : ∀ x : S512x1.Idx, v x = word c ids (x 0).val) :
    k0_pay1 (k0_pay2 c v) (landed c ids E f) (Scalar.ofBits .f32 0x00000000#32) = slabOf c ids E := by
  unfold k0_pay1 slabOf
  dsimp only
  congr 1
  funext x
  rw [shapeCast_self]
  show Scalar.select (broadcastTo S512x2048 (k0_pay2 c v) broadcasts_S512x1_S512x2048 x) (landed c ids E f x) _ = _
  rw [broadcastTo_apply (k0_pay2 c v) broadcasts_S512x1_S512x2048 x (col1 (x 0)) (by
    intro a; match a with | 0 => rfl | 1 => rfl)]
  have e : k0_pay2 c v (col1 (x 0)) = Scalar.andi (Scalar.cmpi .sge (word c ids (x 0).val) (partW c)) (Scalar.cmpi .slt (word c ids (x 0).val) (Scalar.addi (partW c) 8192#32)) := by
    unfold k0_pay2
    dsimp only
    rw [shapeCast_self]
    show Scalar.andi (Scalar.cmpi .sge (v (col1 (x 0))) (partW c)) (Scalar.cmpi .slt (v (col1 (x 0))) (Scalar.addi (partW c) 8192#32)) = _
    rw [hv]; rfl
  rw [e]
  by_cases h : Owned c ids (x 0).val
  · refine (if_pos ((own_iff c _).mpr h)).trans ?_
    refine (if_pos h).trans ?_
    exact (if_pos h).symm
  · refine (if_neg fun h' => h ((own_iff c _).mp h')).trans ?_
    exact (if_neg h).symm

/-- The rows and the table put together again. -/
theorem gathered :
    iprop((tabM.view.loc (c : Thread nD τ) ↦{Transfers.shareDrop fullShare 512} E) ∗ bigSep (Finset.range 512) (kept (U := U) c ids E f 512)
        ∗ bigSep Finset.univ (back (U := U) c ids E f))
      ⊢ iprop((rowsM.view.loc (c : Thread nD τ) ↦{fullShare} landed c ids E f) ∗ (tabM.view.loc (c : Thread nD τ) ↦{fullShare} E) : sProp 𝕄) := by
  rw [backs_rows, ← bigSep_sep']
  iintro ⟨HD, H⟩
  ihave H := (show _ ⊢ bigSep (Finset.range 512) (fun i => iprop(rowAt (U := U) c (landed c ids E f) i ∗ tabAt c E Finset.univ i)) from
    bigSep_mono fun i hi => (kept_given c ids E f i).trans (Entails.of_eq (if_pos (Finset.mem_range.mp hi)))) $$ H
  ihave H := (Entails.of_eq (bigSep_sep' (Finset.range 512) _ _)) $$ H
  icases H with ⟨HR, HT⟩
  isplitl [HR]
  · iapply (Entails.of_eq (rows_split (U := U) c (landed c ids E f)).symm)
    iexact HR
  · iapply (Transfers.pointsTo_toks_range fullShare 512).2
    isplitl [HD]; · iexact HD
    iexact HT

theorem kept_start : iprop((rowsM.view.loc (c : Thread nD τ) ↦{fullShare} f) ∗ bigSep (Finset.range 512) (tabAt (U := U) c E Finset.univ))
    ⊢ bigSep (Finset.range 512) (kept (U := U) c ids E f 0) := by
  rw [rows_split, ← bigSep_sep']
  refine bigSep_mono fun i _ => ?_
  unfold kept
  rw [if_neg fun h => Nat.not_lt_zero i h.1]
  exact fun _ h => h

/-- The tokens of the group, read as a column. -/
theorem read_col {idv : S4096x1.Idx → Elt F .i32} (hv : ∀ x, idv x = ids (fun | 0 => x 0)) (x : S512x1.Idx) :
    (idsV.access (Rect.unit (s := S4096x1) (k0_off4 c) S512x1.size (k0_off4_inb c))).read (Elt F) idv x = word c ids (x 0).val := by
  have hg := grp_lt c
  have hx : (x 0).val < 512 := (x 0).isLt
  show idv ((Rect.unit (s := S4096x1) (k0_off4 c) S512x1.size (k0_off4_inb c)).emb x) = _
  rw [hv]
  unfold word
  congr 1
  funext a
  apply Fin.ext
  match a with
  | 0 =>
    show k0_off4 c 0 + 1 * (x 0).val = (512 * grp c + (x 0).val) % 4096
    rw [base_eq, Nat.mod_eq_of_lt (by omega)]
    show 512 * grp c + 1 * (x 0).val = _
    omega

include EC in
/-- The two loops and the loads. -/
theorem gather_loops {lv : ℕ} {O : CellTallies nD τ sig ℕ} {W : Waits sig ℕ} {R : sProp 𝕄} [BI.Persistent R]
    (hR : R ⊢ MayWait (c : Thread nD τ) (.dma semG) lv O) {idv : S4096x1.Idx → Elt F .i32} (hv : ∀ x, idv x = ids (fun | 0 => x 0)) :
    iprop(R ∗ (idsS.view.loc (c : Thread nD τ) ↦{fullShare} ids) ∗ (idsV.view.loc (c : Thread nD τ) ↦{fullShare} idv)
        ∗ (tabM.view.loc (c : Thread nD τ) ↦{fullShare} E)
        ∗ (rowsM.view.loc (c : Thread nD τ) ↦{fullShare} f) ∗ semVal ((c : Thread nD τ), .dma semG) 0 ∗ owes (c : Thread nD τ) O W)
      ⊢ wp frame (𝕎 (c : Thread nD τ) none) Set.univ (k0_part1_skel idsS harg0 idsV harg1 tabM harg2 slabM harg3 rowsM harg4 cc0_scratch1)
        (fun v => iprop(⌜k0_pay1 v.1 v.2.1 v.2.2 = slabOf c ids E⌝ ∗ (idsS.view.loc (c : Thread nD τ) ↦{fullShare} ids) ∗ (idsV.view.loc (c : Thread nD τ) ↦{fullShare} idv)
          ∗ (tabM.view.loc (c : Thread nD τ) ↦{fullShare} E)
          ∗ (∃ f, rowsM.view.loc (c : Thread nD τ) ↦{fullShare} f) ∗ semVal ((c : Thread nD τ), .dma semG) 0 ∗ ∃ W, owes (c : Thread nD τ) O W)) := by
  have hcnt := cnt_le c ids 512
  obtain ⟨ht2, ht3, hchk⟩ := trips2 hcnt
  unfold k0_part1_skel
  iintro ⟨#HR, HI, HV, HT, Hrows, Hsem, HO⟩
  imod (Transfers.batch_alloc' EC (c : Thread nD τ) lv unit_ (back (U := U) c ids E f) (sm := .dma semG) (E := Set.univ)) $$ Hsem with HB
  ihave HT := (Transfers.pointsTo_toks_range fullShare 512).1 $$ HT
  icases HT with ⟨HTd, HTs⟩
  ihave HK := (kept_start (ids := ids)) $$ [Hrows HTs]
  · isplitl [Hrows]; · iexact Hrows
    iexact HTs
  simp only [Prog.lift, Prog.bind_op, Prog.bind_ret, Prog.pure_eq_ret, wp_deviceId]
  iapply (Scf.wp_for_bind frame (𝕎 (c : Thread nD τ) none) Set.univ k0_t1_loop.lb k0_t1_loop.ub k0_t1_loop.st k0_t1_ok 0#32
    (k0_t1_body idsS harg0 idsV harg1 tabM harg2 slabM harg3 rowsM harg4 cc0_scratch1 c (partW c)) (looked EC c ids E f lv)
    (fun t acc => trip1 EC t acc)) $$ [HI HK HB]
  · unfold looked
    isplitr; · ipureintro; rfl
    isplitl [HI]; · iexact HI
    isplitl [HK]; · iexact HK
    iexact HB
  iintro %acc HL
  ihave HL := (show looked EC c ids E f lv k0_t1_loop.trips acc ⊢ iprop(⌜acc = BitVec.ofNat 32 (cnt c ids 512)⌝ ∗ (idsS.view.loc (c : Thread nD τ) ↦{fullShare} ids)
    ∗ bigSep (Finset.range 512) (kept (U := U) c ids E f 512) ∗ copies EC c ids E f lv (cnt c ids 512) 0) from by rw [trips1]; exact .rfl) $$ HL
  icases HL with ⟨%ha, HI, HK, HB⟩
  subst ha
  iapply (wp_assume Variants.none (c : Thread nD τ) none Set.univ hchk)
  iapply (Scf.wp_for_bind frame (𝕎 (c : Thread nD τ) none) Set.univ _ _ _ _ 0#32
    (k0_t2_body idsS harg0 idsV harg1 tabM harg2 slabM harg3 rowsM harg4 cc0_scratch1 _ hchk) (fun k acc => iprop(R ∗ waited EC c ids E f O lv k acc))
    (fun t acc => trip2 EC hR _ hchk ht2 t acc)) $$ [HO HB]
  · isplitr; · iexact HR
    unfold waited
    isplitl [HO]; · iexists W; iexact HO
    rw [Nat.zero_mul]; iexact HB
  iintro %acc ⟨-, HL⟩
  ihave HL := (show waited EC c ids E f O lv (k0_t2_loop (BitVec.ofNat 32 (cnt c ids 512))).trips acc ⊢ iprop((∃ W, owes (c : Thread nD τ) O W)
    ∗ copies EC c ids E f lv (cnt c ids 512) (unit_ * cnt c ids 512)) from by rw [ht2, Nat.mul_comm unit_]; exact .rfl) $$ HL
  icases HL with ⟨HO, HB⟩
  imod (Transfers.batch_collect' EC (c : Thread nD τ) unit_pos (D := back (U := U) c ids E f)) $$ HB with ⟨HB, Hsem⟩
  iapply (Scf.wp_for_bind frame (𝕎 (c : Thread nD τ) none) Set.univ _ _ _ _ acc
    (k0_t3_body idsS harg0 idsV harg1 tabM harg2 slabM harg3 rowsM harg4 cc0_scratch1 _ hchk) (fun k acc => iprop(emp))
    (fun t acc => (Nat.not_lt_zero _ (lt_of_lt_of_eq t.isLt ht3)).elim)) $$ []
  · iempintro
  iintro %acc' -
  ihave HT := gathered $$ [HTd HK HB]
  · isplitl [HTd]; · iexact HTd
    isplitl [HK]; · iexact HK
    iexact HB
  icases HT with ⟨Hrows, HT⟩
  iapply (wp_load_rect Variants.none (c : Thread nD τ) none Set.univ (m := idsV) (r := Rect.unit (s := S4096x1) (k0_off4 c) S512x1.size (k0_off4_inb c)) (S := Finset.univ) (Finset.subset_univ _)) $$ HV
  iintro HV
  iapply (wp_load_rect Variants.none (c : Thread nD τ) none Set.univ (m := rowsM) (r := Rect.unit (s := S512x2048) ![0, 0] S512x2048.size inb_S512x2048_S512x2048_0_0) (S := Finset.univ) (Finset.subset_univ _)) $$ Hrows
  iintro Hrows
  rw [wp_ret]; imodintro
  isplitr
  · ipureintro
    dsimp only
    rw [show (rowsM.access (Rect.unit (s := S512x2048) ![0, 0] S512x2048.size inb_S512x2048_S512x2048_0_0)).read (Elt F) (landed c ids E f) = landed c ids E f from
      Memref.read_access_unit_zero (Elt F) cc0_scratch0 (funext fun a => by fin_cases a <;> rfl) _ _]
    exact pay_eq _ fun x => read_col hv x
  isplitl [HI]; · iexact HI
  isplitl [HV]; · iexact HV
  isplitl [HT]; · iexact HT
  isplitl [Hrows]; · iexists _; iexact Hrows
  isplitl [Hsem]; · iexact Hsem
  iexact HO

/-- A store to the whole result leaves what was stored. -/
theorem stored (g h : S512x2048.Idx → Elt F .bf16) :
    (slabM.access (Rect.unit (s := S512x2048) ![0, 0] S512x2048.size inb_S512x2048_S512x2048_0_0)).write (Elt F) g h Finset.univ = h :=
  (Memref.read_access_unit_zero (Elt F) cc0_stg2_0 (off := ![0, 0]) (funext fun a => by fin_cases a <;> rfl) inb_S512x2048_S512x2048_0_0
    ((slabM.access (Rect.unit (s := S512x2048) ![0, 0] S512x2048.size inb_S512x2048_S512x2048_0_0)).write (Elt F) g h Finset.univ)).symm.trans (View.read_write_univ _ _)

include EC in
/-- The whole body: the device's slab is left in the result, everything else as it was. -/
theorem gather_body {lv : ℕ} {O : CellTallies nD τ sig ℕ} {W : Waits sig ℕ} {R : sProp 𝕄} [BI.Persistent R]
    (hR : R ⊢ MayWait (c : Thread nD τ) (.dma semG) lv O) {idv : S4096x1.Idx → Elt F .i32} (hv : ∀ x, idv x = ids (fun | 0 => x 0))
    {g : S512x2048.Idx → Elt F .bf16} :
    iprop(R ∗ (idsS.view.loc (c : Thread nD τ) ↦{fullShare} ids) ∗ (idsV.view.loc (c : Thread nD τ) ↦{fullShare} idv)
        ∗ (tabM.view.loc (c : Thread nD τ) ↦{fullShare} E) ∗ (slabM.view.loc (c : Thread nD τ) ↦{fullShare} g)
        ∗ (rowsM.view.loc (c : Thread nD τ) ↦{fullShare} f) ∗ semVal ((c : Thread nD τ), .dma semG) 0 ∗ owes (c : Thread nD τ) O W)
      ⊢ wp frame (𝕎 (c : Thread nD τ) none) Set.univ (cc0_body idsS harg0 idsV harg1 tabM harg2 slabM harg3 rowsM harg4 cc0_scratch1)
        (fun _ => iprop((idsS.view.loc (c : Thread nD τ) ↦{fullShare} ids) ∗ (idsV.view.loc (c : Thread nD τ) ↦{fullShare} idv)
          ∗ (tabM.view.loc (c : Thread nD τ) ↦{fullShare} E) ∗ (slabM.view.loc (c : Thread nD τ) ↦{fullShare} slabOf c ids E)
          ∗ (∃ f, rowsM.view.loc (c : Thread nD τ) ↦{fullShare} f) ∗ semVal ((c : Thread nD τ), .dma semG) 0 ∗ ∃ W, owes (c : Thread nD τ) O W)) := by
  rw [cc0_body_eq_skeleton]
  unfold cc0_body_skel
  rw [k0_part1_eq_skeleton, wp_bind]
  iintro ⟨#HR, HI, HV, HT, HG, Hrows, Hsem, HO⟩
  iapply (wp_wand_r frame (𝕎 (c : Thread nD τ) none) Set.univ)
  isplitl [HI HV HT Hrows Hsem HO]
  · iapply (gather_loops EC (harg0 := harg0) (harg1 := harg1) (harg2 := harg2) (harg3 := harg3) (harg4 := harg4) hR hv)
    isplitr; · iexact HR
    isplitl [HI]; · iexact HI
    isplitl [HV]; · iexact HV
    isplitl [HT]; · iexact HT
    isplitl [Hrows]; · iexact Hrows
    isplitl [Hsem]; · iexact Hsem
    iexact HO
  iintro %v ⟨%hp, HI, HV, HT, Hrows, Hsem, HO⟩
  obtain ⟨v1, v2, v3⟩ := v
  dsimp only at hp ⊢
  simp only [Prog.lift, Prog.bind_op, Prog.bind_ret, Prog.pure_eq_ret, wp_deviceId]
  iapply (wp_load Variants.none (c : Thread nD τ) none Set.univ (m := slabM) (S := Finset.univ) (Finset.subset_univ _)) $$ HG
  iintro HG
  iapply (wp_store Variants.none (c : Thread nD τ) none Set.univ (m := slabM) (r := Rect.unit (s := S512x2048) ![0, 0] S512x2048.size inb_S512x2048_S512x2048_0_0) (Mk := Finset.univ)
    (S := Finset.univ) (Finset.subset_univ _)) $$ HG
  iintro HG
  rw [wp_ret]; imodintro
  rw [hp]
  isplitl [HI]; · iexact HI
  isplitl [HV]; · iexact HV
  isplitl [HT]; · iexact HT
  isplitl [HG]
  · iapply (Entails.of_eq (congrArg (fun h => (slabM.view.loc (c : Thread nD τ) ↦{fullShare} h : sProp 𝕄)) (stored g (slabOf c ids E))))
    iexact HG
  isplitl [Hrows]; · iexact Hrows
  isplitl [Hsem]; · iexact Hsem
  iexact HO

end Loop

end Cert.WholeProof.Gather

end
-- ==== Proof.Whole.Ghost.lean ====
/-
# What the three calls share

The program's three calls run one after the other on one ghost state: the pipeline library's, the ring's rounds and
slots, the plane's rounds, and the counters of the gather's copies. What a device still has to pay, over all calls, is
one list; the levels of the ring's payments lie below those of the plane's.
-/
module

public import proofs.«01_k».proof.Proof.Gen.WholeIdeal
public import proofs.«01_k».proof.Proof.Gen.WholeIdeal.Regions
public import Idealize.ShloMosaic.Lib.Pipeline.Launch
public import Idealize.ShloMosaic.Lib.Pipeline.Kit
public import Idealize.ShloMosaic.Lib.Pipeline.TalkSites
public import Idealize.ShloMosaic.Lib.Release
public import Idealize.ShloMosaic.Lib.Tactic

@[expose] public section

noncomputable section

namespace Cert.WholeProof

open Cert.WholeIdeal Cert.WholeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ring's rounds, its slots, and the plane's rounds. -/
abbrev U1 := URounds (GSem nD τ sig) ℕ
abbrev UK := Release.USlots (Dev nD × ℕ)
abbrev U2 := URounds (GSem nD τ sig) Bool
abbrev UU := UR sig nD τ × ((U1 × UK) × (U2 × Counters))

local notation "𝕄" => MT nD τ sig ℕ (Elt F) ℕ UU ℕ

abbrev EP : Emb (UR sig nD τ) (MT nD τ sig ℕ (Elt F) ℕ UU ℕ) := embL
abbrev EB : Emb (U1 × UK) (MT nD τ sig ℕ (Elt F) ℕ UU ℕ) :=
  (Emb.inl : Emb (U1 × UK) ((U1 × UK) × (U2 × Counters))).trans (embR : Emb ((U1 × UK) × (U2 × Counters)) (MT nD τ sig ℕ (Elt F) ℕ UU ℕ))
abbrev EA : Emb (U2 × Counters) (MT nD τ sig ℕ (Elt F) ℕ UU ℕ) :=
  (Emb.inr : Emb (U2 × Counters) ((U1 × UK) × (U2 × Counters))).trans (embR : Emb ((U1 × UK) × (U2 × Counters)) (MT nD τ sig ℕ (Elt F) ℕ UU ℕ))
abbrev E1 : Emb U1 (MT nD τ sig ℕ (Elt F) ℕ UU ℕ) := (Emb.inl : Emb U1 (U1 × UK)).trans EB
abbrev ES : Emb UK (MT nD τ sig ℕ (Elt F) ℕ UU ℕ) := (Emb.inr : Emb UK (U1 × UK)).trans EB
abbrev E2 : Emb U2 (MT nD τ sig ℕ (Elt F) ℕ UU ℕ) := (Emb.inl : Emb U2 (U2 × Counters)).trans EA
abbrev 𝒱₀ : Variants := Variants.none

/-! ## Levels -/

abbrev levels : ℕ := 18

/-- Every payment of a list is to a TensorCore's cell, at a level above `i`. -/
def AllAbove (i : ℕ) (l : List (TalkSites.Pay nD τ sig)) : Prop := ∀ x ∈ l, x.1.1.2 = .tc ∧ i < x.2.1 ∧ x.2.1 < levels

theorem allAbove_nil (i : ℕ) : AllAbove i [] := fun x hx => absurd hx (List.not_mem_nil)
theorem allAbove_cons {i : ℕ} {c : Dev nD} {k : SemLoc sig} {j n : ℕ} {l : List (TalkSites.Pay nD τ sig)} (hj : i < j ∧ j < levels) (h : AllAbove i l) :
    AllAbove i ((((c : Thread nD τ), k), j, n) :: l) := fun x hx => by
  rcases List.mem_cons.mp hx with rfl | hx
  · exact ⟨rfl, hj⟩
  · exact h x hx
theorem AllAbove.below {i j : ℕ} {l : List (TalkSites.Pay nD τ sig)} (h : AllAbove j l) (hij : i ≤ j) : AllAbove i l :=
  fun x hx => ⟨(h x hx).1, Nat.lt_of_le_of_lt hij (h x hx).2.1, (h x hx).2.2⟩

/-- The levels' facts. -/
def levs : sProp 𝕄 := levAts (SiteBlocks.L levels) SiteBlocks.lv

instance levs_persistent : BI.Persistent (levs (F := F)) := by unfold levs; infer_instance

theorem mayWait (c : Dev nD) (sm : SemLoc sig) {i : ℕ} (hi : i < levels) {l : List (TalkSites.Pay nD τ sig)} (h : AllAbove i l) :
    levs (F := F) ⊢ MayWait (c : Thread nD τ) sm i (TalkSites.tallyL l) :=
  SiteBlocks.mayWait_of hi c sm _ fun g k hg => by
    obtain ⟨x, hx, rfl, rfl⟩ := TalkSites.tallyL_pos hg
    obtain ⟨h1, h2, h3⟩ := h x hx
    exact ⟨SiteBlocks.mem_L' h1 h3, h2⟩

/-- What device `c` still owes. -/
def due (c : Dev nD) (l : List (TalkSites.Pay nD τ sig)) : sProp 𝕄 := iprop(∃ W, owes (c : Thread nD τ) (TalkSites.tallyL l) W)

/-- Whatever is owed lies above the copies' level. -/
theorem cut {l : List (TalkSites.Pay nD τ sig)} (h : AllAbove 0 l) {g : GSem nD τ sig} {i : ℕ} (hg : 0 < TalkSites.tallyL l g i) :
    i ∈ SiteBlocks.L levels g ∧ 0 < SiteBlocks.lv g i := by
  obtain ⟨x, hx, rfl, rfl⟩ := TalkSites.tallyL_pos hg
  obtain ⟨h1, h2, h3⟩ := h x hx
  exact ⟨SiteBlocks.mem_L' h1 h3, h2⟩

theorem tallyL_here {l : List (TalkSites.Pay nD τ sig)} {c : Dev nD} (h : ∀ x ∈ l, x.1.1 = (c.tc : Thread nD τ)) (g : GSem nD τ sig)
    (hg : TalkSites.tallyL l g ≠ 0) : g.1 = (c.tc : Thread nD τ) := by
  obtain ⟨i, hi⟩ := Finsupp.ne_iff.mp hg
  obtain ⟨x, hx, rfl, -⟩ := TalkSites.tallyL_pos (Nat.pos_of_ne_zero hi)
  exact h x hx

/-- A persistent fact goes to each of many. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## Buffers -/

theorem owns_whole_eq (c : Dev nD) (b : Ref sig .tc) (Y : b.ty.Contents (Elt F)) :
    (owns (Ix := ℕ) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- A staging buffer at contents, and a buffer at some contents. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))
abbrev some_ (c : Dev nD) (b : Ref sig .tc) : sProp 𝕄 :=
  iprop(∃ f : Buf (Elt F) (((c : Dev nD) : Thread nD τ).loc b), ((c : Thread nD τ).loc b) ↦{fullShare} f)

/-- The unscoped buffers that are no window's array of a call. -/
abbrev others {r W : ℕ} (spec : Fin W → Pipeline.WinSpec sig r) : Finset (DevRef τ sig) := Pipeline.ucRefs τ sig \ Pipeline.arrRefs spec

end Cert.WholeProof

end
-- ==== Proof.Whole.Gather.Call.lean ====
/-
# The gather's call among the others

What a device starts from and ends with, the body proved against it, and what the call leaves in the arrays. The device
owes the later calls' payments throughout; the copies' waits lie below them.
-/
module

public import proofs.«01_k».proof.Proof.Whole.Gather.Body
public import proofs.«01_k».proof.Proof.Whole.Ghost
public import proofs.«01_k».proof.Proof.Gen.WholeIdeal.Points
public import Idealize.ShloMosaic.Lib.Pipeline.Value
public import Idealize.ShloMosaic.Lib.Pointwise.Index

@[expose] public section

noncomputable section

namespace Cert.WholeProof.Gather

open Cert.WholeIdeal Cert.WholeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig ℕ (Elt F) ℕ UU ℕ

variable (V : Dev nD → Valuation τ sig (Elt F)) (tl : Dev nD → List (TalkSites.Pay nD τ sig))

set_option maxRecDepth 100000

/-- The tokens and the device's part of the table, as the call finds them. -/
abbrev toks (c : Dev nD) : Ids F := V c (Proc.devRef .tc main_arg0)
abbrev tabl (c : Dev nD) : Tab F := V c (Proc.devRef .tc main_arg1)
abbrev colm (c : Dev nD) : S4096x1.Idx → Elt F .i32 := shapeCast S4096x1 (toks V c) shapeCasts_S4096_S4096x1

theorem col_apply (c : Dev nD) (x : S4096x1.Idx) : colm V c x = toks V c (fun | 0 => x 0) :=
  shapeCast_apply _ _ _ _ (by
    rw [Shape.rowMajor_val_one, Shape.rowMajor_val_two]
    have h1 : (x 1).val < 1 := (x 1).isLt
    show (x 0).val = (x 0).val * 1 + (x 1).val
    omega)

/-- What is staged. -/
theorem staged_toks (c : Dev nD) : (win0_0.blk (0 : Fin 1)).view.read (Elt F) (V c (Proc.devRef .tc main_arg0) : Buf (Elt F) ((c : Thread nD τ).loc main_arg0)) = toks V c := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _
theorem staged_col (c : Dev nD) : (win0_1.blk (0 : Fin 1)).view.read (Elt F) (V c (Proc.devRef .tc main_v1) : Buf (Elt F) ((c : Thread nD τ).loc main_v1)) = V c (Proc.devRef .tc main_v1) := by
  have hz : (fun a => (win0_1.index (0 : Fin 1)) a * main_v1.ty.shape.size a) = fun _ => 0 :=
    funext fun a => by fin_cases a <;> decide
  exact Memref.read_access_unit_zero (Elt F) main_v1 hz (fun a => by fin_cases a <;> decide) _

/-! ## The pipeline's data -/

/-- The copies' semaphore, and the array the body reads itself. -/
abbrev osem : Fin 1 → SemLoc sig := fun _ => .dma semG
theorem ownSemFacts : Pipeline.OwnSemFacts spec0 osem := by decide
def H0 : Finset (DevRef τ sig) := {Proc.devRef .tc main_arg1}
theorem H0_sub : H0 ⊆ others spec0 := by decide

/-- The generator's register and the other calls' buffers. -/
def apart (c : Dev nD) : sProp 𝕄 :=
  iprop((∃ r, prngReg c r) ∗ some_ (F := F) c cc1_stg0_0 ∗ some_ (F := F) c cc1_stg1_0 ∗ some_ (F := F) c cc1_scratch0 ∗ some_ (F := F) c cc1_scratch1 ∗ some_ (F := F) c cc2_stg0_0 ∗ some_ (F := F) c cc2_stg1_0 ∗ some_ (F := F) c cc2_scratch0 ∗ some_ (F := F) c cc2_scratch1)
/-- What the body holds besides the staged buffers. -/
def inv (c : Dev nD) : sProp 𝕄 :=
  iprop(apart (F := F) c ∗ levs (F := F) ∗ some_ (F := F) c cc0_scratch0 ∗ semVal ((c : Thread nD τ), .dma semG) 0
    ∗ ((c : Thread nD τ).loc main_arg1) ↦{fullShare} tabl V c)

def dat (c : Dev nD) : Dat τ (Elt F) ℕ ℕ UU ℕ cfg0 c where
  A w := V c (Proc.devRef .tc (Pipeline.arrRef spec0 w))
  after w _ := match w with
    | ⟨0, _⟩ => toks V c
    | ⟨1, _⟩ => V c (Proc.devRef .tc main_v1)
    | ⟨2, _⟩ => slabOf c (toks V c) (tabl V c)
  Φ _ := inv V c
  q _ := fullShare
  owed _ := TalkSites.tallyL (tl c)

def bodyPre (c : Dev nD) : sProp 𝕄 :=
  iprop(inv V c ∗ (dat V tl c).owesAt 0 t0_0.castSucc
    ∗ (∃ d, stg c cc0_stg0_0 ((dat V tl c).before (0 : Fin 3) t0_0 d))
    ∗ (∃ d, stg c cc0_stg1_0 ((dat V tl c).before (1 : Fin 3) t0_0 d))
    ∗ (∃ d, stg c cc0_stg2_0 ((dat V tl c).before (2 : Fin 3) t0_0 d)))

def bodyPost (c : Dev nD) : sProp 𝕄 :=
  iprop(inv V c ∗ (dat V tl c).owesAt 0 t0_0.succ ∗ stg c cc0_stg0_0 (toks V c)
    ∗ stg c cc0_stg1_0 (V c (Proc.devRef .tc main_v1)) ∗ stg c cc0_stg2_0 (slabOf c (toks V c) (tabl V c)))

theorem body_obligation (htl : ∀ c, AllAbove 0 (tl c)) (hcol : ∀ c, V c (Proc.devRef .tc main_v1) = colm V c) (c : Dev nD) : BodyObligation (dat V tl c) (defs₀ (F := F)) 𝒱₀ 0 Set.univ := fun t => by
  rw [fin_N0 t]
  rw [bigSep_W0, bigSep_W0]
  simp only [owns_whole_eq]
  show bodyPre V tl c ⊢ wp frame (wpE (defs₀ (F := F)) 𝒱₀ (c : Thread nD τ) none) Set.univ
    (cc0_body idsS (Memref.isWhole_whole _) idsV (Memref.isWhole_whole _) tabM (Memref.isWhole_whole _) slabM (Memref.isWhole_whole _)
      rowsM (Memref.isWhole_whole _) cc0_scratch1) (fun _ => bodyPost V tl c)
  unfold bodyPre inv
  iintro ⟨⟨Hg, #Hl, ⟨%f, Hf⟩, Hs, HT⟩, Ho, ⟨%d0, %g0, %hg0, H0⟩, ⟨%d1, %g1, %hg1, H1⟩, ⟨%d2, %g2, %hg2, H2⟩⟩
  have h0 : g0 = toks V c := by
    rw [hg0]; unfold Dat.before; rw [if_pos (fetch0_0 t0_0)]; exact staged_toks V c
  have h1 : g1 = colm V c := by
    rw [hg1]; unfold Dat.before; rw [if_pos (fetch0_1 t0_0)]; exact (staged_col V c).trans (hcol c)
  subst h0
  subst h1
  unfold Dat.owesAt Pipeline.owesWithin
  icases Ho with ⟨%W, %hW, HO⟩
  iapply (wp_wand_r frame (wpE (defs₀ (F := F)) 𝒱₀ (c : Thread nD τ) none))
  isplitl [H0 H1 HT H2 Hf Hs HO]
  · iapply (gather_body (countersEmb (U := UU)) (lv := 0) (O := TalkSites.tallyL (tl c)) (R := levs (F := F))
      (mayWait c (.dma semG) (by decide) (htl c)) (col_apply V c))
    isplitr; · iexact Hl
    isplitl [H0]; · iexact H0
    isplitl [H1]; · iexact H1
    isplitl [HT]; · iexact HT
    isplitl [H2]; · iexact H2
    isplitl [Hf]; · iexact Hf
    isplitl [Hs]; · iexact Hs
    iexact HO
  iintro %_ ⟨H0, H1, HT, H2, Hf, Hs, ⟨%W', HO⟩⟩
  unfold bodyPost inv Dat.owesAt Pipeline.owesWithin
  isplitl [HT Hf Hs Hg]
  · isplitl [Hg]; · iexact Hg
    isplitr; · iexact Hl
    isplitl [Hf]; · iexact Hf
    isplitl [Hs]; · iexact Hs
    iexact HT
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; exact (hcol c).symm)
    iexact H1
  iexists _; isplitr; · (ipureintro; rfl)
  iexact H2

/-! ## The arrays -/

theorem share_eq (c : Dev nD) (w : Fin cfg0.W) : (dat V tl c).share w = fullShare := by unfold Dat.share; split <;> rfl

/-- The result's array after the call. -/
theorem arr_out (c : Dev nD) : (dat V tl c).arrAt (2 : Fin 3) cfg0.N = slabOf c (toks V c) (tabl V c) := by
  have hz : (fun a => (win0_2.index (0 : Fin 1)) a * main_v2.ty.shape.size a) = fun _ => 0 :=
    funext fun a => by fin_cases a <;> decide
  have hr := fun f => Memref.read_access_unit_zero (Elt F) main_v2 hz (fun a => by fin_cases a <;> decide) f
  have ho : (win0_2.blk (0 : Fin 1)).view.read (Elt F) ((dat V tl c).arrAt (2 : Fin 3) cfg0.N) = slabOf c (toks V c) (tabl V c) := by
    rw [show cfg0.N = ((0 : Fin 1) : Fin cfg0.N).val + 1 from rfl, (dat V tl c).arrAt_succ (2 : Fin 3) (0 : Fin 1)]
    rw [show (cfg0.win (2 : Fin 3)).flush (0 : Fin 1) = true from by decide, if_pos rfl]
    exact View.read_write_univ _ _
  exact (hr _).symm.trans ho

theorem arr_toks (c : Dev nD) : (dat V tl c).arrAt (0 : Fin 3) cfg0.N = V c (Proc.devRef .tc main_arg0) := (dat V tl c).arrAt_in (0 : Fin 3) rfl _
theorem arr_col (c : Dev nD) : (dat V tl c).arrAt (1 : Fin 3) cfg0.N = V c (Proc.devRef .tc main_v1) := (dat V tl c).arrAt_in (1 : Fin 3) rfl _

/-! ## Into the body and out of it -/

theorem held_H0 (c : Dev nD) : (StableHlo.held (Ix := ℕ) (Name := ℕ) (U := UU) (Lvl := ℕ) (c : Thread nD τ) H0 (V c) : sProp 𝕄)
    = ((c : Thread nD τ).loc main_arg1) ↦{fullShare} tabl V c := by
  unfold StableHlo.held H0; rw [bigSep_singleton]
theorem ownSems0_eq (c : Dev nD) : (Pipeline.ownSems0 (Ix := ℕ) (Name := ℕ) (U := UU) (Lvl := ℕ) (Val := Elt F) (τ := τ) osem c : sProp 𝕄)
    = semVal ((c : Thread nD τ), .dma semG) 0 := by
  rw [Pipeline.ownSems0_eq_of_list c osem [0] (by decide) (by decide)]; rfl

theorem phi_in (c : Dev nD) : iprop(Pipeline.scopedRest spec0 c ∗ (∃ r, prngReg c r) ∗ StableHlo.held (c : Thread nD τ) H0 (V c)
      ∗ (Pipeline.ownSems0 (Ix := ℕ) (Name := ℕ) (U := UU) (Lvl := ℕ) (Val := Elt F) (τ := τ) osem c ∗ levs (F := F))) ⊢ (dat V tl c).Φ 0 := by
  rw [show (dat V tl c).Φ 0 = inv V c from rfl, scopedRest0_eq, held_H0, ownSems0_eq]
  unfold inv apart
  iintro ⟨⟨H0, H1, H2, H3, H4, H5, H6, H7, H8⟩, Hp, HT, Hs, Hl⟩
  isplitl [Hp H1 H2 H3 H4 H5 H6 H7 H8]
  · isplitl [Hp]; · iexact Hp
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [Hl]; · iexact Hl
  isplitl [H0]; · iexact H0
  isplitl [Hs] <;> iassumption

theorem phi_out (c : Dev nD) : (dat V tl c).Φ (Fin.last cfg0.N) ⊢ iprop(Pipeline.scopedRest spec0 c ∗ (∃ r, prngReg c r) ∗ StableHlo.held (c : Thread nD τ) H0 (V c)
      ∗ Pipeline.ownSems0 (Ix := ℕ) (Name := ℕ) (U := UU) (Lvl := ℕ) (Val := Elt F) (τ := τ) osem c ∗ emp) := by
  rw [show (dat V tl c).Φ (Fin.last cfg0.N) = inv V c from rfl, scopedRest0_eq, held_H0, ownSems0_eq]
  unfold inv apart
  iintro ⟨⟨Hp, H1, H2, H3, H4, H5, H6, H7, H8⟩, -, H0, Hs, HT⟩
  isplitr [Hp HT Hs]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [Hp]; · iexact Hp
  isplitl [HT]; · iexact HT
  isplitl [Hs]; · iexact Hs
  iempintro

end Cert.WholeProof.Gather

end
-- ==== Proof.Whole.Ring.Mesh.lean ====
/-
# The z-ring

The four devices that differ in their `z` coordinate alone form a cycle. This module states that cycle on device
numbers, reads the kernel's device numbers and row offsets off it, and names the memory and the semaphores of the
all-reduce.
-/
module

public import proofs.«01_k».proof.Proof.Gen.WholeIdeal
public import proofs.«01_k».proof.Proof.Gen.WholeIdeal.Skeleton
public import proofs.«01_k».proof.Proof.Gen.WholeIdeal.Launch
public import proofs.«01_k».proof.Proof.Gen.WholeIdeal.Points
public import proofs.«01_k».proof.Proof.Whole.Ghost
public import Idealize.ShloMosaic.Lib.Pipeline.Launch
public import Idealize.ShloMosaic.Lib.Pipeline.Kit
public import Idealize.ShloMosaic.Lib.Pipeline.TalkSites
public import Idealize.ShloMosaic.Lib.Pipeline.Value
public import Idealize.ShloMosaic.Lib.MemrefSat
public import Idealize.ShloMosaic.Lib.Release
public import Idealize.ShloMosaic.Lib.Tactic

@[expose] public section

noncomputable section

namespace Cert.WholeProof.Ring

open Cert.WholeIdeal Cert.WholeIdeal.Gen
open Idealize.ShloMosaic Idealize.ShloMosaic.TcCoe

/-! ## Positions and neighbours -/

/-- The position of a device along its ring: its `z` coordinate. -/
def pos (c : Dev nD) : Fin 4 := ⟨c.val % 4, Nat.mod_lt _ (by decide)⟩

/-- The device at position `a` of the ring through `c`. -/
def at_ (a : Fin 4) (c : Dev nD) : Dev nD :=
  ⟨4 * (c.val / 4) + a.val, by
    have hc : c.val < 32 := c.isLt
    have h : 4 * (c.val / 4) + a.val < 32 := by have := a.isLt; omega
    exact h⟩

/-- The next device along the ring, and the one before. -/
def succ (c : Dev nD) : Dev nD := at_ (pos c + 1) c
def pred (c : Dev nD) : Dev nD := at_ (pos c - 1) c

theorem pred_succ (c : Dev nD) : pred (succ c) = c := by revert c; decide +kernel
theorem succ_pred (c : Dev nD) : succ (pred c) = c := by revert c; decide +kernel
theorem pos_pred (c : Dev nD) : pos (pred c) = pos c - 1 := by revert c; decide +kernel

def cycle : Dev nD ≃ Dev nD := ⟨succ, pred, pred_succ, succ_pred⟩

theorem dev1_eq (c : Dev nD) : (⟨k1_dev1 c, k1_dev1_lt c⟩ : Dev nD) = pred c := by revert c; decide +kernel
theorem dev2_eq (c : Dev nD) : (⟨k1_dev2 c, k1_dev2_lt c⟩ : Dev nD) = succ c := by revert c; decide +kernel
theorem dev3_eq (c : Dev nD) : (⟨k1_dev3 c, k1_dev3_lt c⟩ : Dev nD) = succ c := by revert c; decide +kernel
theorem dev4_eq (c : Dev nD) : (⟨k1_dev4 c, k1_dev4_lt c⟩ : Dev nD) = pred c := by revert c; decide +kernel
theorem dev5_eq (c : Dev nD) : (⟨k1_dev5 c, k1_dev5_lt c⟩ : Dev nD) = succ c := by revert c; decide +kernel
theorem dev6_eq (c : Dev nD) : (⟨k1_dev6 c, k1_dev6_lt c⟩ : Dev nD) = pred c := by revert c; decide +kernel
theorem dev7_eq (c : Dev nD) : (⟨k1_dev7 c, k1_dev7_lt c⟩ : Dev nD) = succ c := by revert c; decide +kernel
theorem dev8_eq (c : Dev nD) : (⟨k1_dev8 c, k1_dev8_lt c⟩ : Dev nD) = pred c := by revert c; decide +kernel
theorem dev9_eq (c : Dev nD) : (⟨k1_dev9 c, k1_dev9_lt c⟩ : Dev nD) = succ c := by revert c; decide +kernel
theorem dev10_eq (c : Dev nD) : (⟨k1_dev10 c, k1_dev10_lt c⟩ : Dev nD) = pred c := by revert c; decide +kernel
theorem dev11_eq (c : Dev nD) : (⟨k1_dev11 c, k1_dev11_lt c⟩ : Dev nD) = succ c := by revert c; decide +kernel
theorem dev12_eq (c : Dev nD) : (⟨k1_dev12 c, k1_dev12_lt c⟩ : Dev nD) = succ c := by revert c; decide +kernel

/-- Chunk `a` of a slab, as an offset. -/
def chunkOff (a : Fin 4) : Fin 2 → ℕ := ![128 * a.val, 0]

theorem off1_0 (c : Dev nD) : k1_off1 c 0#32 = chunkOff (pos c - 0) := by revert c; decide +kernel
theorem off1_1 (c : Dev nD) : k1_off1 c 1#32 = chunkOff (pos c - 1) := by revert c; decide +kernel
theorem off1_2 (c : Dev nD) : k1_off1 c 2#32 = chunkOff (pos c - 2) := by revert c; decide +kernel
theorem off2_0 (c : Dev nD) : k1_off2 c 0#32 = chunkOff (pos c - 1) := by revert c; decide +kernel
theorem off2_1 (c : Dev nD) : k1_off2 c 1#32 = chunkOff (pos c - 2) := by revert c; decide +kernel
theorem off2_2 (c : Dev nD) : k1_off2 c 2#32 = chunkOff (pos c - 3) := by revert c; decide +kernel
theorem off3_0 (c : Dev nD) : k1_off3 c 0#32 = chunkOff (pos c - 3) := by revert c; decide +kernel
theorem off3_1 (c : Dev nD) : k1_off3 c 1#32 = chunkOff (pos c - 0) := by revert c; decide +kernel
theorem off3_2 (c : Dev nD) : k1_off3 c 2#32 = chunkOff (pos c - 1) := by revert c; decide +kernel
theorem off4_0 (c : Dev nD) : k1_off4 c 0#32 = chunkOff (pos c - 0) := by revert c; decide +kernel
theorem off4_1 (c : Dev nD) : k1_off4 c 1#32 = chunkOff (pos c - 1) := by revert c; decide +kernel
theorem off4_2 (c : Dev nD) : k1_off4 c 2#32 = chunkOff (pos c - 2) := by revert c; decide +kernel

/-! ## Memory -/

abbrev inM : Memref sig .tc .vmem S512x2048 .bf16 := Memref.whole cc1_stg0_0
abbrev outM : Memref sig .tc .vmem S512x2048 .bf16 := Memref.whole cc1_stg1_0
abbrev sendM : Memref sig .tc .vmem S2x128x2048 .bf16 := Memref.whole cc1_scratch0
abbrev recvM : Memref sig .tc .vmem S2x128x2048 .bf16 := Memref.whole cc1_scratch1

abbrev slot0 : Rect S2x128x2048 := Rect.unit (s := S2x128x2048) ![0, 0, 0] S1x128x2048.size inb_S2x128x2048_S1x128x2048_0_0_0
abbrev slot1 : Rect S2x128x2048 := Rect.unit (s := S2x128x2048) ![1, 0, 0] S1x128x2048.size inb_S2x128x2048_S1x128x2048_1_0_0

abbrev send0 : Memref sig .tc .vmem S128x2048 .bf16 := (sendM.slice slot0 (fun _ => rfl)).squeeze S128x2048 squeezes_S1x128x2048_S128x2048
abbrev send1 : Memref sig .tc .vmem S128x2048 .bf16 := (sendM.slice slot1 (fun _ => rfl)).squeeze S128x2048 squeezes_S1x128x2048_S128x2048
abbrev recv0 : Memref sig .tc .vmem S128x2048 .bf16 := (recvM.slice slot0 (fun _ => rfl)).squeeze S128x2048 squeezes_S1x128x2048_S128x2048
abbrev recv1 : Memref sig .tc .vmem S128x2048 .bf16 := (recvM.slice slot1 (fun _ => rfl)).squeeze S128x2048 squeezes_S1x128x2048_S128x2048

/-! ## Semaphores -/

/-- The cells of one device: the barrier, the credit, the send and the receive semaphores of the two slots. -/
inductive Cell
  | bar | cr | s0 | s1 | r0 | r1
  deriving DecidableEq

abbrev barS : Sem sig := (SemArray.scalar (sig.barrier 0 rfl) : Sems sig S_).sem

abbrev at0 (a : DmaSems sig S2) : DmaSem sig := ((a.slice (Rect.unit (s := S2) ![0] S1.size inb_S2_S1_0)).squeeze S_ squeezes_S1_S_).sem
abbrev at1 (a : DmaSems sig S2) : DmaSem sig := ((a.slice (Rect.unit (s := S2) ![1] S1.size inb_S2_S1_1)).squeeze S_ squeezes_S1_S_).sem

/-- Each cell's semaphore. -/
def csem : Cell → SemLoc sig
  | .bar => .reg barS
  | .cr => .reg cc1_scratch4.sem
  | .s0 => .dma (at0 cc1_scratch2)
  | .s1 => .dma (at1 cc1_scratch2)
  | .r0 => .dma (at0 cc1_scratch3)
  | .r1 => .dma (at1 cc1_scratch3)

def allCells : List Cell := [.bar, .cr, .s0, .s1, .r0, .r1]

theorem mem_allCells (k : Cell) : k ∈ allCells := by cases k <;> decide
theorem nodup_allCells : allCells.Nodup := by decide

instance : Fintype Cell := ⟨allCells.toFinset, fun k => List.mem_toFinset.mpr (mem_allCells k)⟩

/-- The cell a semaphore is, if it is one of the six. -/
def kindOf (sm : SemLoc sig) : Option Cell := allCells.find? fun k => csem k = sm

theorem kindOf_csem (k : Cell) : kindOf (csem k) = some k := by cases k <;> decide +kernel

theorem csem_injective : Function.Injective csem := fun a b h => by
  have := (kindOf_csem a).symm.trans ((congrArg kindOf h).trans (kindOf_csem b))
  exact Option.some.inj this

/-- Device `c`'s cell. -/
abbrev cell (c : Dev nD) (k : Cell) : GSem nD τ sig := ((c : Thread nD τ), csem k)

theorem cell_injective : Function.Injective (fun ck : Dev nD × Cell => cell ck.1 ck.2) := by
  rintro ⟨c, k⟩ ⟨c', k'⟩ h
  have h1 : c = c' := congrArg (fun g : GSem nD τ sig => g.1.1) h
  have h2 : csem k = csem k' := congrArg Prod.snd h
  rw [h1, csem_injective h2]

/-! ## Amounts -/

/-- What a chunk's transfer counts. -/
abbrev N : ℕ := recv0.view.dmaCredit
theorem N_pos : 0 < N := View.dmaCredit_pos _ (by decide)

theorem credit_recv1 : recv1.view.dmaCredit = N := rfl
theorem credit_send0 : send0.view.dmaCredit = N := rfl
theorem credit_send1 : send1.view.dmaCredit = N := rfl

end Cert.WholeProof.Ring

end
-- ==== Proof.Whole.Ring.Slots.lean ====
/-
# Chunks and slots

The ring moves quarters of a slab through the two slots of a send buffer and the two slots of a receive buffer. Owning a
buffer is owning its two slots.
-/
module

public import proofs.«01_k».proof.Proof.Whole.Ring.Mesh

@[expose] public section

noncomputable section

namespace Cert.WholeProof.Ring

open Cert.WholeIdeal Cert.WholeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- A slab's contents, and a chunk's: a quarter of a slab. -/
abbrev Slab (F : FTy → Type) := S512x2048.Idx → Elt F .bf16
abbrev Chunk (F : FTy → Type) := S128x2048.Idx → Elt F .bf16

/-- Row `r` of chunk `a` of a slab. -/
def rowIx (a : Fin 4) (j : S128x2048.Idx) : S512x2048.Idx := fun
  | 0 => ⟨128 * a.val + (j 0).val, by have h : (j 0).val < 128 := (j 0).isLt; have := a.isLt; show 128 * a.val + (j 0).val < 512; omega⟩
  | 1 => ⟨(j 1).val, (j 1).isLt⟩

def chunk (a : Fin 4) (X : Slab F) : Chunk F := fun j => X (rowIx a j)

/-- Device `c` owns a memref at contents; or at some contents. -/
abbrev own {s : Shape} (c : Dev nD) (M : Memref sig .tc .vmem s .bf16) (X : s.Idx → Elt F .bf16) : sProp 𝕄 :=
  owns (c : Thread nD τ) M fullShare X
abbrev anyOf {s : Shape} (c : Dev nD) (M : Memref sig .tc .vmem s .bf16) : sProp 𝕄 := iprop(∃ Y, own (F := F) c M Y)

theorem own_elim {s : Shape} (c : Dev nD) (M : Memref sig .tc .vmem s .bf16) (X : s.Idx → Elt F .bf16) :
    own (F := F) c M X ⊢ iprop(∃ f, ⌜M.view.read (Elt F) f = X⌝ ∗ (M.view.loc (c : Thread nD τ) ↦[M.view.set]{fullShare} f)) := .rfl

theorem any_of {s : Shape} (c : Dev nD) (M : Memref sig .tc .vmem s .bf16) (X : s.Idx → Elt F .bf16) :
    own (F := F) c M X ⊢ anyOf c M := by
  iintro H; iexists X; iexact H

/-- A memref with an element is not owned twice. -/
theorem any_any_false {s : Shape} (c : Dev nD) (M : Memref sig .tc .vmem s .bf16) (x : s.Idx) :
    iprop(anyOf (F := F) c M ∗ anyOf (F := F) c M) ⊢ (False : sProp 𝕄) := by
  iintro ⟨⟨%Y, H⟩, ⟨%Z, H'⟩⟩
  ihave H := (own_elim c M Y) $$ H
  icases H with ⟨%f, -, H⟩
  ihave H' := (own_elim c M Z) $$ H'
  icases H' with ⟨%g, -, H'⟩
  iapply (pointsTo_full_full_false (ℓ := M.view.loc (c : Thread nD τ)) (I := M.view.set) (J := M.view.set) (i := M.view.emb x) (M.view.emb_mem_set x) (M.view.emb_mem_set x))
  isplitl [H] <;> iassumption

section Slot

variable (B : Memref sig .tc .vmem S2x128x2048 .bf16) (k : ℕ)
  (hs : ∀ a, (![k, 0, 0] : Fin 3 → ℕ) a + S1x128x2048.size a ≤ S2x128x2048.size a)

/-- Slot `k` of a buffer. -/
abbrev slotM : Memref sig .tc .vmem S128x2048 .bf16 :=
  (B.slice (Rect.unit (s := S2x128x2048) ![k, 0, 0] S1x128x2048.size hs) (fun _ => rfl)).squeeze S128x2048 squeezes_S1x128x2048_S128x2048

theorem set_slotM : (slotM B k hs).view.set = (Rect.unit (s := S2x128x2048) ![k, 0, 0] S1x128x2048.size hs).set.map B.view.emb := by
  rw [← View.set_slice]; exact View.set_reshape _ _

end Slot

/-- The two slots tile the buffer. -/
theorem rect_two : (Finset.univ : Finset S2x128x2048.Idx) = slot0.set ∪ slot1.set := by
  ext i
  simp only [Finset.mem_univ, true_iff, Finset.mem_union, Rect.mem_set_unit, Fin.forall_fin_succ, S1x128x2048, Matrix.cons_val_zero, Matrix.cons_val_succ,
    IsEmpty.forall_iff, and_true, Fin.succ_zero_eq_one]
  have h0 : (i 0).val < 2 := (i 0).isLt
  have h1 : (i 1).val < 128 := (i 1).isLt
  have h2 : (i 2).val < 2048 := (i 2).isLt
  show ((0 ≤ (i 0).val ∧ (i 0).val < 0 + 1) ∧ (0 ≤ (i 1).val ∧ (i 1).val < 0 + 128) ∧ (0 ≤ (i 2).val ∧ (i 2).val < 0 + 2048))
    ∨ ((1 ≤ (i 0).val ∧ (i 0).val < 1 + 1) ∧ (0 ≤ (i 1).val ∧ (i 1).val < 0 + 128) ∧ (0 ≤ (i 2).val ∧ (i 2).val < 0 + 2048))
  omega

theorem disj_01 : Disjoint slot0.set slot1.set := Rect.unit_disjoint (a := 0) (Or.inl (le_refl 1))

section Two

variable (B : Memref sig .tc .vmem S2x128x2048 .bf16)

abbrev s0 := slotM B 0 inb_S2x128x2048_S1x128x2048_0_0_0
abbrev s1 := slotM B 1 inb_S2x128x2048_S1x128x2048_1_0_0

theorem set_two : B.view.set = (s0 B).view.set ∪ (s1 B).view.set := by
  rw [set_slotM, set_slotM, ← Finset.map_union, ← rect_two]; rfl
theorem disj_two : Disjoint (s0 B).view.set (s1 B).view.set := by
  rw [set_slotM, set_slotM, Finset.disjoint_map]; exact disj_01

variable (c : Dev nD)

/-- A buffer owned is its two slots owned, -/
theorem any_two : iprop(∃ f, (B.view.loc (c : Thread nD τ) ↦[B.view.set]{fullShare} f))
    ⊢ iprop(anyOf (F := F) c (s0 B) ∗ anyOf (F := F) c (s1 B)) := by
  iintro ⟨%f, H⟩
  rw [set_two B]
  ihave H' := (pointsTo_union (disj_two B)).1 $$ H
  icases H' with ⟨H0, H1⟩
  isplitl [H0]
  · iexists (s0 B).view.read (Elt F) f; iapply (owns_intro (c : Thread nD τ) (s0 B) fullShare f); iexact H0
  · iexists (s1 B).view.read (Elt F) f; iapply (owns_intro (c : Thread nD τ) (s1 B) fullShare f); iexact H1

/-- and back. -/
theorem of_two : iprop(anyOf (F := F) c (s0 B) ∗ anyOf (F := F) c (s1 B))
    ⊢ iprop(∃ f, (B.view.loc (c : Thread nD τ) ↦[B.view.set]{fullShare} f)) := by
  iintro ⟨⟨%X0, H0⟩, ⟨%X1, H1⟩⟩
  ihave H0 := (own_elim c (s0 B) X0) $$ H0
  icases H0 with ⟨%f0, -, H0⟩
  ihave H1 := (own_elim c (s1 B) X1) $$ H1
  icases H1 with ⟨%f1, -, H1⟩
  ihave H := (pointsTo_join (ℓ := B.view.loc (c : Thread nD τ)) (disj_two B)) $$ [H0 H1]
  · isplitl [H0] <;> iassumption
  rw [← set_two B]
  iexists _
  iexact H

end Two

end Cert.WholeProof.Ring

end
-- ==== Proof.Whole.Ring.Sched.lean ====
/-
# The all-reduce's schedule

What travels round the ring; which cell is paid by whom, in which round, with what; what each device owes at launch and
in which order; the levels.
-/
module

public import proofs.«01_k».proof.Proof.Whole.Ring.Slots

@[expose] public section

noncomputable section

namespace Cert.WholeProof.Ring

open Cert.WholeIdeal Cert.WholeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev ER : Emb U1 (MT nD τ sig ℕ (Elt F) ℕ UU ℕ) := E1

-- `X`: the slab each device contributes
variable (X : Dev nD → Slab F)

/-! ## What travels

Each chunk starts at the device of its number and goes round the ring, every device adding its own; after three hops it
is complete, and three more hops bring it to everyone. -/

/-- Chunk `a` as device `c` has it after adding its own to what `k` devices before it added. -/
def acc : ℕ → Dev nD → Fin 4 → Chunk F
  | 0, c, a => chunk a (X c)
  | k + 1, c, a => addf (chunk a (X c) : FVec F S128x2048 .bf16) (acc k (pred c) a : FVec F S128x2048 .bf16)

/-- What device `c` sends at each of the six steps. -/
def sent (c : Dev nD) : ℕ → Chunk F
  | 0 => acc X 0 c (pos c - 0)
  | 1 => acc X 1 c (pos c - 1)
  | 2 => acc X 2 c (pos c - 2)
  | 3 => acc X 3 c (pos c - 3)
  | 4 => acc X 3 (pred c) (pos c - 0)
  | _ => acc X 3 (pred (pred c)) (pos c - 1)

theorem recv_acc0 (c : Dev nD) : addf (chunk (pos c - 1) (X c) : FVec F S128x2048 .bf16) (sent X (pred c) 0) = acc X 1 c (pos c - 1) := by
  show addf _ (acc X 0 (pred c) (pos (pred c) - 0)) = addf _ _
  rw [pos_pred, sub_zero]
theorem recv_acc1 (c : Dev nD) : addf (chunk (pos c - 2) (X c) : FVec F S128x2048 .bf16) (sent X (pred c) 1) = acc X 2 c (pos c - 2) := by
  show addf _ (acc X 1 (pred c) (pos (pred c) - 1)) = addf _ _
  rw [pos_pred, show pos c - 1 - 1 = pos c - 2 from by generalize pos c = p; revert p; decide]
theorem recv_acc2 (c : Dev nD) : addf (chunk (pos c - 3) (X c) : FVec F S128x2048 .bf16) (sent X (pred c) 2) = acc X 3 c (pos c - 3) := by
  show addf _ (acc X 2 (pred c) (pos (pred c) - 2)) = addf _ _
  rw [pos_pred, show pos c - 1 - 2 = pos c - 3 from by generalize pos c = p; revert p; decide]
theorem recv_full0 (c : Dev nD) : sent X (pred c) 3 = acc X 3 (pred c) (pos c - 0) := by
  show acc X 3 (pred c) (pos (pred c) - 3) = _
  rw [pos_pred, show pos c - 1 - 3 = pos c - 0 from by generalize pos c = p; revert p; decide]
theorem recv_full1 (c : Dev nD) : sent X (pred c) 4 = acc X 3 (pred (pred c)) (pos c - 1) := by
  show acc X 3 (pred (pred c)) (pos (pred c) - 0) = _
  rw [pos_pred, sub_zero]
theorem recv_full2 (c : Dev nD) : sent X (pred c) 5 = acc X 3 (pred (pred (pred c))) (pos c - 2) := by
  show acc X 3 (pred (pred (pred c))) (pos (pred c) - 1) = _
  rw [pos_pred, show pos c - 1 - 1 = pos c - 2 from by generalize pos c = p; revert p; decide]

/-! ## Slots given back

A device that has read a slot of its receive buffer at step `d ≤ 3` gives it back under the key of that step, for the
device before to take again. -/

/-- The receive slot of step `d`, at some contents. -/
def slotAt (b : Dev nD) : ℕ → sProp 𝕄
  | 0 => anyOf (F := F) b recv0
  | 1 => anyOf (F := F) b recv1
  | 2 => anyOf (F := F) b recv0
  | _ => anyOf (F := F) b recv1

instance slotAt_storable (b : Dev nD) (d : ℕ) : BI.Storable (upEmb : UEmb _ 𝕄) (slotAt (F := F) b d) := by
  unfold slotAt; split <;> infer_instance

theorem slotAt_false (b : Dev nD) (d : ℕ) : iprop(slotAt (F := F) b d ∗ slotAt (F := F) b d) ⊢ (False : sProp 𝕄) := by
  have x : S128x2048.Idx := fun | 0 => ⟨0, by decide⟩ | 1 => ⟨0, by decide⟩
  unfold slotAt
  split <;> exact any_any_false b _ x

/-- The receive cell of that slot. -/
def rcell : ℕ → Cell
  | 0 => .r0
  | 1 => .r1
  | 2 => .r0
  | _ => .r1

/-- Device `b` has given back the slot of step `d`, its receive cell being past that step's round; -/
abbrev freed (b : Dev nD) (d : ℕ) : sProp 𝕄 := iprop(Release.released (ES (F := F)) (b, d) 1 ∗ reached ER (cell b (rcell d)) (d / 2 + 1))
/-- and those of all steps up to `d`. -/
def freedTo (b : Dev nD) : ℕ → sProp 𝕄
  | 0 => freed (F := F) b 0
  | d + 1 => iprop(freedTo b d ∗ freed (F := F) b (d + 1))

instance freedTo_persistent (b : Dev nD) (d : ℕ) : BI.Persistent (freedTo (F := F) b d) := by
  induction d with
  | zero => unfold freedTo; infer_instance
  | succ d ih => unfold freedTo; infer_instance
instance freedTo_storable (b : Dev nD) (d : ℕ) : BI.Storable (upEmb : UEmb _ 𝕄) (freedTo (F := F) b d) := by
  induction d with
  | zero => unfold freedTo; infer_instance
  | succ d ih => unfold freedTo; infer_instance

theorem freedTo_at (b : Dev nD) {e d : ℕ} (h : e ≤ d) : freedTo (F := F) b d ⊢ freed b e := by
  induction d with
  | zero => obtain rfl := Nat.le_zero.mp h; exact .rfl
  | succ d ih =>
    rcases Nat.lt_or_ge d e with h' | h'
    · obtain rfl : e = d + 1 := by omega
      show iprop(_ ∗ _) ⊢ _
      iintro ⟨-, H⟩
      iexact H
    · refine .trans ?_ (ih h')
      show iprop(_ ∗ _) ⊢ _
      iintro ⟨H, -⟩
      iexact H

/-! ## The rounds -/

/-- The duties of round `r` of a cell: the barrier has one of each neighbour, the credit one of each step that gives a
    slot back, a slot's send and receive cells one in each of the three rounds the slot is used. -/
def dut : Cell → ℕ → Finset ℕ
  | .bar, 0 => {0, 1}
  | .cr, 0 => {0, 1, 2, 3}
  | .bar, _ + 1 => ∅
  | .cr, _ + 1 => ∅
  | _, 0 => {0}
  | _, 1 => {0}
  | _, 2 => {0}
  | _, _ + 3 => ∅

/-- The units of each duty of a cell. -/
def amt : Cell → ℕ
  | .bar => 1
  | .cr => 1
  | _ => N

theorem amt_pos (k : Cell) : 0 < amt k := by
  unfold amt; split <;> first | exact Nat.one_pos | exact N_pos

/-- What each duty hands the owner `c`. A barrier's duty `0` comes from the next device and hands its receive
    slots with the news that their cells are open; duty `1` comes from the device before with that of its credit's. A
    receive hands the chunk received, a send the source back, a credit the news of what the next device has given back. -/
def pay (k : Cell) (c : Dev nD) (r : ℕ) (d : ℕ) : sProp 𝕄 :=
  match k, d with
  | .bar, 0 => iprop((anyOf (F := F) (succ c) recv0 ∗ anyOf (F := F) (succ c) recv1) ∗ reached ER (cell (succ c) .r0) 0 ∗ reached ER (cell (succ c) .r1) 0)
  | .bar, 1 => reached ER (cell (pred c) .cr) 0
  | .cr, d => freedTo (succ c) d
  | .s0, _ => anyOf (F := F) c send0
  | .s1, _ => anyOf (F := F) c send1
  | .r0, _ => own c recv0 (sent X (pred c) (2 * r))
  | .r1, _ => own c recv1 (sent X (pred c) (2 * r + 1))
  | _, _ => iprop(emp)

instance pay_storable (k : Cell) (c : Dev nD) (r : ℕ) (d : ℕ) : BI.Storable (upEmb : UEmb _ 𝕄) (pay X k c r d) := by
  unfold pay; split <;> infer_instance

def ringRd : Schedule (GSem nD τ sig) ℕ 𝕄 where
  duties g r := if g.1.2 = .tc then (match kindOf g.2 with | some k => dut k r | none => ∅) else ∅
  amount g r _ := match kindOf g.2 with | some k => amt k | none => 1
  payload g r d := match kindOf g.2 with | some k => pay X k g.1.1 r d | none => iprop(emp)
  amount_pos g r d _ := by cases kindOf g.2 with | some k => exact amt_pos k | none => exact Nat.one_pos

instance ringRd_storable (g : GSem nD τ sig) (r : ℕ) (d : ℕ) : BI.Storable (upEmb : UEmb _ 𝕄) ((ringRd X).payload g r d) := by
  show BI.Storable upEmb (match kindOf g.2 with | some k => pay X k g.1.1 r d | none => iprop(emp))
  split <;> infer_instance

section At
variable (c : Dev nD) (k : Cell) (r : ℕ)

theorem duties_at : (ringRd X).duties (cell c k) r = dut k r := by
  show (if (c : Thread nD τ).2 = .tc then (match kindOf (csem k) with | some k => dut k r | none => ∅) else ∅) = _
  rw [if_pos rfl, kindOf_csem]
theorem amount_at (d : ℕ) : (ringRd X).amount (cell c k) r d = amt k := by
  show (match kindOf (csem k) with | some k => amt k | none => 1) = _
  rw [kindOf_csem]
theorem payload_at (d : ℕ) : (ringRd X).payload (cell c k) r d = pay X k c r d := by
  show (match kindOf (csem k) with | some k => pay X k c r d | none => iprop(emp)) = _
  rw [kindOf_csem]
theorem expect_at : (ringRd X).expect (cell c k) r = (dut k r).card * amt k := by
  unfold Schedule.expect Schedule.amountOf
  rw [duties_at, Finset.sum_congr rfl fun d _ => amount_at X c k r d, Finset.sum_const, smul_eq_mul]
theorem expect_one (h : dut k r = {0}) : (ringRd X).expect (cell c k) r = amt k := by
  rw [expect_at, h, Finset.card_singleton, Nat.one_mul]
theorem rest_one (h : dut k r = {0}) :
    bigSep ((ringRd X).duties (cell c k) r \ ∅) (fun d => (ringRd X).payload (cell c k) r d) = pay X k c r 0 := by
  rw [Finset.sdiff_empty, duties_at, h, bigSep_singleton, payload_at]

/-- The number of rounds of a cell. -/
def rounds : Cell → ℕ
  | .bar => 1
  | .cr => 1
  | _ => 3

theorem duties_later : ∀ r, rounds k ≤ r → (ringRd X).duties (cell c k) r = ∅ := fun r hr => by
  rw [duties_at]
  match k, r, hr with
  | .bar, r + 1, _ => rfl
  | .cr, r + 1, _ => rfl
  | .s0, r + 3, _ | .s1, r + 3, _ | .r0, r + 3, _ | .r1, r + 3, _ => rfl

end At

/-! ## What each device owes, and the levels

A device's payments to others' cells, in the order it makes them, before those of later calls, each at an index that is also its level: levels rise
along that order, step by step. Staging and the device's own sends are at index 0. -/

abbrev dues (c : Dev nD) (tl : List (TalkSites.Pay nD τ sig)) : List (TalkSites.Pay nD τ sig) :=
  (cell (pred c) .bar, 1, 1) :: (cell (succ c) .bar, 1, 1) ::
  (cell (succ c) .r0, 2, N) :: (cell (pred c) .cr, 3, 1) ::
  (cell (succ c) .r1, 4, N) :: (cell (pred c) .cr, 5, 1) ::
  (cell (succ c) .r0, 6, N) :: (cell (pred c) .cr, 7, 1) ::
  (cell (succ c) .r1, 8, N) :: (cell (pred c) .cr, 9, 1) ::
  (cell (succ c) .r0, 10, N) :: (cell (succ c) .r1, 11, N) :: tl

/-! ## The records -/

/-- Every cell's invariant, that every barrier's round 0 is reached, every slot's invariant, and the levels. -/
def records (K : Dev nD × Cell → ℕ) (J : Dev nD × ℕ → ℕ) : sProp 𝕄 :=
  iprop((bigSep Finset.univ fun ck : Dev nD × Cell => cellInv ER (ringRd X) (K ck) (cell ck.1 ck.2))
    ∗ (bigSep Finset.univ fun b : Dev nD => reached ER (cell b .bar) 0)
    ∗ (bigSep (Finset.univ ×ˢ Finset.range 4) fun bd : Dev nD × ℕ => Release.slotInv ES (J bd) bd (slotAt bd.1 bd.2))
    ∗ levs (F := F))

instance records_persistent (K : Dev nD × Cell → ℕ) (J : Dev nD × ℕ → ℕ) : BI.Persistent (records X K J) := by unfold records; infer_instance

section Records
variable (K : Dev nD × Cell → ℕ) (J : Dev nD × ℕ → ℕ) (c : Dev nD)

theorem records_inv (k : Cell) : records X K J ⊢ cellInv ER (ringRd X) (K (c, k)) (cell c k) := by
  unfold records
  iintro ⟨H, -, -, -⟩
  iapply (show _ ⊢ _ from bigSep_elim (Finset.mem_univ (c, k))) $$ H
theorem records_reached : records X K J ⊢ reached ER (cell c .bar) 0 := by
  unfold records
  iintro ⟨-, H, -, -⟩
  iapply (show _ ⊢ _ from bigSep_elim (Finset.mem_univ c)) $$ H
theorem records_slot {d : ℕ} (hd : d < 4) : records X K J ⊢ Release.slotInv ES (J (c, d)) (c, d) (slotAt c d) := by
  unfold records
  iintro ⟨-, -, H, -⟩
  iapply (show _ ⊢ _ from bigSep_elim (Finset.mem_product.mpr ⟨Finset.mem_univ c, Finset.mem_range.mpr hd⟩ : (c, d) ∈ Finset.univ ×ˢ Finset.range 4)) $$ H
theorem records_lev : records X K J ⊢ levs (F := F) := by
  unfold records
  iintro ⟨-, -, -, H⟩
  iexact H

end Records

end Cert.WholeProof.Ring

end
-- ==== Proof.Whole.Ring.Steps.lean ====
/-
# The steps

One rule for each kind of operation the all-reduce performs, stated on what a device holds.
-/
module

public import proofs.«01_k».proof.Proof.Whole.Ring.Sched

@[expose] public section

noncomputable section

namespace Cert.WholeProof.Ring

open Cert.WholeIdeal Cert.WholeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

local notation "𝕎" => wpE (defs₀ (F := F)) 𝒱₀

variable (X : Dev nD → Slab F)

set_option maxRecDepth 100000

theorem drop_emp {P : sProp 𝕄} : iprop(P ∗ emp) ⊢ P := by
  iintro ⟨H, -⟩
  iexact H

section Steps

variable {K : Dev nD × Cell → ℕ} {J : Dev nD × ℕ → ℕ} {c : Dev nD}

/-- A signal: the head of the dues is paid with its token and payload. -/
theorem step_signal {α : Type} {Q : α → sProp 𝕄} {k : Cell} {sem : Sem sig} (hs : csem k = .reg sem) {c' d' : Dev nD} (hn : d' = c') {d : ℕ} (hd : d ∈ dut k 0)
    {n : ℕ} (hk : amt k = n) {i : ℕ} {l : List (TalkSites.Pay nD τ sig)} {cont : PUnit → Prog (TpuEff nD τ sig (Elt F) Λ₀ .tc) α} :
    records X K J ⊢ iprop(due (F := F) c ((cell c' k, i, n) :: l) -∗ dutyTok ER (cell c' k) 0 d -∗ reached ER (cell c' k) 0 -∗ pay X k c' 0 d
      -∗ (due (F := F) c l -∗ wp frame (𝕎 (c : Thread nD τ) none) Set.univ (cont ⟨⟩) Q)
      -∗ wp frame (𝕎 (c : Thread nD τ) none) Set.univ (.op (.semSignal (d' : Thread nD τ) sem n) cont) Q) := by
  subst hn
  have hc : cell d' k = ((d' : Thread nD τ), .reg sem) := by show (_, csem k) = _; rw [hs]
  have hd' := (duties_at X d' k 0).symm ▸ hd
  have hk' := (amount_at X d' k 0 d).trans hk
  have hp := payload_at X d' k 0 d
  have hi := records_inv X K J d' k
  rw [hc] at hd' hk' hp hi
  unfold due
  rw [hc, ← hp]
  iintro #HR ⟨%W, HO⟩ HT Hr HP Hk
  iapply (Rounds.wp_signal 𝒱₀ ER (ringRd X) (c : Thread nD τ) none (dst := (d' : Thread nD τ)) (κ := K (d', k)) (d := d) hd' hk' i
    (TalkSites.tallyL l) (add_comm _ _)) $$ [HO HT HP Hr]
  · isplitr; · iapply hi; iexact HR
    isplitl [HO]; · iexact HO
    isplitl [HT]; · iexact HT
    isplitl [HP]; · iexact HP
    iexact Hr
  iintro HO
  iapply Hk
  iexists W
  iexact HO

/-- A remote copy: the source goes with the send, the destination with the landing. -/
theorem step_copy {α : Type} {Q : α → sProp 𝕄} {s : Shape} {src dst : Memref sig .tc .vmem s .bf16} (Y : s.Idx → Elt F .bf16)
    (kS kR : Cell) (rS rR : ℕ) {sS sR : DmaSem sig} (hS : csem kS = .dma sS) (hR : csem kR = .dma sR) {c' d' : Dev nD} (hn : d' = c')
    (hdS : dut kS rS = {0}) (hdR : dut kR rR = {0}) {n : ℕ} (hN : dst.view.dmaCredit = n) (hkS : amt kS = n) (hkR : amt kR = n)
    (hpS : own c src Y ⊢ pay X kS c rS 0) (hpR : own c' dst Y ⊢ pay X kR c' rR 0)
    {i : ℕ} {l : List (TalkSites.Pay nD τ sig)} {cont : PUnit → Prog (TpuEff nD τ sig (Elt F) Λ₀ .tc) α}
    {hsc : dst.view.ref.isScScratch = false} {hsrc : src.view.WordExact} {hdst : dst.view.WordExact}
    {hsem : DmaTarget.Typed .vmem (.dma sR) (.remote (d' : Thread nD τ) dst (.dma sS) hsc)} :
    records X K J ⊢ iprop(own c src Y -∗ anyOf (F := F) c' dst -∗ due (F := F) c ((cell c' kR, i, n) :: l)
      -∗ dutyTok ER (cell c kS) rS 0 -∗ reached ER (cell c kS) rS -∗ dutyTok ER (cell c' kR) rR 0 -∗ reached ER (cell c' kR) rR
      -∗ ((cred (tallyAt (cell c kS) 0 n) ∗ due (F := F) c l) -∗ wp frame (𝕎 (c : Thread nD τ) none) Set.univ (cont ⟨⟩) Q)
      -∗ wp frame (𝕎 (c : Thread nD τ) none) Set.univ
          (.op (.enqueueDma src (.remote (d' : Thread nD τ) dst (.dma sS) hsc) (.dma sR) hsrc hdst hsem) cont) Q) := by
  subst hn
  have hcS : cell c kS = ((c : Thread nD τ), .dma sS) := by show (_, csem kS) = _; rw [hS]
  have hcR : cell d' kR = ((d' : Thread nD τ), .dma sR) := by show (_, csem kR) = _; rw [hR]
  have hdS' : 0 ∈ (ringRd X).duties (cell c kS) rS := by rw [duties_at, hdS]; exact Finset.mem_singleton_self _
  have hdR' : 0 ∈ (ringRd X).duties (cell d' kR) rR := by rw [duties_at, hdR]; exact Finset.mem_singleton_self _
  have hkS' := (amount_at X c kS rS 0).trans hkS
  have hkR' := (amount_at X d' kR rR 0).trans hkR
  rw [← payload_at X c kS rS 0] at hpS
  rw [← payload_at X d' kR rR 0] at hpR
  have hiS := records_inv X K J c kS
  have hiR := records_inv X K J d' kR
  rw [hcS] at hdS' hkS' hpS hiS
  rw [hcR] at hdR' hkR' hpR hiR
  unfold due
  rw [hcS, hcR]
  iintro #HR HS ⟨%Z, HD⟩ ⟨%W, HO⟩ HtS HrS HtR HrR Hk
  ihave HS := (own_elim c src Y) $$ HS
  icases HS with ⟨%fs, %hfs, HS⟩
  ihave HD := (own_elim d' dst Z) $$ HD
  icases HD with ⟨%fd, -, HD⟩
  iapply (Rounds.wp_send_pointsTo_with 𝒱₀ ER (ringRd X) (c : Thread nD τ) none (c' := (d' : Thread nD τ)) (κ₁ := K (c, kS)) (κ₂ := K (d', kR)) (F := iprop(emp)) (fs := fs) (fd := fd) hdS' hdR' i 0 n
    hN hkS' hkR' (TalkSites.tallyL l) (add_comm _ _) (W := W)
    ((hfs ▸ owns_intro (c : Thread nD τ) src fullShare fs : _ ⊢ own c src Y).trans hpS)
    ((sep_mono_left (by
      have h := owns_intro (Ix := ℕ) (Name := ℕ) (U := UU) (Lvl := ℕ) (Val := Elt F) (d' : Thread nD τ) dst fullShare (dst.view.write (Elt F) fd (src.view.read (Elt F) fs) Finset.univ)
      rw [View.read_write_univ, hfs] at h
      rw [hfs]
      exact h)).trans (drop_emp.trans hpR))) $$ [HS HD HO HtS HrS HtR HrR]
  · isplitr; · iapply hiS; iexact HR
    isplitr; · iapply hiR; iexact HR
    isplitl [HS]; · iexact HS
    isplitl [HD]
    · isplitl [HD]; · iexact HD
      iempintro
    isplitl [HO]; · iexact HO
    isplitl [HtS]; · iexact HtS
    isplitl [HrS]; · iexact HrS
    isplitl [HtR]; · iexact HtR
    iexact HrR
  iintro ⟨HC, HO⟩
  iapply Hk
  isplitl [HC]; · iexact HC
  iexists W
  iexact HO

/-- A wait for a round with one duty: its payload. -/
theorem step_wait {α : Type} {Q : α → sProp 𝕄} {w : TpuEff nD τ sig (Elt F) Λ₀ .tc PUnit} (k : Cell) {sm : SemLoc sig} (hs : csem k = sm) (r : ℕ) {n : ℕ}
    (hw : ∀ Kf : PUnit → sProp 𝕄, 𝕎 (c : Thread nD τ) none Set.univ w Kf = waitSpec (c : Thread nD τ) Set.univ sm n Kf)
    (hd : dut k r = {0}) (hn : n = amt k) (i : ℕ) (hi : i < levels) {l : List (TalkSites.Pay nD τ sig)} (hl : AllAbove i l)
    {cont : PUnit → Prog (TpuEff nD τ sig (Elt F) Λ₀ .tc) α} :
    records X K J ⊢ iprop(due (F := F) c l -∗ cred (tallyAt (cell c k) i n) -∗ atPos ER (cell c k) r ∅ 0
      -∗ ((due (F := F) c l ∗ atPos ER (cell c k) (r + 1) ∅ 0 ∗ reached ER (cell c k) (r + 1) ∗ pay X k c r 0)
          -∗ wp frame (𝕎 (c : Thread nD τ) none) Set.univ (cont ⟨⟩) Q)
      -∗ wp frame (𝕎 (c : Thread nD τ) none) Set.univ (.op w cont) Q) := by
  have hc : cell c k = ((c : Thread nD τ), sm) := by show (_, csem k) = _; rw [hs]
  have he := expect_one X c k r hd
  have hp := rest_one X c k r hd
  have hinv := records_inv X K J c k
  have hm := (records_lev X K J).trans (mayWait (F := F) c sm hi hl)
  rw [hc] at he hp hinv
  unfold due
  rw [hc, ← hp]
  iintro #HR ⟨%W, HO⟩ HC HA Hk
  iapply (Rounds.wp_wait_rest_token 𝒱₀ ER (ringRd X) (c : Thread nD τ) none (κ := K (c, k)) hw (Set.mem_univ _) i
    (O := TalkSites.tallyL l) (W := W) (R := r) (m := 0) (T := ∅) (by rw [he, hn, Nat.zero_add])) $$ [HC HO HA]
  · isplitr; · iapply hinv; iexact HR
    isplitl [HC]; · iexact HC
    isplitl [HO]; · iexact HO
    isplitr; · iapply hm; iexact HR
    iexact HA
  iintro ⟨HO, HA, Hr, HP⟩
  iapply Hk
  isplitl [HO]; · iexists _; iexact HO
  isplitl [HA]; · iexact HA
  isplitl [Hr]; · iexact Hr
  iexact HP

/-- A wait for a copy's bytes, on a round with one duty. -/
theorem step_wait_dma {α : Type} {Q : α → sProp 𝕄} (k : Cell) {sem : DmaSem sig} (hs : csem k = .dma sem) (r : ℕ) {s : Shape}
    (dst : Memref sig .tc .vmem s .bf16) {src : Memref sig .tc .vmem s .bf16} {n : ℕ} (hN : dst.view.dmaCredit = n) (hn : n = amt k)
    (hd : dut k r = {0}) (i : ℕ) (hi : i < levels) {l : List (TalkSites.Pay nD τ sig)} (hl : AllAbove i l)
    {hsrc : src.view.WordExact} {hdst : dst.view.WordExact}
    {cont : PUnit → Prog (TpuEff nD τ sig (Elt F) Λ₀ .tc) α} :
    records X K J ⊢ iprop(due (F := F) c l -∗ cred (tallyAt (cell c k) i n) -∗ atPos ER (cell c k) r ∅ 0
      -∗ ((due (F := F) c l ∗ atPos ER (cell c k) (r + 1) ∅ 0 ∗ reached ER (cell c k) (r + 1) ∗ pay X k c r 0)
          -∗ wp frame (𝕎 (c : Thread nD τ) none) Set.univ (cont ⟨⟩) Q)
      -∗ wp frame (𝕎 (c : Thread nD τ) none) Set.univ (.op (.waitDma2 sem src dst hsrc hdst) cont) Q) :=
  step_wait X k hs r (fun Kf => (wpE_waitDma2_eq 𝒱₀ (c : Thread nD τ) none Set.univ Kf).trans (by rw [hN])) hd hn i hi hl

/-- The barrier's wait: what both neighbours hand. -/
theorem step_barrier {α : Type} {Q : α → sProp 𝕄} {w : TpuEff nD τ sig (Elt F) Λ₀ .tc PUnit} {n : ℕ}
    (hw : ∀ Kf : PUnit → sProp 𝕄, 𝕎 (c : Thread nD τ) none Set.univ w Kf = waitSpec (c : Thread nD τ) Set.univ (csem .bar) n Kf)
    (hn : n = 2) (i : ℕ) (hi : i < levels) {l : List (TalkSites.Pay nD τ sig)} (hl : AllAbove i l)
    {cont : PUnit → Prog (TpuEff nD τ sig (Elt F) Λ₀ .tc) α} :
    records X K J ⊢ iprop(due (F := F) c l -∗ cred (tallyAt (cell c .bar) i 2) -∗ atPos ER (cell c .bar) 0 ∅ 0
      -∗ ((due (F := F) c l ∗ atPos ER (cell c .bar) 1 ∅ 0 ∗ pay X .bar c 0 0 ∗ pay X .bar c 0 1)
          -∗ wp frame (𝕎 (c : Thread nD τ) none) Set.univ (cont ⟨⟩) Q)
      -∗ wp frame (𝕎 (c : Thread nD τ) none) Set.univ (.op w cont) Q) := by
  subst hn
  have he : (ringRd X).expect (cell c .bar) 0 = 2 := expect_at X c .bar 0
  have hp : bigSep ((ringRd X).duties (cell c .bar) 0 \ ∅) (fun d => (ringRd X).payload (cell c .bar) 0 d) = iprop(pay X .bar c 0 0 ∗ pay X .bar c 0 1) := by
    rw [Finset.sdiff_empty, duties_at, bigSep_eq_bigSepL_of_eq [0, 1] (by decide) (by decide), bigSepL_cons_cons, bigSepL_singleton, payload_at, payload_at]; rfl
  have hm := (records_lev X K J).trans (mayWait (F := F) c (csem .bar) hi hl)
  unfold due
  rw [← hp]
  iintro #HR ⟨%W, HO⟩ HC HA Hk
  iapply (Rounds.wp_wait_rest_token 𝒱₀ ER (ringRd X) (c : Thread nD τ) none (κ := K (c, .bar)) hw (Set.mem_univ _) i
    (O := TalkSites.tallyL l) (W := W) (R := 0) (m := 0) (T := ∅) (by rw [he])) $$ [HC HO HA]
  · isplitr; · iapply (records_inv X K J c .bar); iexact HR
    isplitl [HC]; · iexact HC
    isplitl [HO]; · iexact HO
    isplitr; · iapply hm; iexact HR
    iexact HA
  iintro ⟨HO, HA, Hr, HP⟩
  iapply Hk
  isplitl [HO]; · iexists _; iexact HO
  isplitl [HA]; · iexact HA
  iexact HP

/-- Device `c` has taken `m` credits: from some of the duties, at least `m`, with what they said. -/
def credits (c : Dev nD) (m : ℕ) : sProp 𝕄 :=
  iprop(∃ T : Finset ℕ, ⌜m ≤ T.card⌝ ∗ atPos ER (cell c .cr) 0 T m ∗ bigSep T (fun d => freedTo (F := F) (succ c) d))

/-- Of more than `m` duties one has a number at least `m`, and says that the slot of step `m` is given back. -/
theorem heard (b : Dev nD) {T : Finset ℕ} {m : ℕ} (h : m < T.card) : bigSep T (fun d => freedTo (F := F) b d) ⊢ freed b m := by
  have hex : ∃ d ∈ T, m ≤ d := by
    by_contra hne
    have hs : T ⊆ Finset.range m := fun d hd => Finset.mem_range.mpr (Nat.lt_of_not_le fun hle => hne ⟨d, hd, hle⟩)
    have := Finset.card_le_card hs
    rw [Finset.card_range] at this
    omega
  obtain ⟨d, hd, hm⟩ := hex
  exact (bigSep_elim hd).trans (freedTo_at b hm)

instance heards_persistent (b : Dev nD) (T : Finset ℕ) : BI.Persistent (bigSep T (fun d => freedTo (F := F) b d)) := by infer_instance

theorem pay_credits (T : Finset ℕ) : bigSep T (fun d => (ringRd X).payload (cell c .cr) 0 d) = bigSep T (fun d => freedTo (F := F) (succ c) d) :=
  congrArg (bigSep T) (funext fun d => payload_at X c .cr 0 d)

/-- A credit's wait before the last: one more of the slots is known to be given back. -/
theorem step_credit {α : Type} {Q : α → sProp 𝕄} {w : TpuEff nD τ sig (Elt F) Λ₀ .tc PUnit} {n : ℕ}
    (hw : ∀ Kf : PUnit → sProp 𝕄, 𝕎 (c : Thread nD τ) none Set.univ w Kf = waitSpec (c : Thread nD τ) Set.univ (csem .cr) n Kf)
    (hn : n = 1) (m : ℕ) (i : ℕ) (hi : i < levels) {l : List (TalkSites.Pay nD τ sig)} (hl : AllAbove i l)
    {cont : PUnit → Prog (TpuEff nD τ sig (Elt F) Λ₀ .tc) α} :
    records X K J ⊢ iprop(due (F := F) c l -∗ cred (tallyAt (cell c .cr) i 1) -∗ credits (F := F) c m
      -∗ ((due (F := F) c l ∗ credits (F := F) c (m + 1) ∗ freed (F := F) (succ c) m)
          -∗ wp frame (𝕎 (c : Thread nD τ) none) Set.univ (cont ⟨⟩) Q)
      -∗ wp frame (𝕎 (c : Thread nD τ) none) Set.univ (.op w cont) Q) := by
  subst hn
  have he : (ringRd X).expect (cell c .cr) 0 = 4 := expect_at X c .cr 0
  have hd : (ringRd X).duties (cell c .cr) 0 = {0, 1, 2, 3} := duties_at X c .cr 0
  have hm := (records_lev X K J).trans (mayWait (F := F) c (csem .cr) hi hl)
  unfold due credits
  iintro #HR ⟨%W, HO⟩ HC ⟨%T, %hT, HA, #HT⟩ Hk
  iapply (Rounds.wp_wait 𝒱₀ ER (ringRd X) (c : Thread nD τ) none (κ := K (c, .cr)) hw (Set.mem_univ _) (cr := Finsupp.single i 1)
    (O := TalkSites.tallyL l) (W := W) {(csem .cr, i)} (R := 0) (m := m) (T := T) (by rw [Util.total_single]) (image_single_subset (csem .cr) i 1)) $$ [HC HO HA]
  · isplitr; · iapply (records_inv X K J c .cr); iexact HR
    isplitl [HC]; · iexact HC
    isplitl [HO]; · iexact HO
    isplitr; · iapply hm; iexact HR
    iexact HA
  iintro %S ⟨%hS, HO, HA, HP⟩
  have hcard : m + 1 ≤ S.card := by
    have h3 := hS.2.2
    have h4 := Finset.card_sdiff_of_subset hS.2.1
    have h5 := Finset.card_le_card hS.2.1
    rw [he] at h3
    rw [hd] at h3 h4 h5
    have h6 : ({0, 1, 2, 3} : Finset ℕ).card = 4 := rfl
    omega
  ihave HS := (show iprop(bigSep T (fun d => freedTo (F := F) (succ c) d) ∗ bigSep (S \ T) (fun d => (ringRd X).payload (cell c .cr) 0 d))
    ⊢ bigSep S (fun d => freedTo (F := F) (succ c) d) from by rw [pay_credits]; exact Entails.of_eq (bigSep_sdiff_split hS.1).symm) $$ [HP]
  · isplitr; · iexact HT
    iexact HP
  icases HS with #HS
  iapply Hk
  isplitl [HO]; · iexists _; iexact HO
  isplitl [HA]
  · iexists S
    isplitr; · ipureintro; exact hcard
    isplitl [HA]; · iexact HA
    iexact HS
  iapply (heard (succ c) hcard); iexact HS

/-- The last credit's wait. -/
theorem step_credit_last {α : Type} {Q : α → sProp 𝕄} {w : TpuEff nD τ sig (Elt F) Λ₀ .tc PUnit} {n : ℕ}
    (hw : ∀ Kf : PUnit → sProp 𝕄, 𝕎 (c : Thread nD τ) none Set.univ w Kf = waitSpec (c : Thread nD τ) Set.univ (csem .cr) n Kf)
    (hn : n = 1) (i : ℕ) (hi : i < levels) {l : List (TalkSites.Pay nD τ sig)} (hl : AllAbove i l)
    {cont : PUnit → Prog (TpuEff nD τ sig (Elt F) Λ₀ .tc) α} :
    records X K J ⊢ iprop(due (F := F) c l -∗ cred (tallyAt (cell c .cr) i 1) -∗ credits (F := F) c 3
      -∗ ((due (F := F) c l ∗ atPos ER (cell c .cr) 1 ∅ 0 ∗ freed (F := F) (succ c) 3)
          -∗ wp frame (𝕎 (c : Thread nD τ) none) Set.univ (cont ⟨⟩) Q)
      -∗ wp frame (𝕎 (c : Thread nD τ) none) Set.univ (.op w cont) Q) := by
  subst hn
  have he : (ringRd X).expect (cell c .cr) 0 = 4 := expect_at X c .cr 0
  have hd : (ringRd X).duties (cell c .cr) 0 = {0, 1, 2, 3} := duties_at X c .cr 0
  have hm := (records_lev X K J).trans (mayWait (F := F) c (csem .cr) hi hl)
  unfold due credits
  iintro #HR ⟨%W, HO⟩ HC ⟨%T, %hT, HA, #HT⟩ Hk
  iapply (Rounds.wp_wait_rest_token 𝒱₀ ER (ringRd X) (c : Thread nD τ) none (κ := K (c, .cr)) hw (Set.mem_univ _) i
    (O := TalkSites.tallyL l) (W := W) (R := 0) (m := 3) (T := T) (by rw [he])) $$ [HC HO HA]
  · isplitr; · iapply (records_inv X K J c .cr); iexact HR
    isplitl [HC]; · iexact HC
    isplitl [HO]; · iexact HO
    isplitr; · iapply hm; iexact HR
    iexact HA
  iintro ⟨HO, HA, Hr, HP⟩
  ihave HS := (show iprop(bigSep T (fun d => freedTo (F := F) (succ c) d) ∗ bigSep ((ringRd X).duties (cell c .cr) 0 \ T) (fun d => (ringRd X).payload (cell c .cr) 0 d))
    ⊢ bigSep (T ∪ ({0, 1, 2, 3} \ T)) (fun d => freedTo (F := F) (succ c) d) from by rw [pay_credits, hd]; exact Entails.of_eq (bigSep_union Finset.disjoint_sdiff).symm) $$ [HP]
  · isplitr; · iexact HT
    iexact HP
  have hcard : 3 < (T ∪ ({0, 1, 2, 3} \ T)).card := by
    rw [Finset.union_sdiff_self_eq_union]
    exact Nat.lt_of_lt_of_le (by decide) (Finset.card_le_card (Finset.subset_union_right (s₁ := T) (s₂ := {0, 1, 2, 3})))
  iapply Hk
  isplitl [HO]; · iexists _; iexact HO
  isplitl [HA]; · iexact HA
  iapply (heard (succ c) hcard); iexact HS

/-- A slot is given back after step `d`, -/
theorem step_release {d : ℕ} (hd : d < 4) :
    records X K J ⊢ iprop(Release.readerAt ES (c, d) 0 -∗ reached ER (cell c (rcell d)) (d / 2 + 1) -∗ slotAt (F := F) c d -∗ |={Set.univ}=> (freed (F := F) c d)) := by
  iintro #HR HA #Hr HS
  imod (Release.slot_release (E := ES) (ι := J (c, d)) (k := (c, d)) (S := slotAt (F := F) c d) (Es := Set.univ) (Set.mem_univ _) (slotAt_false c d) 0) $$ [HA HS] with ⟨H1, H2⟩
  · isplitr; · iapply (records_slot X K J c hd); iexact HR
    isplitl [HA] <;> iassumption
  imodintro
  isplitl [H2]; · iexact H2
  iexact Hr

/-- and taken again once that is known. -/
theorem step_take {d : ℕ} (hd : d < 4) :
    records X K J ⊢ iprop(freed (F := F) c d -∗ Release.writeTok ES (c, d) 1 -∗ |={Set.univ}=> (slotAt (F := F) c d)) := by
  iintro #HR ⟨HA, -⟩ HS
  iapply (Release.slot_take (E := ES) (ι := J (c, d)) (k := (c, d)) (S := slotAt (F := F) c d) (Es := Set.univ) (Set.mem_univ _) 1)
  isplitr; · iapply (records_slot X K J c hd); iexact HR
  isplitl [HA] <;> iassumption

/-- A cell past its last round closes at zero. -/
theorem step_close (k : Cell) {n : ℕ} (hn : rounds k = n) : records X K J ⊢ iprop(atPos ER (cell c k) n ∅ 0 -∗ |={Set.univ}=> semVal (cell c k) 0) := by
  subst hn
  iintro #HR HA
  iapply (Rounds.cell_close ER (ringRd X) (Set.mem_univ (K (c, k))) (fun h => h) (R := rounds k) (duties_later X c k)) $$ [HA]
  isplitr; · iapply (records_inv X K J c k); iexact HR
  iexact HA

/-! ## Loads and stores -/

/-- The load of the whole operand. -/
theorem step_operand {α : Type} {Q : α → sProp 𝕄} (Y : Slab F) {hb : ∀ a, (![0, 0] : Fin 2 → ℕ) a + S512x2048.size a ≤ S512x2048.size a}
    {hl : inM.view.LoadsAt (Rect.unit (s := S512x2048) ![0, 0] S512x2048.size hb).toLoadRect}
    {cont : (S512x2048.Idx → Elt F .bf16) → Prog (TpuEff nD τ sig (Elt F) Λ₀ .tc) α} :
    own c inM Y ⊢ iprop((own c inM Y -∗ wp frame (𝕎 (c : Thread nD τ) none) Set.univ (cont Y) Q)
      -∗ wp frame (𝕎 (c : Thread nD τ) none) Set.univ (.op (.load inM (Rect.unit (s := S512x2048) ![0, 0] S512x2048.size hb).toLoadRect hl) cont) Q) := by
  iintro H Hk
  ihave H := (own_elim c inM Y) $$ H
  icases H with ⟨%f, %hf, H⟩
  iapply (wp_load_rect 𝒱₀ (c : Thread nD τ) none Set.univ (m := inM) (r := Rect.unit (s := S512x2048) ![0, 0] S512x2048.size hb) (S := inM.view.set) (by
    intro i _; show i ∈ (View.whole cc1_stg0_0).set; rw [View.set_whole]; exact Finset.mem_univ i)) $$ H
  iintro H
  have e : (inM.access (Rect.unit (s := S512x2048) ![0, 0] S512x2048.size hb)).read (Elt F) f = Y := by
    rw [← hf]
    funext i
    show inM.view.read (Elt F) f ((Rect.unit (s := S512x2048) ![0, 0] S512x2048.size hb).emb i) = _
    congr 1
    funext a
    apply Fin.ext
    match a with
    | 0 => show 0 + 1 * (i 0).val = (i 0).val; omega
    | 1 => show 0 + 1 * (i 1).val = (i 1).val; omega
  rw [e]
  iapply Hk
  rw [← hf]
  iapply (owns_intro (c : Thread nD τ) inM fullShare f)
  iexact H

/-- A slot read through the whole buffer: the value read, without its unit axis, is the chunk. -/
theorem step_slot {α : Type} {Q : α → sProp 𝕄} (B : Memref sig .tc .vmem S2x128x2048 .bf16) (k : ℕ) (hb : ∀ a, (![k, 0, 0] : Fin 3 → ℕ) a + S1x128x2048.size a ≤ S2x128x2048.size a)
    (Y : Chunk F)
    {hl : B.view.LoadsAt (Rect.unit (s := S2x128x2048) ![k, 0, 0] S1x128x2048.size hb).toLoadRect}
    {cont : (S1x128x2048.Idx → Elt F .bf16) → Prog (TpuEff nD τ sig (Elt F) Λ₀ .tc) α} :
    own c (slotM B k hb) Y ⊢ iprop((∀ v : S1x128x2048.Idx → Elt F .bf16, ⌜∀ h, shapeCast S128x2048 v h = Y⌝ -∗ own c (slotM B k hb) Y
        -∗ wp frame (𝕎 (c : Thread nD τ) none) Set.univ (cont v) Q)
      -∗ wp frame (𝕎 (c : Thread nD τ) none) Set.univ
          (.op (.load B (Rect.unit (s := S2x128x2048) ![k, 0, 0] S1x128x2048.size hb).toLoadRect hl) cont) Q) := by
  iintro H Hk
  ihave H := (own_elim c (slotM B k hb) Y) $$ H
  icases H with ⟨%f, %hf, H⟩
  iapply (wp_load_rect 𝒱₀ (c : Thread nD τ) none Set.univ (m := B) (r := Rect.unit (s := S2x128x2048) ![k, 0, 0] S1x128x2048.size hb)
    (S := (slotM B k hb).view.set) (by rw [show (slotM B k hb).view.set = _ from View.set_reshape _ _])) $$ H
  iintro H
  iapply Hk
  · ipureintro
    intro h
    rw [← hf]
    rfl
  · rw [← hf]
    iapply (owns_intro (c : Thread nD τ) (slotM B k hb) fullShare f)
    iexact H

/-- A slot stored to through the whole buffer. -/
theorem step_slot_store {α : Type} {Q : α → sProp 𝕄} (B : Memref sig .tc .vmem S2x128x2048 .bf16) (k : ℕ) (hb : ∀ a, (![k, 0, 0] : Fin 3 → ℕ) a + S1x128x2048.size a ≤ S2x128x2048.size a)
    (Y : Chunk F) {w : S1x128x2048.Idx → Elt F .bf16} (hY : shapeCast S128x2048 w shapeCasts_S1x128x2048_S128x2048 = Y)
    {hx : (B.access (Rect.unit (s := S2x128x2048) ![k, 0, 0] S1x128x2048.size hb)).Stores Finset.univ}
    {hm : (Finset.univ : Finset (Rect.unit (s := S2x128x2048) ![k, 0, 0] S1x128x2048.size hb).shape.Idx) = Finset.univ ∨ ∀ x, (Rect.unit (s := S2x128x2048) ![k, 0, 0] S1x128x2048.size hb).stride x = 1}
    {cont : PUnit → Prog (TpuEff nD τ sig (Elt F) Λ₀ .tc) α} :
    anyOf (F := F) c (slotM B k hb) ⊢ iprop((own c (slotM B k hb) Y -∗ wp frame (𝕎 (c : Thread nD τ) none) Set.univ (cont ⟨⟩) Q)
      -∗ wp frame (𝕎 (c : Thread nD τ) none) Set.univ
          (.op (.store B (Rect.unit (s := S2x128x2048) ![k, 0, 0] S1x128x2048.size hb) w Finset.univ hx hm) cont) Q) := by
  iintro ⟨%Z, H⟩ Hk
  ihave H := (own_elim c (slotM B k hb) Z) $$ H
  icases H with ⟨%f, -, H⟩
  iapply (wp_store 𝒱₀ (c : Thread nD τ) none Set.univ (m := B) (r := Rect.unit (s := S2x128x2048) ![k, 0, 0] S1x128x2048.size hb) (Mk := Finset.univ)
    (S := (slotM B k hb).view.set) (by rw [show (slotM B k hb).view.set = _ from View.set_reshape _ _]; exact Finset.Subset.refl _)) $$ H
  iintro H
  iapply Hk
  have e : (slotM B k hb).view.read (Elt F) ((B.access (Rect.unit (s := S2x128x2048) ![k, 0, 0] S1x128x2048.size hb)).write (Elt F) f w Finset.univ) = Y := by
    rw [← hY]
    show shapeCast S128x2048 ((B.access (Rect.unit (s := S2x128x2048) ![k, 0, 0] S1x128x2048.size hb)).read (Elt F) _) _ = _
    rw [View.read_write_univ]
  rw [← e]
  iapply (owns_intro (c : Thread nD τ) (slotM B k hb) fullShare _)
  iexact H

/-- The result's staging: chunk `pos c - k` holds `w k`. -/
def outIs (c : Dev nD) (w : Fin 4 → Chunk F) : sProp 𝕄 :=
  iprop(∃ f : S512x2048.Idx → Elt F .bf16, ⌜∀ k, chunk (pos c - k) f = w k⌝ ∗ (((c : Thread nD τ).loc cc1_stg1_0) ↦{fullShare} f))

/-- Before the first store it holds anything. -/
def outAny (c : Dev nD) : sProp 𝕄 := iprop(∃ f : S512x2048.Idx → Elt F .bf16, (((c : Thread nD τ).loc cc1_stg1_0) ↦{fullShare} f))

theorem step_peek {α : Type} {Q : α → sProp 𝕄} {r : LoadRect S512x2048} {hl : outM.view.LoadsAt r}
    {cont : (r.shape.Idx → Elt F .bf16) → Prog (TpuEff nD τ sig (Elt F) Λ₀ .tc) α} :
    outAny (F := F) c ⊢ iprop((∀ v, outAny (F := F) c -∗ wp frame (𝕎 (c : Thread nD τ) none) Set.univ (cont v) Q)
      -∗ wp frame (𝕎 (c : Thread nD τ) none) Set.univ (.op (.load outM r hl) cont) Q) := by
  unfold outAny
  iintro ⟨%f, H⟩ Hk
  iapply (wp_load 𝒱₀ (c : Thread nD τ) none Set.univ (m := outM) (S := Finset.univ) (Finset.subset_univ _)) $$ H
  iintro H
  iapply Hk
  iexists f
  iexact H

/-- The first store fills it with the operand. -/
theorem step_fill {α : Type} {Q : α → sProp 𝕄} {hb : ∀ a, (![0, 0] : Fin 2 → ℕ) a + S512x2048.size a ≤ S512x2048.size a} (w : Slab F)
    {hx : (outM.access (Rect.unit (s := S512x2048) ![0, 0] S512x2048.size hb)).Stores Finset.univ}
    {hm : (Finset.univ : Finset (Rect.unit (s := S512x2048) ![0, 0] S512x2048.size hb).shape.Idx) = Finset.univ ∨ ∀ x, (Rect.unit (s := S512x2048) ![0, 0] S512x2048.size hb).stride x = 1}
    {cont : PUnit → Prog (TpuEff nD τ sig (Elt F) Λ₀ .tc) α} :
    outAny (F := F) c ⊢ iprop((outIs c (fun k => chunk (pos c - k) w) -∗ wp frame (𝕎 (c : Thread nD τ) none) Set.univ (cont ⟨⟩) Q)
      -∗ wp frame (𝕎 (c : Thread nD τ) none) Set.univ
          (.op (.store outM (Rect.unit (s := S512x2048) ![0, 0] S512x2048.size hb) w Finset.univ hx hm) cont) Q) := by
  unfold outAny outIs
  iintro ⟨%f, H⟩ Hk
  iapply (wp_store 𝒱₀ (c : Thread nD τ) none Set.univ (m := outM) (r := Rect.unit (s := S512x2048) ![0, 0] S512x2048.size hb) (Mk := Finset.univ)
    (S := Finset.univ) (Finset.subset_univ _)) $$ H
  iintro H
  iapply Hk
  iexists _
  isplitr
  swap
  · iexact H
  ipureintro
  intro k
  funext i
  have e : rowIx (pos c - k) i = (Rect.unit (s := S512x2048) ![0, 0] S512x2048.size hb).emb (rowIx (pos c - k) i) := by
    funext a
    apply Fin.ext
    match a with
    | 0 => show _ = 0 + 1 * (rowIx (pos c - k) i 0).val; omega
    | 1 => show _ = 0 + 1 * (rowIx (pos c - k) i 1).val; omega
  unfold chunk
  conv_lhs => rw [e]
  exact View.write_emb_of_mem (v := outM.access (Rect.unit (s := S512x2048) ![0, 0] S512x2048.size hb)) (Val := Elt F) f w (Finset.mem_univ (rowIx (pos c - k) i))

/-- A load of a chunk. -/
theorem step_chunk {α : Type} {Q : α → sProp 𝕄} {w : Fin 4 → Chunk F} {off : Fin 2 → ℕ} (k : Fin 4) (ho : off = chunkOff (pos c - k)) {y : Chunk F} (hy : w k = y)
    {hb : ∀ x, off x + S128x2048.size x ≤ S512x2048.size x}
    {hl : outM.view.LoadsAt (Rect.unit (s := S512x2048) off S128x2048.size hb).toLoadRect}
    {cont : Chunk F → Prog (TpuEff nD τ sig (Elt F) Λ₀ .tc) α} :
    outIs c w ⊢ iprop((outIs c w -∗ wp frame (𝕎 (c : Thread nD τ) none) Set.univ (cont y) Q)
      -∗ wp frame (𝕎 (c : Thread nD τ) none) Set.univ (.op (.load outM (Rect.unit (s := S512x2048) off S128x2048.size hb).toLoadRect hl) cont) Q) := by
  subst ho hy
  unfold outIs
  iintro ⟨%f, %hf, H⟩ Hk
  iapply (wp_load_rect 𝒱₀ (c : Thread nD τ) none Set.univ (m := outM) (r := Rect.unit (s := S512x2048) (chunkOff (pos c - k)) S128x2048.size hb) (S := Finset.univ) (Finset.subset_univ _)) $$ H
  iintro H
  have e : (outM.access (Rect.unit (s := S512x2048) (chunkOff (pos c - k)) S128x2048.size hb)).read (Elt F) f = w k := by
    rw [← hf k]
    funext i
    show f ((Rect.unit (s := S512x2048) (chunkOff (pos c - k)) S128x2048.size hb).emb i) = f (rowIx (pos c - k) i)
    congr 1
    funext a
    apply Fin.ext
    match a with
    | 0 => show 128 * (pos c - k).val + 1 * (i 0).val = 128 * (pos c - k).val + (i 0).val; omega
    | 1 => show 0 + 1 * (i 1).val = (i 1).val; omega
  rw [e]
  iapply Hk
  iexists f
  isplitr; · ipureintro; exact hf
  iexact H

/-- A store of a chunk. -/
theorem step_put {α : Type} {Q : α → sProp 𝕄} {w : Fin 4 → Chunk F} {off : Fin 2 → ℕ} (k : Fin 4) (ho : off = chunkOff (pos c - k))
    {hb : ∀ x, off x + S128x2048.size x ≤ S512x2048.size x} {v : Chunk F} (y : Chunk F) (hy : v = y)
    {hx : (outM.access (Rect.unit (s := S512x2048) off S128x2048.size hb)).Stores Finset.univ}
    {hm : (Finset.univ : Finset (Rect.unit (s := S512x2048) off S128x2048.size hb).shape.Idx) = Finset.univ ∨ ∀ x, (Rect.unit (s := S512x2048) off S128x2048.size hb).stride x = 1}
    {cont : PUnit → Prog (TpuEff nD τ sig (Elt F) Λ₀ .tc) α} :
    outIs c w ⊢ iprop((outIs c (Function.update w k y) -∗ wp frame (𝕎 (c : Thread nD τ) none) Set.univ (cont ⟨⟩) Q)
      -∗ wp frame (𝕎 (c : Thread nD τ) none) Set.univ
          (.op (.store outM (Rect.unit (s := S512x2048) off S128x2048.size hb) v Finset.univ hx hm) cont) Q) := by
  subst ho hy
  unfold outIs
  iintro ⟨%f, %hf, H⟩ Hk
  iapply (wp_store 𝒱₀ (c : Thread nD τ) none Set.univ (m := outM) (r := Rect.unit (s := S512x2048) (chunkOff (pos c - k)) S128x2048.size hb) (Mk := Finset.univ)
    (S := Finset.univ) (Finset.subset_univ _)) $$ H
  iintro H
  iapply Hk
  iexists _
  isplitr
  swap
  · iexact H
  ipureintro
  intro j
  by_cases hj : j = k
  · subst hj
    funext i
    have e : rowIx (pos c - j) i = (Rect.unit (s := S512x2048) (chunkOff (pos c - j)) S128x2048.size hb).emb i := by
      funext x
      apply Fin.ext
      match x with
      | 0 => show 128 * (pos c - j).val + (i 0).val = 128 * (pos c - j).val + 1 * (i 0).val; omega
      | 1 => show (i 1).val = 0 + 1 * (i 1).val; omega
    rw [Function.update_self]
    unfold chunk
    rw [e]
    exact View.write_emb_of_mem (v := outM.access (Rect.unit (s := S512x2048) (chunkOff (pos c - j)) S128x2048.size hb)) (Val := Elt F) f v (Finset.mem_univ i)
  · rw [Function.update_of_ne hj, ← hf j]
    funext i
    have hi0 : (i 0).val < 128 := (i 0).isLt
    have hp : (pos c - j).val ≠ (pos c - k).val := fun h => hj (sub_right_injective (Fin.ext h))
    unfold chunk
    rw [View.write_of_not_mem]
    intro hmem
    obtain ⟨x, -, hx'⟩ := Finset.mem_map.mp hmem
    have hx0 : 128 * (pos c - k).val + 1 * (x 0).val = 128 * (pos c - j).val + (i 0).val := congrArg (fun y : S512x2048.Idx => (y 0).val) hx'
    have hx1 : (x 0).val < 128 := (x 0).isLt
    omega

end Steps

end Cert.WholeProof.Ring

end
-- ==== Proof.Whole.Ring.Body.lean ====
/-
# The body of the all-reduce

What a device starts with and ends with, the six steps' parts, and the kernel's body run against the schedule.
-/
module

public import proofs.«01_k».proof.Proof.Whole.Ring.Steps

@[expose] public section

noncomputable section

namespace Cert.WholeProof.Ring

open Cert.WholeIdeal Cert.WholeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

local notation "𝕎" => wpE (defs₀ (F := F)) 𝒱₀

variable (X : Dev nD → Slab F)

set_option maxRecDepth 100000

variable (K : Dev nD × Cell → ℕ) (J : Dev nD × ℕ → ℕ) (c : Dev nD)

/-- The tokens of the duties device `c` pays: its neighbours' cells', and its own sends'. -/
def pays : sProp 𝕄 :=
  iprop(dutyTok ER (cell (pred c) .bar) 0 0 ∗ dutyTok ER (cell (succ c) .bar) 0 1
    ∗ dutyTok ER (cell (succ c) .r0) 0 0 ∗ dutyTok ER (cell (succ c) .r0) 1 0 ∗ dutyTok ER (cell (succ c) .r0) 2 0
    ∗ dutyTok ER (cell (succ c) .r1) 0 0 ∗ dutyTok ER (cell (succ c) .r1) 1 0 ∗ dutyTok ER (cell (succ c) .r1) 2 0
    ∗ dutyTok ER (cell (pred c) .cr) 0 0 ∗ dutyTok ER (cell (pred c) .cr) 0 1 ∗ dutyTok ER (cell (pred c) .cr) 0 2 ∗ dutyTok ER (cell (pred c) .cr) 0 3
    ∗ dutyTok ER (cell c .s0) 0 0 ∗ dutyTok ER (cell c .s0) 1 0 ∗ dutyTok ER (cell c .s0) 2 0
    ∗ dutyTok ER (cell c .s1) 0 0 ∗ dutyTok ER (cell c .s1) 1 0 ∗ dutyTok ER (cell c .s1) 2 0)

/-- Its positions at its own cells, all at round 0. -/
def starts : sProp 𝕄 :=
  iprop(atPos ER (cell c .bar) 0 ∅ 0 ∗ atPos ER (cell c .cr) 0 ∅ 0
    ∗ atPos ER (cell c .s0) 0 ∅ 0 ∗ atPos ER (cell c .s1) 0 ∅ 0 ∗ atPos ER (cell c .r0) 0 ∅ 0 ∗ atPos ER (cell c .r1) 0 ∅ 0)

/-- Its own cells but the barrier are open. -/
def opens : sProp 𝕄 :=
  iprop(reached ER (cell c .cr) 0 ∗ reached ER (cell c .s0) 0 ∗ reached ER (cell c .s1) 0 ∗ reached ER (cell c .r0) 0 ∗ reached ER (cell c .r1) 0)

/-- The right to give each of its own slots back once, and to take each of the next device's once. -/
def keys : sProp 𝕄 :=
  iprop((Release.readerAt ES (c, 0) 0 ∗ Release.readerAt ES (c, 1) 0 ∗ Release.readerAt ES (c, 2) 0 ∗ Release.readerAt ES (c, 3) 0)
    ∗ (Release.writeTok ES (succ c, 0) 1 ∗ Release.writeTok ES (succ c, 1) 1 ∗ Release.writeTok ES (succ c, 2) 1 ∗ Release.writeTok ES (succ c, 3) 1))

/-- What others owe its cells. -/
def dueTo : sProp 𝕄 :=
  iprop(cred (tallyAt (cell c .bar) 1 2)
    ∗ cred (tallyAt (cell c .r0) 2 N) ∗ cred (tallyAt (cell c .r0) 6 N) ∗ cred (tallyAt (cell c .r0) 10 N)
    ∗ cred (tallyAt (cell c .r1) 4 N) ∗ cred (tallyAt (cell c .r1) 8 N) ∗ cred (tallyAt (cell c .r1) 11 N)
    ∗ cred (tallyAt (cell c .cr) 3 1) ∗ cred (tallyAt (cell c .cr) 5 1) ∗ cred (tallyAt (cell c .cr) 7 1) ∗ cred (tallyAt (cell c .cr) 9 1))

/-- Its cells closed. -/
def closed : sProp 𝕄 :=
  iprop(semVal (cell c .bar) 0 ∗ semVal (cell c .cr) 0
    ∗ semVal (cell c .s0) 0 ∗ semVal (cell c .s1) 0 ∗ semVal (cell c .r0) 0 ∗ semVal (cell c .r1) 0)

/-- A scratch buffer of two slots, at some contents. -/
def scratch (B : Memref sig .tc .vmem S2x128x2048 .bf16) : sProp 𝕄 := iprop(anyOf (F := F) c (s0 B) ∗ anyOf (F := F) c (s1 B))

/-! The result's chunks, after the operand is copied there and after each of the six steps. -/

abbrev w0 : Fin 4 → Chunk F := fun k => chunk (pos c - k) (X c)
abbrev w1 : Fin 4 → Chunk F := Function.update (w0 X c) 1 (acc X 1 c (pos c - 1))
abbrev w2 : Fin 4 → Chunk F := Function.update (w1 X c) 2 (acc X 2 c (pos c - 2))
abbrev w3 : Fin 4 → Chunk F := Function.update (w2 X c) 3 (acc X 3 c (pos c - 3))
abbrev w4 : Fin 4 → Chunk F := Function.update (w3 X c) 0 (acc X 3 (pred c) (pos c - 0))
abbrev w5 : Fin 4 → Chunk F := Function.update (w4 X c) 1 (acc X 3 (pred (pred c)) (pos c - 1))
abbrev w6 : Fin 4 → Chunk F := Function.update (w5 X c) 2 (acc X 3 (pred (pred (pred c))) (pos c - 2))

section Lemmas

variable {K J c}

theorem cast_out (v : Chunk F) : shapeCast S128x2048 (shapeCast S1x128x2048 (shapeCast S128x2048 v shapeCasts_S128x2048_S128x2048) shapeCasts_S128x2048_S1x128x2048)
    shapeCasts_S1x128x2048_S128x2048 = v := (shapeCast_shapeCast _ _ _).trans (shapeCast_self _ _)

theorem add_in (u : Chunk F) (v : S1x128x2048.Idx → Elt F .bf16) {Y : Chunk F} (hv : ∀ h, shapeCast S128x2048 v h = Y) :
    (addf (shapeCast S128x2048 u shapeCasts_S128x2048_S128x2048 : FVec F S128x2048 .bf16) (shapeCast S128x2048 v shapeCasts_S1x128x2048_S128x2048) : FVec F S128x2048 .bf16)
      = addf (u : FVec F S128x2048 .bf16) Y := by
  rw [shapeCast_self, hv]

/-- A chunk is brought from the result to a send slot. -/
theorem step_stage {α : Type} {Q : α → sProp 𝕄} {w : Fin 4 → Chunk F} {off : Fin 2 → ℕ} (k : Fin 4) (ho : off = chunkOff (pos c - k)) {Y : Chunk F} (hw : w k = Y)
    (B : Memref sig .tc .vmem S2x128x2048 .bf16) (b : ℕ) (hb : ∀ a, (![b, 0, 0] : Fin 3 → ℕ) a + S1x128x2048.size a ≤ S2x128x2048.size a)
    (py : Chunk F → S1x128x2048.Idx → Elt F .bf16) (hpy : ∀ v, shapeCast S128x2048 (py v) shapeCasts_S1x128x2048_S128x2048 = v)
    {hbo : ∀ x, off x + S128x2048.size x ≤ S512x2048.size x}
    {hlo : outM.view.LoadsAt (Rect.unit (s := S512x2048) off S128x2048.size hbo).toLoadRect}
    {hl : B.view.LoadsAt (Rect.unit (s := S2x128x2048) ![b, 0, 0] S1x128x2048.size hb).toLoadRect}
    {hx : (B.access (Rect.unit (s := S2x128x2048) ![b, 0, 0] S1x128x2048.size hb)).Stores Finset.univ}
    {hm : (Finset.univ : Finset (Rect.unit (s := S2x128x2048) ![b, 0, 0] S1x128x2048.size hb).shape.Idx) = Finset.univ ∨ ∀ x, (Rect.unit (s := S2x128x2048) ![b, 0, 0] S1x128x2048.size hb).stride x = 1}
    {cont : PUnit → Prog (TpuEff nD τ sig (Elt F) Λ₀ .tc) α} :
    outIs c w ⊢ iprop(anyOf (F := F) c (slotM B b hb)
      -∗ ((outIs c w ∗ own c (slotM B b hb) Y) -∗ wp frame (𝕎 (c : Thread nD τ) none) Set.univ (cont ⟨⟩) Q)
      -∗ wp frame (𝕎 (c : Thread nD τ) none) Set.univ
          (.op (.load outM (Rect.unit (s := S512x2048) off S128x2048.size hbo).toLoadRect hlo) fun v =>
            .op (.load B (Rect.unit (s := S2x128x2048) ![b, 0, 0] S1x128x2048.size hb).toLoadRect hl) fun _ =>
              .op (.store B (Rect.unit (s := S2x128x2048) ![b, 0, 0] S1x128x2048.size hb) (py v) Finset.univ hx hm) cont) Q) := by
  iintro Out ⟨%Z, S⟩ Hk
  iapply (step_chunk (c := c) k ho hw) $$ Out
  iintro Out
  iapply (step_slot (c := c) B b hb Z) $$ S
  iintro %v - S
  ihave S := (any_of c (slotM B b hb) Z) $$ S
  iapply (step_slot_store (c := c) B b hb Y (hpy Y)) $$ S
  iintro S
  iapply Hk
  isplitl [Out] <;> iassumption

/-- A step's exchange: the send slot goes to the next device's receive slot, and the device before's chunk arrives. -/
theorem step_exchange {α : Type} {Q : α → sProp 𝕄} {src dst : Memref sig .tc .vmem S128x2048 .bf16} (s : ℕ) (kS kR : Cell) (r : ℕ)
    {sS sR : DmaSem sig} (hS : csem kS = .dma sS) (hR : csem kR = .dma sR) {d' : Dev nD} (hn : d' = succ c)
    (hdS : dut kS r = {0}) (hdR : dut kR r = {0}) (hN : dst.view.dmaCredit = N) (hN' : src.view.dmaCredit = N) (hkS : amt kS = N) (hkR : amt kR = N)
    (hpS : pay X kS c r 0 = anyOf c src) (hpR : ∀ b, pay X kR b r 0 = own b dst (sent X (pred b) s))
    (i : ℕ) (hi : i < levels) {l : List (TalkSites.Pay nD τ sig)} (hl : AllAbove i l) {cont : PUnit → Prog (TpuEff nD τ sig (Elt F) Λ₀ .tc) α}
    {hsc : dst.view.ref.isScScratch = false} {hsrc hsrc₁ : src.view.WordExact} {hdst hdst₁ : dst.view.WordExact}
    {hsrc₂ : src.view.WordExact} {hdst₂ : dst.view.WordExact}
    {hsem : DmaTarget.Typed .vmem (.dma sR) (.remote (d' : Thread nD τ) dst (.dma sS) hsc)} :
    records X K J ⊢ iprop(own c src (sent X c s) -∗ anyOf (F := F) (succ c) dst -∗ due (F := F) c ((cell (succ c) kR, i, N) :: l)
      -∗ dutyTok ER (cell c kS) r 0 -∗ reached ER (cell c kS) r -∗ dutyTok ER (cell (succ c) kR) r 0 -∗ reached ER (cell (succ c) kR) r
      -∗ atPos ER (cell c kS) r ∅ 0 -∗ atPos ER (cell c kR) r ∅ 0 -∗ cred (tallyAt (cell c kR) i N)
      -∗ ((due (F := F) c l ∗ atPos ER (cell c kS) (r + 1) ∅ 0 ∗ reached ER (cell c kS) (r + 1) ∗ atPos ER (cell c kR) (r + 1) ∅ 0 ∗ reached ER (cell c kR) (r + 1)
            ∗ anyOf (F := F) c src ∗ own c dst (sent X (pred c) s))
          -∗ wp frame (𝕎 (c : Thread nD τ) none) Set.univ (cont ⟨⟩) Q)
      -∗ wp frame (𝕎 (c : Thread nD τ) none) Set.univ
          (.op (.enqueueDma src (.remote (d' : Thread nD τ) dst (.dma sS) hsc) (.dma sR) hsrc hdst hsem) fun _ =>
            .op (.waitDma2 sS dst src hdst₁ hsrc₁) fun _ => .op (.waitDma2 sR src dst hsrc₂ hdst₂) cont) Q) := by
  have hl0 : AllAbove 0 l := fun x hx => ⟨(hl x hx).1, Nat.lt_of_le_of_lt (Nat.zero_le i) (hl x hx).2.1, (hl x hx).2.2⟩
  have hpR' : own (succ c) dst (sent X c s) ⊢ pay X kR (succ c) r 0 := by rw [hpR, pred_succ]
  iintro #HR S D O TS RS TR RR PS PR C Hk
  iapply (step_copy X (c := c) (src := src) (dst := dst) (n := N) (sent X c s) kS kR r r hS hR hn hdS hdR hN hkS hkR (hpS ▸ any_of c src (sent X c s)) hpR') $$ HR S D O TS RS TR RR
  iintro ⟨CS, O⟩
  iapply (step_wait_dma X (c := c) (n := N) kS hS r src hN' hkS.symm hdS 0 (by decide) hl0) $$ HR O CS PS
  iintro ⟨O, PS, RS', S⟩
  ihave S := (show pay X kS c r 0 ⊢ anyOf (F := F) c src from Entails.of_eq hpS) $$ S
  iapply (step_wait_dma X (c := c) (n := N) kR hR r dst hN hkR.symm hdR i hi hl) $$ HR O C PR
  iintro ⟨O, PR, RR', V⟩
  ihave V := (show pay X kR c r 0 ⊢ own c dst (sent X (pred c) s) from Entails.of_eq (hpR c)) $$ V
  iapply Hk
  isplitl [O]; · iexact O
  isplitl [PS]; · iexact PS
  isplitl [RS']; · iexact RS'
  isplitl [PR]; · iexact PR
  isplitl [RR']; · iexact RR'
  isplitl [S] <;> iassumption

/-- The chunk received is added to the result's. -/
theorem step_add {α : Type} {Q : α → sProp 𝕄} {w : Fin 4 → Chunk F} {off : Fin 2 → ℕ} (k : Fin 4) (ho : off = chunkOff (pos c - k)) {u : Chunk F} (hw : w k = u)
    (B : Memref sig .tc .vmem S2x128x2048 .bf16) (b : ℕ) (hb : ∀ a, (![b, 0, 0] : Fin 3 → ℕ) a + S1x128x2048.size a ≤ S2x128x2048.size a) (Y y : Chunk F)
    (py : Chunk F → (S1x128x2048.Idx → Elt F .bf16) → Chunk F) (hpy : ∀ v, (∀ h, shapeCast S128x2048 v h = Y) → py u v = y)
    {hbo : ∀ x, off x + S128x2048.size x ≤ S512x2048.size x}
    {hlo hlo' : outM.view.LoadsAt (Rect.unit (s := S512x2048) off S128x2048.size hbo).toLoadRect}
    {hl : B.view.LoadsAt (Rect.unit (s := S2x128x2048) ![b, 0, 0] S1x128x2048.size hb).toLoadRect}
    {hx : (outM.access (Rect.unit (s := S512x2048) off S128x2048.size hbo)).Stores Finset.univ}
    {hm : (Finset.univ : Finset (Rect.unit (s := S512x2048) off S128x2048.size hbo).shape.Idx) = Finset.univ ∨ ∀ x, (Rect.unit (s := S512x2048) off S128x2048.size hbo).stride x = 1}
    {cont : PUnit → Prog (TpuEff nD τ sig (Elt F) Λ₀ .tc) α} :
    outIs c w ⊢ iprop(own c (slotM B b hb) Y
      -∗ ((outIs c (Function.update w k y) ∗ anyOf (F := F) c (slotM B b hb)) -∗ wp frame (𝕎 (c : Thread nD τ) none) Set.univ (cont ⟨⟩) Q)
      -∗ wp frame (𝕎 (c : Thread nD τ) none) Set.univ
          (.op (.load outM (Rect.unit (s := S512x2048) off S128x2048.size hbo).toLoadRect hlo) fun u =>
            .op (.load B (Rect.unit (s := S2x128x2048) ![b, 0, 0] S1x128x2048.size hb).toLoadRect hl) fun v =>
              .op (.load outM (Rect.unit (s := S512x2048) off S128x2048.size hbo).toLoadRect hlo') fun _ =>
                .op (.store outM (Rect.unit (s := S512x2048) off S128x2048.size hbo) (py u v) Finset.univ hx hm) cont) Q) := by
  iintro Out V Hk
  iapply (step_chunk (c := c) k ho hw) $$ Out
  iintro Out
  iapply (step_slot (c := c) B b hb Y) $$ V
  iintro %v %hv V
  iapply (step_chunk (c := c) k ho hw) $$ Out
  iintro Out
  iapply (step_put (c := c) k ho y (hpy v hv)) $$ Out
  iintro Out
  iapply Hk
  isplitl [Out]; · iexact Out
  iexists Y; iexact V

/-- The chunk received replaces the result's. -/
theorem step_set {α : Type} {Q : α → sProp 𝕄} {w : Fin 4 → Chunk F} {off : Fin 2 → ℕ} (k : Fin 4) (ho : off = chunkOff (pos c - k))
    (B : Memref sig .tc .vmem S2x128x2048 .bf16) (b : ℕ) (hb : ∀ a, (![b, 0, 0] : Fin 3 → ℕ) a + S1x128x2048.size a ≤ S2x128x2048.size a) (Y y : Chunk F) (hy : Y = y)
    (py : (S1x128x2048.Idx → Elt F .bf16) → Chunk F) (hpy : ∀ v, py v = shapeCast S128x2048 v shapeCasts_S1x128x2048_S128x2048)
    {hbo : ∀ x, off x + S128x2048.size x ≤ S512x2048.size x}
    {hlo : outM.view.LoadsAt (Rect.unit (s := S512x2048) off S128x2048.size hbo).toLoadRect}
    {hl : B.view.LoadsAt (Rect.unit (s := S2x128x2048) ![b, 0, 0] S1x128x2048.size hb).toLoadRect}
    {hx : (outM.access (Rect.unit (s := S512x2048) off S128x2048.size hbo)).Stores Finset.univ}
    {hm : (Finset.univ : Finset (Rect.unit (s := S512x2048) off S128x2048.size hbo).shape.Idx) = Finset.univ ∨ ∀ x, (Rect.unit (s := S512x2048) off S128x2048.size hbo).stride x = 1}
    {cont : PUnit → Prog (TpuEff nD τ sig (Elt F) Λ₀ .tc) α} :
    outIs c w ⊢ iprop(own c (slotM B b hb) Y
      -∗ ((outIs c (Function.update w k y) ∗ anyOf (F := F) c (slotM B b hb)) -∗ wp frame (𝕎 (c : Thread nD τ) none) Set.univ (cont ⟨⟩) Q)
      -∗ wp frame (𝕎 (c : Thread nD τ) none) Set.univ
          (.op (.load B (Rect.unit (s := S2x128x2048) ![b, 0, 0] S1x128x2048.size hb).toLoadRect hl) fun v =>
            .op (.load outM (Rect.unit (s := S512x2048) off S128x2048.size hbo).toLoadRect hlo) fun _ =>
              .op (.store outM (Rect.unit (s := S512x2048) off S128x2048.size hbo) (py v) Finset.univ hx hm) cont) Q) := by
  iintro Out V Hk
  iapply (step_slot (c := c) B b hb Y) $$ V
  iintro %v %hv V
  iapply (step_chunk (c := c) k ho rfl) $$ Out
  iintro Out
  iapply (step_put (c := c) k ho y ((hpy v).trans ((hv _).trans hy))) $$ Out
  iintro Out
  iapply Hk
  isplitl [Out]; · iexact Out
  iexists Y; iexact V

theorem pay_bar_pred : iprop(scratch (F := F) c recvM ∗ reached ER (cell c .r0) 0 ∗ reached ER (cell c .r1) 0) ⊢ pay X .bar (pred c) 0 0 := by
  show _ ⊢ iprop((anyOf (F := F) (succ (pred c)) recv0 ∗ anyOf (F := F) (succ (pred c)) recv1) ∗ reached ER (cell (succ (pred c)) .r0) 0 ∗ reached ER (cell (succ (pred c)) .r1) 0)
  rw [succ_pred]; exact .rfl
theorem pay_bar_succ : reached ER (cell c .cr) 0 ⊢ pay X .bar (succ c) 0 1 := by
  show _ ⊢ reached ER (cell (pred (succ c)) .cr) 0
  rw [pred_succ]
theorem pay_cr (d : ℕ) : freedTo (F := F) c d ⊢ pay X .cr (pred c) 0 d := by
  show _ ⊢ freedTo (F := F) (succ (pred c)) d
  rw [succ_pred]

/-- What the device before has been told of before it is told of slot `d`. -/
def said (b : Dev nD) : ℕ → sProp 𝕄
  | 0 => iprop(emp)
  | e + 1 => freedTo (F := F) b e

instance said_persistent (b : Dev nD) (d : ℕ) : BI.Persistent (said (F := F) b d) := by
  rcases d with _ | d
  · unfold said; infer_instance
  · unfold said; infer_instance

theorem said_step (b : Dev nD) (d : ℕ) : iprop(said (F := F) b d ∗ freed (F := F) b d) ⊢ freedTo (F := F) b d := by
  rcases d with _ | d
  · show iprop(emp ∗ freed (F := F) b 0) ⊢ freed (F := F) b 0
    iintro ⟨-, H⟩; iexact H
  · exact .rfl

/-- After a step that gives its slot back: the slot given back, the device before is told of it and of those before it. -/
theorem step_give {α : Type} {Q : α → sProp 𝕄} (d : ℕ) (k : Cell) (r : ℕ) (hd : d < 4) (hk : rcell d = k) (hr : d / 2 = r)
    {M : Memref sig .tc .vmem S128x2048 .bf16} (hM : slotAt (F := F) c d = anyOf c M) {sem : Sem sig} (hs : csem .cr = .reg sem) {d' : Dev nD} (hn : d' = pred c)
    {i : ℕ} {l : List (TalkSites.Pay nD τ sig)} {cont : PUnit → Prog (TpuEff nD τ sig (Elt F) Λ₀ .tc) α} :
    records X K J ⊢ iprop(reached ER (cell (pred c) .cr) 0 -∗ said (F := F) c d
      -∗ Release.readerAt ES (c, d) 0 -∗ reached ER (cell c k) (r + 1) -∗ anyOf (F := F) c M
      -∗ due (F := F) c ((cell (pred c) .cr, i, 1) :: l) -∗ dutyTok ER (cell (pred c) .cr) 0 d
      -∗ ((due (F := F) c l ∗ said (F := F) c (d + 1)) -∗ wp frame (𝕎 (c : Thread nD τ) none) Set.univ (cont ⟨⟩) Q)
      -∗ wp frame (𝕎 (c : Thread nD τ) none) Set.univ (.op (.semSignal (d' : Thread nD τ) sem 1) cont) Q) := by
  have hdd : d ∈ dut .cr 0 := by
    rcases d with _ | _ | _ | _ | d
    · decide
    · decide
    · decide
    · decide
    · omega
  subst hk hr
  rw [← hM]
  iintro #HR Rc Hb HA Hr HS HO HT Hk
  imod (step_release X (K := K) (J := J) (c := c) hd) $$ HR HA Hr HS with Hf
  ihave Hf := (said_step (F := F) c d) $$ [Hb Hf]
  · isplitl [Hb]
    · iexact Hb
    · iexact Hf
  icases Hf with #Hf
  ihave P := (pay_cr X d) $$ Hf
  iapply (step_signal X (c := c) (n := 1) (k := .cr) (c' := pred c) (d := d) hs hn hdd rfl) $$ HR HO HT Rc P
  iintro HO
  iapply Hk
  isplitl [HO]; · iexact HO
  iapply (show freedTo (F := F) c d ⊢ said (F := F) c (d + 1) from .rfl)
  iexact Hf

/-- A slot the next device gave back is taken again, with what its receive cell has reached. -/
theorem step_taken (d : ℕ) (k : Cell) (r : ℕ) (hd : d < 4) (hk : rcell d = k) (hr : d / 2 = r) {M : Memref sig .tc .vmem S128x2048 .bf16}
    (hM : slotAt (F := F) (succ c) d = anyOf (succ c) M) :
    records X K J ⊢ iprop(freed (F := F) (succ c) d -∗ Release.writeTok ES (succ c, d) 1
      -∗ |={Set.univ}=> iprop(anyOf (F := F) (succ c) M ∗ reached ER (cell (succ c) k) (r + 1))) := by
  subst hk hr
  rw [← hM]
  iintro #HR #⟨E, R⟩ T
  imod (step_take X (K := K) (J := J) (c := succ c) hd) $$ HR [] T with D
  · isplitr <;> iassumption
  imodintro
  isplitl [D]; · iexact D
  iexact R

end Lemmas

set_option maxHeartbeats 4000000 in
theorem body {tl : List (TalkSites.Pay nD τ sig)} (htl : AllAbove 11 tl) {Q : PUnit → sProp 𝕄} :
    records X K J ⊢ iprop(opens (F := F) c -∗ pays c -∗ starts c -∗ keys (F := F) c -∗ dueTo c -∗ due (F := F) c (dues c tl) -∗ own c inM (X c) -∗ outAny (F := F) c -∗ scratch (F := F) c sendM -∗ scratch (F := F) c recvM
      -∗ ((closed c ∗ due (F := F) c tl ∗ own c inM (X c) ∗ outIs c (w6 X c) ∗ scratch (F := F) c sendM ∗ scratch (F := F) c recvM) -∗ Q ⟨⟩)
      -∗ wp frame (𝕎 (c : Thread nD τ) none) Set.univ
          (cc1_body inM (Memref.isWhole_whole _) outM (Memref.isWhole_whole _) (Memref.whole cc1_scratch0) (Memref.isWhole_whole _)
            (Memref.whole cc1_scratch1) (Memref.isWhole_whole _) cc1_scratch2 cc1_scratch3 cc1_scratch4) Q) := by
  unfold pays starts opens keys dueTo dues
  iintro #HR ⟨#Rc0, #RS0, #RS1, #RV00, #RV10⟩ ⟨TbP, TbN, TR00, TR01, TR02, TR10, TR11, TR12, Tc0, Tc1, Tc2, Tc3, TS00, TS01, TS02, TS10, TS11, TS12⟩
    ⟨Pb, Pc, PS0, PS1, PR0, PR1⟩ ⟨⟨G0, G1, G2, G3⟩, ⟨T0, T1, T2, T3⟩⟩
    ⟨Cb, C00, C01, C02, C10, C11, C12, Cc0, Cc1, Cc2, Cc3⟩ O I Out Ss Sr Hk
  rw [cc1_body_eq_skeleton]; unfold cc1_body_skel
  rw [k1_part1_eq_skeleton]; unfold k1_part1_skel
  rw [k1_part2_eq_skeleton]; unfold k1_part2_skel
  rw [k1_part3_eq_skeleton]; unfold k1_part3_skel
  rw [k1_part4_eq_skeleton]; unfold k1_part4_skel
  rw [k1_part5_eq_skeleton]; unfold k1_part5_skel
  rw [k1_part6_eq_skeleton]; unfold k1_part6_skel
  rw [k1_part7_eq_skeleton]; unfold k1_part7_skel
  rw [k1_part8_eq_skeleton]; unfold k1_part8_skel
  rw [k1_part9_eq_skeleton]; unfold k1_part9_skel
  rw [k1_part10_eq_skeleton]; unfold k1_part10_skel
  rw [k1_part11_eq_skeleton]; unfold k1_part11_skel
  rw [k1_part12_eq_skeleton]; unfold k1_part12_skel
  rw [k1_part13_eq_skeleton]; unfold k1_part13_skel
  rw [k1_part14_eq_skeleton]; unfold k1_part14_skel
  rw [k1_part15_eq_skeleton]; unfold k1_part15_skel
  simp only [semSignalWord, semWaitWord, Prog.lift, Prog.bind_op, Prog.bind_ret, Prog.pure_eq_ret, wp_deviceId]
  ihave #RbP := (records_reached X K J (pred c)) $$ HR
  ihave #RbN := (records_reached X K J (succ c)) $$ HR
  -- the barrier
  ihave P := (pay_bar_pred X) $$ [Sr]
  · isplitl [Sr]; · iexact Sr
    isplitr <;> iassumption
  unfold scratch
  icases Ss with ⟨S0, S1⟩
  iapply (step_signal X (c := c) (n := 1) (k := .bar) (c' := pred c) (d := 0) rfl (dev1_eq c) (by decide) rfl) $$ HR O TbP RbP P
  iintro O
  iapply (step_signal X (c := c) (n := 1) (k := .bar) (c' := succ c) (d := 1) rfl (dev2_eq c) (by decide) rfl) $$ HR O TbN RbN []
  · iapply (pay_bar_succ X (c := c)); iexact Rc0
  iintro O
  iapply (step_barrier X (wpE_semWait_eq 𝒱₀ (c : Thread nD τ) none Set.univ) rfl 1 (by decide) (by repeat first | exact htl.below (by decide) | refine allAbove_cons (by decide) ?_)) $$ HR O Cb Pb
  iintro ⟨O, Pb, P, P'⟩
  ihave P := (show pay X .bar c 0 0 ⊢ iprop((anyOf (F := F) (succ c) recv0 ∗ anyOf (F := F) (succ c) recv1) ∗ reached ER (cell (succ c) .r0) 0 ∗ reached ER (cell (succ c) .r1) 0) from .rfl) $$ P
  icases P with ⟨⟨D0, D1⟩, #RR0, #RR1⟩
  ihave #Rc := (show pay X .bar c 0 1 ⊢ reached ER (cell (pred c) .cr) 0 from .rfl) $$ P'
  -- the operand
  iapply (step_operand (X c)) $$ I
  iintro I
  iapply step_peek $$ Out
  iintro %u Out
  iapply (step_fill (k1_pay2 (X c))) $$ Out
  iintro Out
  ihave Out := (show outIs c (fun k => chunk (pos c - k) (k1_pay2 (X c))) ⊢ outIs c (w0 X c) from by
    rw [show k1_pay2 (X c) = X c from shapeCast_self _ _]) $$ Out
  -- step 0
  iapply (step_stage (w := w0 X c) (Y := sent X c 0) 0 (off1_0 c) rfl sendM 0 _ k1_pay3 cast_out) $$ Out S0
  iintro ⟨Out, S0⟩
  iapply (step_exchange X (src := send0) (dst := recv0) 0 .s0 .r0 0 rfl rfl (dev3_eq c) rfl rfl rfl rfl rfl rfl rfl (fun _ => rfl) 2 (by decide) (by repeat first | exact htl.below (by decide) | refine allAbove_cons (by decide) ?_)) $$ HR S0 D0 O TS00 RS0 TR00 RR0 PS0 PR0 C00
  iintro ⟨O, PS0, #RS01, PR0, #RV0, S0, V0⟩
  iapply (step_add (w := w0 X c) 1 (off2_0 c) rfl recvM 0 _ (sent X (pred c) 0) (acc X 1 c (pos c - 1)) k1_pay4 (fun v hv => (add_in _ v hv).trans (recv_acc0 X c))) $$ Out V0
  iintro ⟨Out, V0⟩
  iapply (step_give X 0 .r0 0 (by decide) rfl rfl (M := recv0) rfl rfl (dev4_eq c)) $$ HR Rc [] G0 RV0 V0 O Tc0
  · iapply (show iprop(emp) ⊢ said (F := F) c 0 from .rfl); iempintro
  iintro ⟨O, #F0⟩
  -- step 1
  iapply (step_stage (w := w1 X c) (Y := sent X c 1) 1 (off1_1 c) rfl sendM 1 _ k1_pay5 cast_out) $$ Out S1
  iintro ⟨Out, S1⟩
  iapply (step_exchange X (src := send1) (dst := recv1) 1 .s1 .r1 0 rfl rfl (dev5_eq c) rfl rfl rfl rfl rfl rfl rfl (fun _ => rfl) 4 (by decide) (by repeat first | exact htl.below (by decide) | refine allAbove_cons (by decide) ?_)) $$ HR S1 D1 O TS10 RS1 TR10 RR1 PS1 PR1 C10
  iintro ⟨O, PS1, #RS11, PR1, #RV1, S1, V1⟩
  iapply (step_add (w := w1 X c) 2 (off2_1 c) rfl recvM 1 _ (sent X (pred c) 1) (acc X 2 c (pos c - 2)) (fun u v => k1_pay7 (k1_pay6 u) v) (fun v hv => (add_in _ v hv).trans (recv_acc1 X c))) $$ Out V1
  iintro ⟨Out, V1⟩
  iapply (step_give X 1 .r1 0 (by decide) rfl rfl (M := recv1) rfl rfl (dev6_eq c)) $$ HR Rc F0 G1 RV1 V1 O Tc1
  iintro ⟨O, #F1⟩
  -- step 2
  iapply (step_stage (w := w2 X c) (Y := sent X c 2) 2 (off1_2 c) rfl sendM 0 _ (fun v => k1_pay9 (k1_pay8 v)) cast_out) $$ Out S0
  iintro ⟨Out, S0⟩
  ihave Cr := (show atPos ER (cell c .cr) 0 ∅ 0 ⊢ credits (F := F) c 0 from by
    unfold credits
    iintro H
    iexists ∅
    isplitr; · ipureintro; exact Nat.zero_le _
    isplitl [H]; · iexact H
    rw [bigSep_empty]; iempintro) $$ Pc
  iapply (step_credit X (wpE_semWait_eq 𝒱₀ (c : Thread nD τ) none Set.univ) rfl 0 3 (by decide) (by repeat first | exact htl.below (by decide) | refine allAbove_cons (by decide) ?_)) $$ HR O Cc0 Cr
  iintro ⟨O, Cr, #E0⟩
  imod (step_taken X (K := K) (J := J) (c := c) 0 .r0 0 (by decide) rfl rfl (M := recv0) rfl) $$ HR E0 T0 with ⟨D0, RR0'⟩
  iapply (step_exchange X (src := send0) (dst := recv0) 2 .s0 .r0 1 rfl rfl (dev7_eq c) rfl rfl rfl rfl rfl rfl rfl (fun _ => rfl) 6 (by decide) (by repeat first | exact htl.below (by decide) | refine allAbove_cons (by decide) ?_)) $$ HR S0 D0 O TS01 RS01 TR01 RR0' PS0 PR0 C01
  iintro ⟨O, PS0, #RS02, PR0, #RV2, S0, V0⟩
  iapply (step_add (w := w2 X c) 3 (off2_2 c) rfl recvM 0 _ (sent X (pred c) 2) (acc X 3 c (pos c - 3)) k1_pay10 (fun v hv => (add_in _ v hv).trans (recv_acc2 X c))) $$ Out V0
  iintro ⟨Out, V0⟩
  iapply (step_give X 2 .r0 1 (by decide) rfl rfl (M := recv0) rfl rfl (dev8_eq c)) $$ HR Rc F1 G2 RV2 V0 O Tc2
  iintro ⟨O, #F2⟩
  -- step 3
  iapply (step_stage (w := w3 X c) (Y := sent X c 3) 3 (off3_0 c) rfl sendM 1 _ k1_pay11 cast_out) $$ Out S1
  iintro ⟨Out, S1⟩
  iapply (step_credit X (wpE_semWait_eq 𝒱₀ (c : Thread nD τ) none Set.univ) rfl 1 5 (by decide) (by repeat first | exact htl.below (by decide) | refine allAbove_cons (by decide) ?_)) $$ HR O Cc1 Cr
  iintro ⟨O, Cr, #E1⟩
  imod (step_taken X (K := K) (J := J) (c := c) 1 .r1 0 (by decide) rfl rfl (M := recv1) rfl) $$ HR E1 T1 with ⟨D1, RR1'⟩
  iapply (step_exchange X (src := send1) (dst := recv1) 3 .s1 .r1 1 rfl rfl (dev9_eq c) rfl rfl rfl rfl rfl rfl rfl (fun _ => rfl) 8 (by decide) (by repeat first | exact htl.below (by decide) | refine allAbove_cons (by decide) ?_)) $$ HR S1 D1 O TS11 RS11 TR11 RR1' PS1 PR1 C11
  iintro ⟨O, PS1, #RS12, PR1, #RV3, S1, V1⟩
  iapply (step_set (w := w3 X c) 0 (off4_0 c) recvM 1 _ (sent X (pred c) 3) (acc X 3 (pred c) (pos c - 0)) (recv_full0 X c) k1_pay12 (fun _ => rfl)) $$ Out V1
  iintro ⟨Out, V1⟩
  iapply (step_give X 3 .r1 1 (by decide) rfl rfl (M := recv1) rfl rfl (dev10_eq c)) $$ HR Rc F2 G3 RV3 V1 O Tc3
  iintro ⟨O, -⟩
  -- step 4
  iapply (step_stage (w := w4 X c) (Y := sent X c 4) 0 (off3_1 c) rfl sendM 0 _ (fun v => k1_pay14 (k1_pay13 v)) cast_out) $$ Out S0
  iintro ⟨Out, S0⟩
  iapply (step_credit X (wpE_semWait_eq 𝒱₀ (c : Thread nD τ) none Set.univ) rfl 2 7 (by decide) (by repeat first | exact htl.below (by decide) | refine allAbove_cons (by decide) ?_)) $$ HR O Cc2 Cr
  iintro ⟨O, Cr, #E2⟩
  imod (step_taken X (K := K) (J := J) (c := c) 2 .r0 1 (by decide) rfl rfl (M := recv0) rfl) $$ HR E2 T2 with ⟨D0, RR0''⟩
  iapply (step_exchange X (src := send0) (dst := recv0) 4 .s0 .r0 2 rfl rfl (dev11_eq c) rfl rfl rfl rfl rfl rfl rfl (fun _ => rfl) 10 (by decide) (by repeat first | exact htl.below (by decide) | refine allAbove_cons (by decide) ?_)) $$ HR S0 D0 O TS02 RS02 TR02 RR0'' PS0 PR0 C02
  iintro ⟨O, PS0, -, PR0, -, S0, V0⟩
  iapply (step_set (w := w4 X c) 1 (off4_1 c) recvM 0 _ (sent X (pred c) 4) (acc X 3 (pred (pred c)) (pos c - 1)) (recv_full1 X c) k1_pay15 (fun _ => rfl)) $$ Out V0
  iintro ⟨Out, V0⟩
  -- step 5
  iapply (step_stage (w := w5 X c) (Y := sent X c 5) 1 (off3_2 c) rfl sendM 1 _ k1_pay16 cast_out) $$ Out S1
  iintro ⟨Out, S1⟩
  iapply (step_credit_last X (wpE_semWait_eq 𝒱₀ (c : Thread nD τ) none Set.univ) rfl 9 (by decide) (by repeat first | exact htl.below (by decide) | refine allAbove_cons (by decide) ?_)) $$ HR O Cc3 Cr
  iintro ⟨O, Pc, #E3⟩
  imod (step_taken X (K := K) (J := J) (c := c) 3 .r1 1 (by decide) rfl rfl (M := recv1) rfl) $$ HR E3 T3 with ⟨D1, RR1''⟩
  iapply (step_exchange X (src := send1) (dst := recv1) 5 .s1 .r1 2 rfl rfl (dev12_eq c) rfl rfl rfl rfl rfl rfl rfl (fun _ => rfl) 11 (by decide) (by repeat first | exact htl.below (by decide) | refine allAbove_cons (by decide) ?_)) $$ HR S1 D1 O TS12 RS12 TR12 RR1'' PS1 PR1 C12
  iintro ⟨O, PS1, -, PR1, -, S1, V1⟩
  iapply (step_set (w := w5 X c) 2 (off4_2 c) recvM 1 _ (sent X (pred c) 5) (acc X 3 (pred (pred (pred c))) (pos c - 2)) (recv_full2 X c) k1_pay1 (fun _ => rfl)) $$ Out V1
  iintro ⟨Out, V1⟩
  -- the cells close
  imod (step_close X (K := K) (J := J) (c := c) (n := 1) .bar rfl) $$ HR Pb with Pb
  imod (step_close X (K := K) (J := J) (c := c) (n := 1) .cr rfl) $$ HR Pc with Pc
  imod (step_close X (K := K) (J := J) (c := c) (n := 3) .s0 rfl) $$ HR PS0 with PS0
  imod (step_close X (K := K) (J := J) (c := c) (n := 3) .s1 rfl) $$ HR PS1 with PS1
  imod (step_close X (K := K) (J := J) (c := c) (n := 3) .r0 rfl) $$ HR PR0 with PR0
  imod (step_close X (K := K) (J := J) (c := c) (n := 3) .r1 rfl) $$ HR PR1 with PR1
  rw [wp_ret]; imodintro
  iapply Hk
  unfold closed
  isplitl [Pb Pc PS0 PS1 PR0 PR1]
  · isplitl [Pb]; · iexact Pb
    isplitl [Pc]; · iexact Pc
    isplitl [PS0]; · iexact PS0
    isplitl [PS1]; · iexact PS1
    isplitl [PR0] <;> iassumption
  isplitl [O]; · iexact O
  isplitl [I]; · iexact I
  isplitl [Out]; · iexact Out
  isplitl [S0 S1]
  · isplitl [S0] <;> iassumption
  isplitl [V0] <;> iassumption

end Cert.WholeProof.Ring

end
-- ==== Proof.Whole.Ring.Region.lean ====
/-
# The call's data and its body's obligation

What each device starts from and ends with, and the body proved against it.
-/
module

public import proofs.«01_k».proof.Proof.Whole.Ring.Body
public import Idealize.ShloMosaic.Lib.Pipeline.Kit

@[expose] public section

noncomputable section

namespace Cert.WholeProof.Ring

open Cert.WholeIdeal Cert.WholeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.Pipeline (Dat Cfg Window BodyObligation cellOf)

variable (V : Dev nD → Valuation τ sig (Elt F)) (tl : Dev nD → List (TalkSites.Pay nD τ sig))

set_option maxRecDepth 100000

/-- The slab each device contributes: its operand as the call finds it. -/
abbrev slab (c : Dev nD) : Slab F := V c (Proc.devRef .tc main_v2)

/-- The chunk a row of a slab lies in, and the place within the chunk. -/
def chunkOf (j : S512x2048.Idx) : Fin 4 := ⟨(j 0).val / 128, by have : (j 0).val < 512 := (j 0).isLt; omega⟩
def inChunk (j : S512x2048.Idx) : S128x2048.Idx := fun
  | 0 => ⟨(j 0).val % 128, Nat.mod_lt _ (by decide)⟩
  | 1 => ⟨(j 1).val, (j 1).isLt⟩

theorem rowIx_inChunk (j : S512x2048.Idx) : rowIx (chunkOf j) (inChunk j) = j := by
  funext a
  fin_cases a
  · exact Fin.ext (Nat.div_add_mod (j 0).val 128)
  · rfl

/-- The result each device computes: chunk `a` is the sum that started at the device of position `a` and is complete at
    the one three further on. -/
def outAt (X : Dev nD → Slab F) (c : Dev nD) : S512x2048.Idx → Elt F .bf16 := fun j => acc X 3 (at_ (chunkOf j + 3) c) (chunkOf j) (inChunk j)

theorem final0 (c : Dev nD) : at_ (pos c - 0 + 3) c = pred c := by revert c; decide +kernel
theorem final1 (c : Dev nD) : at_ (pos c - 1 + 3) c = pred (pred c) := by revert c; decide +kernel
theorem final2 (c : Dev nD) : at_ (pos c - 2 + 3) c = pred (pred (pred c)) := by revert c; decide +kernel
theorem final3 (c : Dev nD) : at_ (pos c - 3 + 3) c = c := by revert c; decide +kernel
theorem back (c : Dev nD) (a : Fin 4) : pos c - (pos c - a) = a := sub_sub_cancel _ _

theorem w6_eq (X : Dev nD → Slab F) (c : Dev nD) (k : Fin 4) : w6 X c k = acc X 3 (at_ (pos c - k + 3) c) (pos c - k) := by
  fin_cases k
  · exact congrArg (fun d => acc X 3 d (pos c - 0)) (final0 c).symm
  · exact congrArg (fun d => acc X 3 d (pos c - 1)) (final1 c).symm
  · exact congrArg (fun d => acc X 3 d (pos c - 2)) (final2 c).symm
  · exact congrArg (fun d => acc X 3 d (pos c - 3)) (final3 c).symm

theorem out_eq (X : Dev nD → Slab F) (c : Dev nD) (f : Slab F) (h : ∀ k, chunk (pos c - k) f = w6 X c k) : f = outAt X c := by
  funext j
  have hk := congrFun ((h (pos c - chunkOf j)).trans (w6_eq X c _)) (inChunk j)
  rw [back] at hk
  exact (congrArg f (rowIx_inChunk j)).symm.trans hk

/-! ## The pipeline's data -/

/-- The generator's register and the other calls' buffers, which the body leaves alone. -/
def apart (c : Dev nD) : sProp 𝕄 :=
  iprop((∃ r, prngReg c r) ∗ some_ (F := F) c cc0_stg1_0 ∗ some_ (F := F) c cc0_stg2_0 ∗ some_ (F := F) c cc0_scratch0 ∗ some_ (F := F) c cc2_stg0_0 ∗ some_ (F := F) c cc2_stg1_0 ∗ some_ (F := F) c cc2_scratch0 ∗ some_ (F := F) c cc2_scratch1 ∗ some_ (F := F) c cc0_stg0_0)
/-- What device `c`'s body starts from, -/
def start (c : Dev nD) : sProp 𝕄 := iprop((∃ K J, records (slab V) K J ∗ opens (F := F) c ∗ pays c ∗ starts c ∗ keys (F := F) c) ∗ dueTo c)
def Φ₀ (c : Dev nD) : sProp 𝕄 := iprop(apart (F := F) c ∗ start V c ∗ scratch (F := F) c sendM ∗ scratch (F := F) c recvM)
/-- and what it ends with. -/
def Φ₁ (c : Dev nD) : sProp 𝕄 := iprop(apart (F := F) c ∗ closed c ∗ scratch (F := F) c sendM ∗ scratch (F := F) c recvM)

def dat (c : Dev nD) : Dat τ (Elt F) ℕ ℕ UU ℕ cfg1 c where
  A w := V c (Proc.devRef .tc (Pipeline.arrRef spec1 w))
  after w _ := match w with
    | ⟨0, _⟩ => slab V c
    | ⟨1, _⟩ => outAt (slab V) c
  Φ t := match t with
    | ⟨0, _⟩ => Φ₀ V c
    | ⟨_ + 1, _⟩ => Φ₁ c
  q _ := fullShare
  owed t := match t with
    | ⟨0, _⟩ => TalkSites.tallyL (dues c (tl c))
    | ⟨_ + 1, _⟩ => TalkSites.tallyL (tl c)

/-- What is staged is the operand. -/
theorem staged (c : Dev nD) : (win1_0.blk (0 : Fin 1)).view.read (Elt F) (V c (Proc.devRef .tc main_v2) : Buf (Elt F) ((c : Thread nD τ).loc main_v2)) = slab V c := by
  have hz : (fun a => (win1_0.index (0 : Fin 1)) a * main_v2.ty.shape.size a) = fun _ => 0 :=
    funext fun a => by fin_cases a <;> decide
  exact Memref.read_access_unit_zero (Elt F) main_v2 hz (fun a => by fin_cases a <;> decide) _

def bodyPre (c : Dev nD) : sProp 𝕄 :=
  iprop(Φ₀ V c ∗ (dat V tl c).owesAt 0 t1_0.castSucc
    ∗ (∃ d, stg c cc1_stg0_0 ((dat V tl c).before (0 : Fin 2) t1_0 d))
    ∗ (∃ d, stg c cc1_stg1_0 ((dat V tl c).before (1 : Fin 2) t1_0 d)))

def bodyPost (c : Dev nD) : sProp 𝕄 :=
  iprop(Φ₁ c ∗ (dat V tl c).owesAt 0 t1_0.succ ∗ stg c cc1_stg0_0 (slab V c) ∗ stg c cc1_stg1_0 (outAt (slab V) c))

theorem fetch_0 (t : Fin cfg1.N) : (cfg1.win (0 : Fin 2)).fetch t = true := by rw [fin_N1 t]; rfl

theorem body_obligation (htl : ∀ c, AllAbove 11 (tl c)) (c : Dev nD) : BodyObligation (dat V tl c) (defs₀ (F := F)) 𝒱₀ 0 Set.univ := fun t => by
  rw [fin_N1 t]
  rw [bigSep_W1, bigSep_W1]
  simp only [owns_whole_eq]
  show bodyPre V tl c ⊢ wp frame (wpE (defs₀ (F := F)) 𝒱₀ (c : Thread nD τ) none) Set.univ
    (cc1_body inM (Memref.isWhole_whole _) outM (Memref.isWhole_whole _) (Memref.whole cc1_scratch0) (Memref.isWhole_whole _)
      (Memref.whole cc1_scratch1) (Memref.isWhole_whole _) cc1_scratch2 cc1_scratch3 cc1_scratch4) (fun _ => bodyPost V tl c)
  unfold bodyPre Φ₀ start
  iintro ⟨⟨Hz, ⟨⟨%K, %J, #HR, Hop, HT, HP, HS⟩, HC⟩, HA, HB⟩, Ho, ⟨%d0, %g0, %hg0, Hx⟩, ⟨%d1, %g1, %hg1, Hout⟩⟩
  have hx : g0 = slab V c := by rw [hg0]; unfold Dat.before; rw [if_pos (fetch_0 t1_0)]; exact staged V c
  subst hx
  unfold Dat.owesAt Pipeline.owesWithin
  icases Ho with ⟨%W, %hW, HO⟩
  iapply (body (slab V) K J c (htl c)) $$ HR Hop HT HP HS HC [HO] [Hx] [Hout] HA HB
  · unfold due; iexists W; iexact HO
  · iapply (show stg c cc1_stg0_0 (slab V c) ⊢ own c inM (slab V c) from Entails.of_eq (owns_whole_eq c cc1_stg0_0 (slab V c)).symm)
    iexists _; isplitr; · (ipureintro; rfl)
    iexact Hx
  · unfold outAny; iexists g1; iexact Hout
  iintro ⟨Hcl, HO, Hx, Hout, HA, HB⟩
  unfold bodyPost Φ₁ due outIs Dat.owesAt Pipeline.owesWithin
  icases HO with ⟨%W', HO⟩
  icases Hout with ⟨%f, %hf, Hout⟩
  ihave Hx := (show own c inM (slab V c) ⊢ stg c cc1_stg0_0 (slab V c) from Entails.of_eq (owns_whole_eq c cc1_stg0_0 (slab V c))) $$ Hx
  isplitl [Hz Hcl HA HB]
  · isplitl [Hz]; · iexact Hz
    isplitl [Hcl]; · iexact Hcl
    isplitl [HA] <;> iassumption
  isplitl [HO]
  · iexists W'
    isplitr; · ipureintro; exact fun _ _ => Or.inl trivial
    iexact HO
  isplitl [Hx]; · iexact Hx
  iexists _; isplitr; · (ipureintro; exact out_eq (slab V) c f hf)
  iexact Hout

/-! ## The arrays -/

theorem share_eq (c : Dev nD) (w : Fin cfg1.W) : (dat V tl c).share w = fullShare := by unfold Dat.share; split <;> rfl

/-- The result's array after the call. -/
theorem arr_out (c : Dev nD) : (dat V tl c).arrAt (1 : Fin 2) cfg1.N = outAt (slab V) c := by
  have hz : (fun a => (win1_1.index (0 : Fin 1)) a * main_v3.ty.shape.size a) = fun _ => 0 :=
    funext fun a => by fin_cases a <;> decide
  have hr := fun f => Memref.read_access_unit_zero (Elt F) main_v3 hz (fun a => by fin_cases a <;> decide) f
  have ho : (win1_1.blk (0 : Fin 1)).view.read (Elt F) ((dat V tl c).arrAt (1 : Fin 2) cfg1.N) = outAt (slab V) c := by
    rw [show cfg1.N = ((0 : Fin 1) : Fin cfg1.N).val + 1 from rfl, (dat V tl c).arrAt_succ (1 : Fin 2) (0 : Fin 1)]
    rw [show (cfg1.win (1 : Fin 2)).flush (0 : Fin 1) = true from by decide, if_pos rfl]
    exact View.read_write_univ _ _
  exact (hr _).symm.trans ho

/-- The operand's array after the call. -/
theorem arr_in (c : Dev nD) : (dat V tl c).arrAt (0 : Fin 2) cfg1.N = V c (Proc.devRef .tc main_v2) := (dat V tl c).arrAt_in (0 : Fin 2) rfl _

end Cert.WholeProof.Ring

end
-- ==== Proof.Whole.Ring.Launch.lean ====
/-
# The call among the others

What the launch deals the devices for the call, how its own semaphores join when the call is entered, and what others
owe.
-/
module

public import proofs.«01_k».proof.Proof.Whole.Ring.Region
public import Idealize.ShloMosaic.Lib.SparseCore.Launch

@[expose] public section

noncomputable section

namespace Cert.WholeProof.Ring

open Cert.WholeIdeal Cert.WholeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.Pipeline (Dat Cfg Window BodyObligation cellOf)

variable (X : Dev nD → Slab F)

set_option maxRecDepth 100000

/-! ## The kernel's own semaphores, cells and tokens -/

/-- The five cells whose semaphores are the kernel's own: all but the barrier's. -/
def ownCells : List Cell := [.cr, .s0, .s1, .r0, .r1]
abbrev osem (i : Fin 5) : SemLoc sig := csem (ownCells.get i)

theorem ownSemFacts : Pipeline.OwnSemFacts spec1 osem := by decide +kernel

/-- The tokens of one device's cells: each duty of each round. -/
def tokList : List (Cell × ℕ × ℕ) :=
  [(.bar, 0, 0), (.bar, 0, 1), (.r0, 0, 0), (.r0, 1, 0), (.r0, 2, 0), (.r1, 0, 0), (.r1, 1, 0), (.r1, 2, 0),
   (.cr, 0, 0), (.cr, 0, 1), (.cr, 0, 2), (.cr, 0, 3), (.s0, 0, 0), (.s0, 1, 0), (.s0, 2, 0), (.s1, 0, 0), (.s1, 1, 0), (.s1, 2, 0)]
theorem tokList_nodup : tokList.Nodup := by decide

abbrev tokOf (ci : Dev nD × Fin 18) : GSem nD τ sig × ℕ × ℕ := (cell ci.1 (tokList.get ci.2).1, (tokList.get ci.2).2)
theorem tokOf_injective : Function.Injective tokOf := by
  rintro ⟨c, i⟩ ⟨c', i'⟩ h
  have h1 : cell c (tokList.get i).1 = cell c' (tokList.get i').1 := by have := congrArg Prod.fst h; exact this
  have h2 : (tokList.get i).2 = (tokList.get i').2 := by have := congrArg Prod.snd h; exact this
  have h3 : (c, (tokList.get i).1) = (c', (tokList.get i').1) := by apply cell_injective; exact h1
  have h4 : tokList.get i = tokList.get i' := by
    refine Prod.ext ?_ h2
    have := congrArg Prod.snd h3; exact this
  rw [show c = c' from congrArg Prod.fst h3, tokList_nodup.injective_get h4]

/-- The barriers, open from the launch; the others, opened when the call is entered. -/
def bars : Finset (GSem nD τ sig) := Finset.univ.map ⟨fun c : Dev nD => cell c .bar, fun c c' h => congrArg Prod.fst (cell_injective (a₁ := (c, .bar)) (a₂ := (c', .bar)) h)⟩
def later : Finset Cell := Finset.univ.erase .bar
def owns_ : Finset (GSem nD τ sig) := (Finset.univ ×ˢ later).map ⟨fun ck : Dev nD × Cell => cell ck.1 ck.2, cell_injective⟩
def tokens : Finset (GSem nD τ sig × ℕ × ℕ) := Finset.univ.map ⟨tokOf, tokOf_injective⟩

theorem apart_cells : Disjoint bars owns_ := Finset.disjoint_left.mpr fun g h h' => by
  obtain ⟨c, -, rfl⟩ := Finset.mem_map.mp h
  obtain ⟨ck, hck, e⟩ := Finset.mem_map.mp h'
  have e' : ck = (c, Cell.bar) := cell_injective e
  rw [e'] at hck
  exact absurd (Finset.mem_product.mp hck).2 (Finset.notMem_erase _ _)

/-- The slots given back: the next device's, one for each of the first four steps. -/
def slotKeys : Finset (Dev nD × ℕ) := Finset.univ ×ˢ Finset.range 4

theorem over_cells (Φ : Cell → sProp 𝕄) : bigSep Finset.univ Φ = bigSepL allCells Φ :=
  bigSep_univ_eq_bigSepL allCells rfl nodup_allCells Φ

/-- The tokens of device `c`'s own cells. -/
def toks (c : Dev nD) : sProp 𝕄 := bigSep Finset.univ fun i : Fin 18 => dutyTok ER (cell c (tokList.get i).1) (tokList.get i).2.1 (tokList.get i).2.2

theorem toks_eq (c : Dev nD) : toks (F := F) c = bigSepL [0, 1, 2, 3, 4, 5, 6, 7, 8, 9, 10, 11, 12, 13, 14, 15, 16, 17]
    fun i : Fin 18 => dutyTok ER (cell c (tokList.get i).1) (tokList.get i).2.1 (tokList.get i).2.2 := by
  unfold toks; exact bigSep_univ_eq_bigSepL _ (by decide) (by decide) _

/-- The records but the levels. -/
def recs (K : Dev nD × Cell → ℕ) (J : Dev nD × ℕ → ℕ) : sProp 𝕄 :=
  iprop((bigSep Finset.univ fun ck : Dev nD × Cell => cellInv ER (ringRd X) (K ck) (cell ck.1 ck.2))
    ∗ (bigSep Finset.univ fun b : Dev nD => reached ER (cell b .bar) 0)
    ∗ (bigSep slotKeys fun bd : Dev nD × ℕ => Release.slotInv ES (J bd) bd (slotAt (F := F) bd.1 bd.2)))
instance recs_persistent (K : Dev nD × Cell → ℕ) (J : Dev nD × ℕ → ℕ) : BI.Persistent (recs X K J) := by unfold recs; infer_instance

/-- Its position at its barrier, and the rights to open its other cells. -/
def parked (c : Dev nD) : sProp 𝕄 := iprop(atPos ER (cell c .bar) 0 ∅ 0 ∗ bigSep later fun k => openTok ER (cell c k))
/-- What a device keeps until the call is entered. -/
def kept (c : Dev nD) : sProp 𝕄 := iprop(∃ K J, recs X K J ∗ pays c ∗ parked (F := F) c ∗ keys (F := F) c)

theorem ownSems0_eq (c : Dev nD) : (Pipeline.ownSems0 (Ix := ℕ) (Name := ℕ) (U := UU) (Lvl := ℕ) (Val := Elt F) (τ := τ) osem c : sProp 𝕄)
    = bigSepL ownCells fun k => semVal (cell c k) 0 := by
  rw [Pipeline.ownSems0_eq_of_list c osem [0, 1, 2, 3, 4] (by decide) (by decide)]; rfl
theorem over_later (Φ : Cell → sProp 𝕄) : bigSep later Φ = bigSepL ownCells Φ :=
  bigSep_eq_bigSepL_of_eq ownCells (by decide) (by decide) Φ
/-- All the counters at zero are the barrier's and the kernel's own. -/
theorem closed_eq (c : Dev nD) : closed (F := F) c
    = iprop(semVal (cell c .bar) 0 ∗ Pipeline.ownSems0 (Ix := ℕ) (Name := ℕ) (U := UU) (Lvl := ℕ) (Val := Elt F) (τ := τ) osem c) := by
  rw [ownSems0_eq]; rfl
theorem starts_eq (c : Dev nD) : starts (F := F) c = iprop(atPos ER (cell c .bar) 0 ∅ 0 ∗ bigSep later fun k => atPos ER (cell c k) 0 ∅ 0) := by
  rw [over_later]; rfl

/-! ## The tokens dealt around the cycle -/

theorem to_succ (f : Dev nD → sProp 𝕄) : bigSep Finset.univ f = bigSep Finset.univ fun c => f (succ c) := bigSep_univ_equiv cycle f
theorem to_pred (f : Dev nD → sProp 𝕄) : bigSep Finset.univ f = bigSep Finset.univ fun c => f (pred c) := bigSep_univ_equiv cycle.symm f

/-- A token of some cell, as a function of the device. -/
abbrev tokAt (k : Cell) (r : ℕ) (d : ℕ) (c : Dev nD) : sProp 𝕄 := dutyTok ER (cell c k) r d

theorem toks_around : (bigSep Finset.univ fun c : Dev nD => (toks c : sProp 𝕄)) = bigSep Finset.univ fun c : Dev nD => pays c := by
  have e : (bigSep Finset.univ fun c : Dev nD => (toks c : sProp 𝕄)) = bigSep Finset.univ fun c : Dev nD =>
      iprop(tokAt .bar 0 0 c ∗ tokAt .bar 0 1 c ∗ tokAt .r0 0 0 c ∗ tokAt .r0 1 0 c ∗ tokAt .r0 2 0 c ∗ tokAt .r1 0 0 c ∗ tokAt .r1 1 0 c ∗ tokAt .r1 2 0 c ∗ tokAt .cr 0 0 c
        ∗ tokAt .cr 0 1 c ∗ tokAt .cr 0 2 c ∗ tokAt .cr 0 3 c ∗ tokAt .s0 0 0 c ∗ tokAt .s0 1 0 c ∗ tokAt .s0 2 0 c ∗ tokAt .s1 0 0 c ∗ tokAt .s1 1 0 c ∗ tokAt .s1 2 0 c) :=
    bigSep_congr fun c _ => by rw [toks_eq]; rfl
  rw [e]
  unfold pays
  simp only [bigSep_sep']
  rw [to_pred (tokAt .bar 0 0), to_succ (tokAt .bar 0 1), to_succ (tokAt .r0 0 0), to_succ (tokAt .r0 1 0), to_succ (tokAt .r0 2 0), to_succ (tokAt .r1 0 0),
    to_succ (tokAt .r1 1 0), to_succ (tokAt .r1 2 0), to_pred (tokAt .cr 0 0), to_pred (tokAt .cr 0 1), to_pred (tokAt .cr 0 2), to_pred (tokAt .cr 0 3)]

/-- The rights to the slots, dealt: to each device those to give its own back and those to take the next device's. -/
theorem keys_around : (iprop((bigSep slotKeys fun k => Release.readerAt ES k 0) ∗ bigSep (slotKeys ×ˢ Finset.range 1) fun x => Release.writeTok ES x.1 (x.2 + 1)) : sProp 𝕄)
    = bigSep Finset.univ fun c : Dev nD => keys (F := F) c := by
  have hr (Φ : ℕ → sProp 𝕄) : bigSep (Finset.range 4) Φ = bigSepL [0, 1, 2, 3] Φ := bigSep_eq_bigSepL_of_eq [0, 1, 2, 3] (by decide) (by decide) Φ
  have hk : (fun c : Dev nD => keys (F := F) c) = fun c => iprop(bigSep (Finset.range 4) (fun d => Release.readerAt ES (c, d) 0) ∗ bigSep (Finset.range 4) fun d => Release.writeTok ES (succ c, d) 1) :=
    funext fun c => by rw [hr, hr]; rfl
  rw [hk, bigSep_sep', SparseCore.bigSep_product]
  simp only [Finset.range_one, bigSep_singleton]
  unfold slotKeys
  rw [SparseCore.bigSep_product, SparseCore.bigSep_product]
  exact congrArg (fun R => iprop(_ ∗ R)) (to_succ fun c => bigSep (Finset.range 4) fun d => Release.writeTok ES (c, d) 1)

theorem over_bars (Φ : GSem nD τ sig → sProp 𝕄) : bigSep bars Φ = bigSep Finset.univ fun c : Dev nD => Φ (cell c .bar) := by
  unfold bars; rw [bigSep_map]; rfl
theorem over_owns (Φ : GSem nD τ sig → sProp 𝕄) : bigSep owns_ Φ = bigSep Finset.univ fun c : Dev nD => bigSep later fun k => Φ (cell c k) := by
  unfold owns_; rw [bigSep_map, SparseCore.bigSep_product]; rfl
theorem over_all (Φ : GSem nD τ sig → sProp 𝕄) : bigSep (bars ∪ owns_) Φ = bigSep Finset.univ fun ck : Dev nD × Cell => Φ (cell ck.1 ck.2) := by
  refine (BI.bigSep_union apart_cells).trans ?_
  rw [over_bars, over_owns]
  refine (bigSep_sep' _ _ _).symm.trans ?_
  rw [bigSep_univ_prod]
  exact bigSep_congr fun c _ => (BI.bigSep_erase (Φ := fun k : Cell => Φ (cell c k)) (Finset.mem_univ Cell.bar)).symm

/-- What the launch gives the devices for the call, dealt among them. -/
theorem deal : iprop((bigSep Finset.univ fun c : Dev nD => semVal (cell c .bar) 0) ∗ BI.own (ER (launchOf bars owns_ tokens)) ∗ BI.own (ES (Release.initSlots slotKeys 1))) ⊢ |={Set.univ}=> bigSep Finset.univ (kept X) := by
  rw [← over_bars fun g => semVal g 0]
  iintro ⟨Hv, Hu, Hsd⟩
  imod (Rounds.fund_launch (Es := Set.univ) ER (ringRd X) apart_cells (fun _ _ h => h) tokens ∅) $$ [Hv Hu] with ⟨%κ, -, HI, HR, Hat, Hop, Htok⟩
  · isplitl [Hv] <;> iassumption
  ihave Htok := (Entails.of_eq ((show bigSep tokens (fun x => (dutyTok ER x.1 x.2.1 x.2.2 : sProp 𝕄)) = bigSep Finset.univ fun c : Dev nD => toks c from by
    unfold tokens; rw [bigSep_map, bigSep_univ_prod]; rfl).trans toks_around)) $$ Htok
  ihave #HI := (Entails.of_eq (over_all fun g => cellInv ER (ringRd X) (κ g) g)) $$ HI
  ihave #HR := (Entails.of_eq (over_bars fun g => reached ER g 0)) $$ HR
  ihave Hat := (Entails.of_eq (over_bars fun g => atPos ER g 0 ∅ 0)) $$ Hat
  ihave Hop := (Entails.of_eq (over_owns fun g => openTok ER g)) $$ Hop
  imod (Release.slots_init (Es := Set.univ) ES slotKeys 1 (fun bd : Dev nD × ℕ => slotAt (F := F) bd.1 bd.2) ∅) $$ Hsd with ⟨%J, -, #HJ, Hrd, Hwr⟩
  ihave Hky := (Entails.of_eq (keys_around (F := F))) $$ [Hrd Hwr]
  · isplitl [Hrd] <;> iassumption
  imodintro
  iapply (with_persistent (R := recs X (fun ck => κ (cell ck.1 ck.2)) J) (Φ := fun c => iprop(pays c ∗ parked (F := F) c ∗ keys (F := F) c)) fun c _ => show _ ⊢ kept X c from by
    unfold kept; iintro H; iexists (fun ck => κ (cell ck.1 ck.2)); iexists J; iexact H)
  isplitr
  · unfold recs
    isplitl; · iexact HI
    isplitl; · iexact HR
    iexact HJ
  · unfold parked
    simp only [bigSep_sep']
    isplitl [Htok]; · iexact Htok
    isplitl [Hat Hop]
    · isplitl [Hat] <;> iassumption
    iexact Hky

/-! ## Entering the call -/

theorem opens_intro (c : Dev nD) : (bigSep later fun k => reached ER (cell c k) 0 : sProp 𝕄) ⊢ opens (F := F) c := by
  rw [over_later]; exact .rfl

/-- The kernel's own semaphores join their cells. -/
theorem open_all (K : Dev nD × Cell → ℕ) (J : Dev nD × ℕ → ℕ) (c : Dev nD) : iprop(recs X K J ∗ bigSep later fun k => iprop(openTok ER (cell c k) ∗ semVal (cell c k) 0))
    ⊢ |={Set.univ}=> bigSep later fun k => iprop(atPos ER (cell c k) 0 ∅ 0 ∗ reached ER (cell c k) 0) :=
  (with_persistent fun k _ => show _ ⊢ iprop(|={Set.univ}=> (atPos ER (cell c k) 0 ∅ 0 ∗ reached ER (cell c k) 0)) from by
    unfold recs
    iintro ⟨⟨HI, -⟩, Ho, Hv⟩
    ihave Hc := (show _ ⊢ _ from bigSep_elim (Finset.mem_univ (c, k))) $$ HI
    iapply (Rounds.cell_open ER (ringRd X) (g := cell c k) (Set.mem_univ (K (c, k))))
    isplitl [Hc]; · iexact Hc
    isplitl [Ho] <;> iassumption).trans (bigSep_fupd _ _)

theorem enter (V : Dev nD → Valuation τ sig (Elt F)) (c : Dev nD) :
    iprop((kept (slab V) c ∗ dueTo (F := F) c) ∗ Pipeline.ownSems0 (Ix := ℕ) (Name := ℕ) (U := UU) (Lvl := ℕ) (Val := Elt F) (τ := τ) osem c
        ∗ levAts (SiteBlocks.L levels) SiteBlocks.lv) ⊢ |={Set.univ}=> start V c := by
  rw [ownSems0_eq, ← over_later]
  unfold kept parked start
  iintro ⟨⟨⟨%K, %J, #HR, HT, ⟨Hb, Ho⟩, HK⟩, HD⟩, Hs, Hl⟩
  imod (open_all (slab V) K J c) $$ [Ho Hs] with H
  · isplitr; · iexact HR
    rw [bigSep_sep']
    isplitl [Ho] <;> iassumption
  ihave H := (Entails.of_eq (bigSep_sep' later (fun k => (atPos ER (cell c k) 0 ∅ 0 : sProp 𝕄)) (fun k => reached ER (cell c k) 0))) $$ H
  icases H with ⟨Ha, Hr⟩
  ihave Hr := (opens_intro (F := F) c) $$ Hr
  imodintro
  isplitr [HD]
  · iexists K; iexists J
    isplitl [Hl]
    · unfold recs records levs
      icases HR with ⟨H1, H2, H3⟩
      isplitr; · iexact H1
      isplitr; · iexact H2
      isplitr; · iexact H3
      iexact Hl
    isplitl [Hr]; · iexact Hr
    isplitl [HT]; · iexact HT
    isplitr [HK]
    · rw [starts_eq]; isplitl [Hb] <;> iassumption
    iexact HK
  iexact HD

/-! ## The launch credit -/

/-- The payments to device `c`'s own cells. -/
abbrev owed (c : Dev nD) : List (TalkSites.Pay nD τ sig) :=
  [(cell c .bar, 1, 1), (cell c .bar, 1, 1), (cell c .r0, 2, N), (cell c .cr, 3, 1), (cell c .r1, 4, N), (cell c .cr, 5, 1), (cell c .r0, 6, N), (cell c .cr, 7, 1), (cell c .r1, 8, N), (cell c .cr, 9, 1), (cell c .r0, 10, N), (cell c .r1, 11, N)]

theorem owed_here (c : Dev nD) : ∀ x ∈ owed c, x.1.1 = (c.tc : Thread nD τ) := fun x hx => by
  simp only [List.mem_cons, List.not_mem_nil, or_false] at hx
  rcases hx with rfl | rfl | rfl | rfl | rfl | rfl | rfl | rfl | rfl | rfl | rfl | rfl <;> rfl

theorem sum_succ (f : Dev nD → CellTallies nD τ sig ℕ) : ∑ c, f (succ c) = ∑ c, f c := Equiv.sum_comp cycle f
theorem sum_pred (f : Dev nD → CellTallies nD τ sig ℕ) : ∑ c, f (pred c) = ∑ c, f c := Equiv.sum_comp cycle.symm f

/-- A payment's tally, as a function of the device. -/
abbrev tal (k : Cell) (i n : ℕ) (c : Dev nD) : CellTallies nD τ sig ℕ := tallyAt (cell c k) i n

theorem sum_owed : (∑ d, TalkSites.tallyL (dues d []) : CellTallies nD τ sig ℕ) = ∑ d, TalkSites.tallyL (owed d) := by
  show (∑ d, (tal .bar 1 1 (pred d) + (tal .bar 1 1 (succ d) + (tal .r0 2 N (succ d) + (tal .cr 3 1 (pred d) + (tal .r1 4 N (succ d) + (tal .cr 5 1 (pred d) + (tal .r0 6 N (succ d) + (tal .cr 7 1 (pred d) + (tal .r1 8 N (succ d) + (tal .cr 9 1 (pred d) + (tal .r0 10 N (succ d) + (tal .r1 11 N (succ d) + 0)))))))))))) : CellTallies nD τ sig ℕ)
    = (∑ d, (tal .bar 1 1 d + (tal .bar 1 1 d + (tal .r0 2 N d + (tal .cr 3 1 d + (tal .r1 4 N d + (tal .cr 5 1 d + (tal .r0 6 N d + (tal .cr 7 1 d + (tal .r1 8 N d + (tal .cr 9 1 d + (tal .r0 10 N d + (tal .r1 11 N d + 0)))))))))))) : CellTallies nD τ sig ℕ)
  simp only [Finset.sum_add_distrib]
  rw [sum_pred (tal .bar 1 1), sum_succ (tal .bar 1 1), sum_succ (tal .r0 2 N), sum_pred (tal .cr 3 1), sum_succ (tal .r1 4 N), sum_pred (tal .cr 5 1), sum_succ (tal .r0 6 N), sum_pred (tal .cr 7 1), sum_succ (tal .r1 8 N), sum_pred (tal .cr 9 1), sum_succ (tal .r0 10 N), sum_succ (tal .r1 11 N)]

theorem creds (c : Dev nD) : (cred (TalkSites.tallyL (owed c)) : sProp 𝕄) ⊢ dueTo c := by
  rw [TalkSites.cred_tallyL]
  unfold dueTo
  iintro H
  ihave H := (show (bigSepL (owed c) fun x => cred x.tally : sProp 𝕄) ⊢ iprop(cred (tal .bar 1 1 c) ∗ cred (tal .bar 1 1 c) ∗ cred (tal .r0 2 N c) ∗ cred (tal .cr 3 1 c) ∗ cred (tal .r1 4 N c) ∗ cred (tal .cr 5 1 c) ∗ cred (tal .r0 6 N c) ∗ cred (tal .cr 7 1 c) ∗ cred (tal .r1 8 N c) ∗ cred (tal .cr 9 1 c) ∗ cred (tal .r0 10 N c) ∗ cred (tal .r1 11 N c)) from Entails.of_eq rfl) $$ H
  icases H with ⟨H1, H2, H3, H4, H5, H6, H7, H8, H9, H10, H11, H12⟩
  isplitl [H1 H2]
  · rw [show (tallyAt (cell c .bar) 1 2 : CellTallies nD τ sig ℕ) = tallyAt (cell c .bar) 1 1 + tallyAt (cell c .bar) 1 1 from (tallyAt_add _ _ 1 1).symm]
    iapply (cred_add (tallyAt (cell c .bar) 1 1) (tallyAt (cell c .bar) 1 1)).2
    isplitl [H1] <;> iassumption
  isplitl [H3]; · iexact H3
  isplitl [H7]; · iexact H7
  isplitl [H11]; · iexact H11
  isplitl [H5]; · iexact H5
  isplitl [H9]; · iexact H9
  isplitl [H12]; · iexact H12
  isplitl [H4]; · iexact H4
  isplitl [H6]; · iexact H6
  isplitl [H8]; · iexact H8
  iexact H10

/-! A scratch buffer whole is its two slots. -/

theorem scratch_eq_send (c : Dev nD) :
    (iprop(∃ f : Buf (Elt F) ((c : Thread nD τ).loc cc1_scratch0), ((c : Thread nD τ).loc cc1_scratch0) ↦{fullShare} f) : sProp 𝕄) = scratch (F := F) c sendM := by
  rw [show (iprop(∃ f : Buf (Elt F) ((c : Thread nD τ).loc cc1_scratch0), ((c : Thread nD τ).loc cc1_scratch0) ↦{fullShare} f) : sProp 𝕄)
    = iprop(∃ f, (sendM.view.loc (c : Thread nD τ) ↦[sendM.view.set]{fullShare} f)) from by rw [show sendM.view.set = Finset.univ from View.set_whole _]]
  exact BI.Entails.antisymm (any_two sendM c) (of_two sendM c)

theorem scratch_eq_recv (c : Dev nD) :
    (iprop(∃ f : Buf (Elt F) ((c : Thread nD τ).loc cc1_scratch1), ((c : Thread nD τ).loc cc1_scratch1) ↦{fullShare} f) : sProp 𝕄) = scratch (F := F) c recvM := by
  rw [show (iprop(∃ f : Buf (Elt F) ((c : Thread nD τ).loc cc1_scratch1), ((c : Thread nD τ).loc cc1_scratch1) ↦{fullShare} f) : sProp 𝕄)
    = iprop(∃ f, (recvM.view.loc (c : Thread nD τ) ↦[recvM.view.set]{fullShare} f)) from by rw [show recvM.view.set = Finset.univ from View.set_whole _]]
  exact BI.Entails.antisymm (any_two recvM c) (of_two recvM c)

/-! ## Into the body and out of it -/

theorem phi_in (V : Dev nD → Valuation τ sig (Elt F)) (tl : Dev nD → List (TalkSites.Pay nD τ sig)) (c : Dev nD) :
    iprop(Pipeline.scopedRest spec1 c ∗ (∃ r, prngReg c r) ∗ start V c) ⊢ (dat V tl c).Φ 0 := by
  rw [show (dat V tl c).Φ 0 = Φ₀ V c from rfl, scopedRest1_eq, scratch_eq_send, scratch_eq_recv]
  unfold Φ₀ apart
  iintro ⟨⟨H0, H1, H2, H3, H4, H5, H6, H7, H8, H9⟩, Hp, Hs⟩
  isplitl [Hp H0 H1 H2 H5 H6 H7 H8 H9]
  · isplitl [Hp]; · iexact Hp
    isplitl [H0]; · iexact H0
    isplitl [H1]; · iexact H1
    isplitl [H2]; · iexact H2
    isplitl [H5]; · iexact H5
    isplitl [H6]; · iexact H6
    isplitl [H7]; · iexact H7
    isplitl [H8]; · iexact H8
    iexact H9
  isplitl [Hs]; · iexact Hs
  isplitl [H3] <;> iassumption

theorem phi_out (V : Dev nD → Valuation τ sig (Elt F)) (tl : Dev nD → List (TalkSites.Pay nD τ sig)) (c : Dev nD) :
    (dat V tl c).Φ (Fin.last cfg1.N) ⊢ iprop(Pipeline.scopedRest spec1 c ∗ (∃ r, prngReg c r)
      ∗ Pipeline.ownSems0 (Ix := ℕ) (Name := ℕ) (U := UU) (Lvl := ℕ) (Val := Elt F) (τ := τ) osem c ∗ semVal (cell c .bar) 0) := by
  rw [show (dat V tl c).Φ (Fin.last cfg1.N) = Φ₁ c from rfl, scopedRest1_eq, scratch_eq_send, scratch_eq_recv]
  unfold Φ₁ apart
  rw [closed_eq]
  iintro ⟨⟨Hp, H0, H1, H2, H5, H6, H7, H8, H9⟩, ⟨Hb, Ho⟩, H3, H4⟩
  isplitr [Hp Ho Hb]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [Hp]; · iexact Hp
  isplitl [Ho] <;> iassumption

end Cert.WholeProof.Ring

end
-- ==== Proof.Whole.Plane.Mesh.lean ====
/-
# The plane's cycle

The devices of one plane (a fixed `z`) form a cycle of eight: position `p` along it is `y` on the side `x = 0` and
`7 - y` on the side `x = 1`. This module states that cycle on device numbers, reads the kernel's device numbers and
row offsets off it, and names the memory and the semaphores of the all-gather.
-/
module

public import proofs.«01_k».proof.Proof.Gen.WholeIdeal
public import proofs.«01_k».proof.Proof.Gen.WholeIdeal.Skeleton
public import proofs.«01_k».proof.Proof.Gen.WholeIdeal.Launch
public import proofs.«01_k».proof.Proof.Gen.WholeIdeal.Points
public import proofs.«01_k».proof.Proof.Whole.Ghost
public import Idealize.ShloMosaic.Lib.Pipeline.Launch
public import Idealize.ShloMosaic.Lib.Pipeline.Kit
public import Idealize.ShloMosaic.Lib.Pipeline.TalkSites
public import Idealize.ShloMosaic.Lib.Pipeline.Value
public import Idealize.ShloMosaic.Lib.MemrefSat
public import Idealize.ShloMosaic.Lib.Tactic

@[expose] public section

noncomputable section

namespace Cert.WholeProof.Plane

open Cert.WholeIdeal Cert.WholeIdeal.Gen
open Idealize.ShloMosaic Idealize.ShloMosaic.TcCoe

/-! ## Positions and neighbours -/

/-- The position of a device along its plane's cycle. -/
def pos (c : Dev nD) : Fin 8 := ⟨if c.val / 16 = 0 then c.val / 4 % 4 else 7 - c.val / 4 % 4, by split <;> omega⟩

/-- The device at position `a` of the cycle through `c`. -/
def at_ (a : Fin 8) (c : Dev nD) : Dev nD :=
  ⟨(if a.val < 4 then 4 * a.val else 16 + 4 * (7 - a.val)) + c.val % 4, by
    have h : (if a.val < 4 then 4 * a.val else 16 + 4 * (7 - a.val)) + c.val % 4 < 32 := by
      have := a.isLt
      split <;> omega
    exact h⟩

/-- The next device along the cycle, and the one before. -/
def succ (c : Dev nD) : Dev nD := at_ (pos c + 1) c
def pred (c : Dev nD) : Dev nD := at_ (pos c - 1) c

theorem pred_succ (c : Dev nD) : pred (succ c) = c := by revert c; decide +kernel
theorem succ_pred (c : Dev nD) : succ (pred c) = c := by revert c; decide +kernel
theorem four_back (c : Dev nD) : pred (pred (pred (pred c))) = succ (succ (succ (succ c))) := by revert c; decide +kernel

def cycle : Dev nD ≃ Dev nD := ⟨succ, pred, pred_succ, succ_pred⟩

theorem dev1_eq (c : Dev nD) : (⟨k2_dev1 c, k2_dev1_lt c⟩ : Dev nD) = pred c := by revert c; decide +kernel
theorem dev2_eq (c : Dev nD) : (⟨k2_dev2 c, k2_dev2_lt c⟩ : Dev nD) = succ c := by revert c; decide +kernel
theorem dev3_eq (c : Dev nD) : (⟨k2_dev3 c, k2_dev3_lt c⟩ : Dev nD) = succ c := by revert c; decide +kernel
theorem dev4_eq (c : Dev nD) : (⟨k2_dev4 c, k2_dev4_lt c⟩ : Dev nD) = pred c := by revert c; decide +kernel
theorem dev5_eq (c : Dev nD) : (⟨k2_dev5 c, k2_dev5_lt c⟩ : Dev nD) = succ c := by revert c; decide +kernel
theorem dev6_eq (c : Dev nD) : (⟨k2_dev6 c, k2_dev6_lt c⟩ : Dev nD) = pred c := by revert c; decide +kernel
theorem dev7_eq (c : Dev nD) : (⟨k2_dev7 c, k2_dev7_lt c⟩ : Dev nD) = pred c := by revert c; decide +kernel
theorem dev8_eq (c : Dev nD) : (⟨k2_dev8 c, k2_dev8_lt c⟩ : Dev nD) = succ c := by revert c; decide +kernel
theorem dev9_eq (c : Dev nD) : (⟨k2_dev9 c, k2_dev9_lt c⟩ : Dev nD) = pred c := by revert c; decide +kernel
theorem dev10_eq (c : Dev nD) : (⟨k2_dev10 c, k2_dev10_lt c⟩ : Dev nD) = succ c := by revert c; decide +kernel
theorem dev11_eq (c : Dev nD) : (⟨k2_dev11 c, k2_dev11_lt c⟩ : Dev nD) = pred c := by revert c; decide +kernel

/-- Row block `a` of the result, as an offset. -/
def blkOff (a : Fin 8) : Fin 2 → ℕ := ![512 * a.val, 0]

theorem off1_eq (c : Dev nD) : k2_off1 c = blkOff (pos c) := k2_off1_eq c
theorem off2_1 (c : Dev nD) : k2_off2 c 1#32 = blkOff (pos c - 1) := by revert c; decide +kernel
theorem off2_2 (c : Dev nD) : k2_off2 c 2#32 = blkOff (pos c - 2) := by revert c; decide +kernel
theorem off2_3 (c : Dev nD) : k2_off2 c 3#32 = blkOff (pos c - 3) := by revert c; decide +kernel
theorem off2_4 (c : Dev nD) : k2_off2 c 4#32 = blkOff (pos c - 4) := by revert c; decide +kernel
theorem off3_1 (c : Dev nD) : k2_off3 c 1#32 = blkOff (pos c + 1) := by revert c; decide +kernel
theorem off3_2 (c : Dev nD) : k2_off3 c 2#32 = blkOff (pos c + 2) := by revert c; decide +kernel
theorem off3_3 (c : Dev nD) : k2_off3 c 3#32 = blkOff (pos c + 3) := by revert c; decide +kernel

/-- Which device's slab each of the eight row blocks holds: the one at the block's position. -/
theorem at_blocks (c : Dev nD) :
    at_ (pos c) c = c ∧ at_ (pos c - 1) c = pred c ∧ at_ (pos c + 1) c = succ c
      ∧ at_ (pos c - 2) c = pred (pred c) ∧ at_ (pos c + 2) c = succ (succ c)
      ∧ at_ (pos c - 3) c = pred (pred (pred c)) ∧ at_ (pos c + 3) c = succ (succ (succ c))
      ∧ at_ (pos c - 4) c = pred (pred (pred (pred c))) := by revert c; decide +kernel

/-- Every row block is one of the eight. -/
theorem blocks_cover (p a : Fin 8) :
    a = p ∨ a = p - 1 ∨ a = p + 1 ∨ a = p - 2 ∨ a = p + 2 ∨ a = p - 3 ∨ a = p + 3 ∨ a = p - 4 := by
  revert p a; decide

/-! ## Memory -/

abbrev inM : Memref sig .tc .vmem S512x2048 .bf16 := Memref.whole cc2_stg0_0
abbrev outM : Memref sig .tc .vmem S4096x2048 .bf16 := Memref.whole cc2_stg1_0
abbrev cwM : Memref sig .tc .vmem S3x512x2048 .bf16 := Memref.whole cc2_scratch0
abbrev ccwM : Memref sig .tc .vmem S3x512x2048 .bf16 := Memref.whole cc2_scratch1

abbrev slot0 : Rect S3x512x2048 := Rect.unit (s := S3x512x2048) ![0, 0, 0] S1x512x2048.size inb_S3x512x2048_S1x512x2048_0_0_0
abbrev slot1 : Rect S3x512x2048 := Rect.unit (s := S3x512x2048) ![1, 0, 0] S1x512x2048.size inb_S3x512x2048_S1x512x2048_1_0_0
abbrev slot2 : Rect S3x512x2048 := Rect.unit (s := S3x512x2048) ![2, 0, 0] S1x512x2048.size inb_S3x512x2048_S1x512x2048_2_0_0
abbrev low0 : Rect S3x512x2048 := Rect.unit (s := S3x512x2048) ![0, 0, 0] S1x256x2048.size inb_S3x512x2048_S1x256x2048_0_0_0
abbrev high0 : Rect S3x512x2048 := Rect.unit (s := S3x512x2048) ![0, 256, 0] S1x256x2048.size inb_S3x512x2048_S1x256x2048_0_256_0
abbrev low2 : Rect S3x512x2048 := Rect.unit (s := S3x512x2048) ![2, 0, 0] S1x256x2048.size inb_S3x512x2048_S1x256x2048_2_0_0
abbrev high2 : Rect S3x512x2048 := Rect.unit (s := S3x512x2048) ![2, 256, 0] S1x256x2048.size inb_S3x512x2048_S1x256x2048_2_256_0

abbrev cw0 : Memref sig .tc .vmem S512x2048 .bf16 := (cwM.slice slot0 (fun _ => rfl)).squeeze S512x2048 squeezes_S1x512x2048_S512x2048
abbrev cw1 : Memref sig .tc .vmem S512x2048 .bf16 := (cwM.slice slot1 (fun _ => rfl)).squeeze S512x2048 squeezes_S1x512x2048_S512x2048
abbrev cw2 : Memref sig .tc .vmem S512x2048 .bf16 := (cwM.slice slot2 (fun _ => rfl)).squeeze S512x2048 squeezes_S1x512x2048_S512x2048
abbrev ccw0 : Memref sig .tc .vmem S512x2048 .bf16 := (ccwM.slice slot0 (fun _ => rfl)).squeeze S512x2048 squeezes_S1x512x2048_S512x2048
abbrev ccw1 : Memref sig .tc .vmem S512x2048 .bf16 := (ccwM.slice slot1 (fun _ => rfl)).squeeze S512x2048 squeezes_S1x512x2048_S512x2048
abbrev ccw2 : Memref sig .tc .vmem S512x2048 .bf16 := (ccwM.slice slot2 (fun _ => rfl)).squeeze S512x2048 squeezes_S1x512x2048_S512x2048
/-- The halves of the clockwise slot 0, of the clockwise slot 2 and of the counter-clockwise slot 2 that the last step moves. -/
abbrev cw0L : Memref sig .tc .vmem S256x2048 .bf16 := (cwM.slice low0 (fun _ => rfl)).squeeze S256x2048 squeezes_S1x256x2048_S256x2048
abbrev cw0H : Memref sig .tc .vmem S256x2048 .bf16 := (cwM.slice high0 (fun _ => rfl)).squeeze S256x2048 squeezes_S1x256x2048_S256x2048
abbrev cw2L : Memref sig .tc .vmem S256x2048 .bf16 := (cwM.slice low2 (fun _ => rfl)).squeeze S256x2048 squeezes_S1x256x2048_S256x2048
abbrev ccw2H : Memref sig .tc .vmem S256x2048 .bf16 := (ccwM.slice high2 (fun _ => rfl)).squeeze S256x2048 squeezes_S1x256x2048_S256x2048

/-! ## Semaphores -/

/-- The cells of one device: the barrier, the credit, the send and receive semaphores of the two directions. -/
inductive Cell
  | bar | cr
  | cwS0 | cwS1 | cwS2 | cwR0 | cwR1 | cwR2
  | ccwS0 | ccwS1 | ccwS2 | ccwS3 | ccwR0 | ccwR1 | ccwR2 | ccwR3
  deriving DecidableEq

abbrev barS : Sem sig := (SemArray.scalar (sig.barrier 1 rfl) : Sems sig S_).sem

abbrev at0 (a : DmaSems sig S3) : DmaSem sig := ((a.slice (Rect.unit (s := S3) ![0] S1.size inb_S3_S1_0)).squeeze S_ squeezes_S1_S_).sem
abbrev at1 (a : DmaSems sig S3) : DmaSem sig := ((a.slice (Rect.unit (s := S3) ![1] S1.size inb_S3_S1_1)).squeeze S_ squeezes_S1_S_).sem
abbrev at2 (a : DmaSems sig S3) : DmaSem sig := ((a.slice (Rect.unit (s := S3) ![2] S1.size inb_S3_S1_2)).squeeze S_ squeezes_S1_S_).sem
abbrev of0 (a : DmaSems sig S4) : DmaSem sig := ((a.slice (Rect.unit (s := S4) ![0] S1.size inb_S4_S1_0)).squeeze S_ squeezes_S1_S_).sem
abbrev of1 (a : DmaSems sig S4) : DmaSem sig := ((a.slice (Rect.unit (s := S4) ![1] S1.size inb_S4_S1_1)).squeeze S_ squeezes_S1_S_).sem
abbrev of2 (a : DmaSems sig S4) : DmaSem sig := ((a.slice (Rect.unit (s := S4) ![2] S1.size inb_S4_S1_2)).squeeze S_ squeezes_S1_S_).sem
abbrev of3 (a : DmaSems sig S4) : DmaSem sig := ((a.slice (Rect.unit (s := S4) ![3] S1.size inb_S4_S1_3)).squeeze S_ squeezes_S1_S_).sem

/-- Each cell's semaphore. -/
def csem : Cell → SemLoc sig
  | .bar => .reg barS
  | .cr => .reg cc2_scratch4.sem
  | .cwS0 => .dma (at0 cc2_scratch2)
  | .cwS1 => .dma (at1 cc2_scratch2)
  | .cwS2 => .dma (at2 cc2_scratch2)
  | .cwR0 => .dma (at0 cc2_scratch3)
  | .cwR1 => .dma (at1 cc2_scratch3)
  | .cwR2 => .dma (at2 cc2_scratch3)
  | .ccwS0 => .dma (of0 cc2_scratch5)
  | .ccwS1 => .dma (of1 cc2_scratch5)
  | .ccwS2 => .dma (of2 cc2_scratch5)
  | .ccwS3 => .dma (of3 cc2_scratch5)
  | .ccwR0 => .dma (of0 cc2_scratch6)
  | .ccwR1 => .dma (of1 cc2_scratch6)
  | .ccwR2 => .dma (of2 cc2_scratch6)
  | .ccwR3 => .dma (of3 cc2_scratch6)

def allCells : List Cell :=
  [.bar, .cr, .cwS0, .cwS1, .cwS2, .cwR0, .cwR1, .cwR2, .ccwS0, .ccwS1, .ccwS2, .ccwS3, .ccwR0, .ccwR1, .ccwR2, .ccwR3]

theorem mem_allCells (k : Cell) : k ∈ allCells := by cases k <;> decide
theorem nodup_allCells : allCells.Nodup := by decide

instance : Fintype Cell := ⟨allCells.toFinset, fun k => List.mem_toFinset.mpr (mem_allCells k)⟩

/-- The cell a semaphore is, if it is one of the sixteen. -/
def kindOf (sm : SemLoc sig) : Option Cell := allCells.find? fun k => csem k = sm

theorem kindOf_csem (k : Cell) : kindOf (csem k) = some k := by cases k <;> decide +kernel

theorem csem_injective : Function.Injective csem := fun a b h => by
  have := (kindOf_csem a).symm.trans ((congrArg kindOf h).trans (kindOf_csem b))
  exact Option.some.inj this

/-- Device `c`'s cell. -/
abbrev cell (c : Dev nD) (k : Cell) : GSem nD τ sig := ((c : Thread nD τ), csem k)

theorem cell_injective : Function.Injective (fun ck : Dev nD × Cell => cell ck.1 ck.2) := by
  rintro ⟨c, k⟩ ⟨c', k'⟩ h
  have h1 : c = c' := congrArg (fun g : GSem nD τ sig => g.1.1) h
  have h2 : csem k = csem k' := congrArg Prod.snd h
  rw [h1, csem_injective h2]

/-! ## Amounts -/

/-- What a whole slab's transfer counts, and half a slab's. -/
abbrev N : ℕ := cw0.view.dmaCredit
abbrev H : ℕ := cw0L.view.dmaCredit
theorem N_pos : 0 < N := View.dmaCredit_pos _ (by decide)
theorem H_pos : 0 < H := View.dmaCredit_pos _ (by decide)

theorem credit_in : inM.view.dmaCredit = N := rfl
theorem credit_cw1 : cw1.view.dmaCredit = N := rfl
theorem credit_ccw2 : ccw2.view.dmaCredit = N := rfl
theorem credit_cw0H : cw0H.view.dmaCredit = H := rfl
theorem credit_ccw2H : ccw2H.view.dmaCredit = H := rfl

end Cert.WholeProof.Plane

end
-- ==== Proof.Whole.Plane.Slots.lean ====
/-
# Slots and halves of the communication buffers

A communication buffer has three slots, each a slab; the last step moves half slabs. Owning a slab is owning its two
halves, and owning a buffer is owning its three slots.
-/
module

public import proofs.«01_k».proof.Proof.Whole.Plane.Mesh

@[expose] public section

noncomputable section

namespace Cert.WholeProof.Plane

open Cert.WholeIdeal Cert.WholeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- A slab's contents, and half a slab's. -/
abbrev Slab (F : FTy → Type) := S512x2048.Idx → Elt F .bf16
abbrev Half (F : FTy → Type) := S256x2048.Idx → Elt F .bf16

/-- Row `o + r` of a slab, for row `r` of a half that begins at row `o`. -/
def halfIx (o : ℕ) (ho : o ≤ 256) (j : S256x2048.Idx) : S512x2048.Idx := fun
  | 0 => ⟨o + (j 0).val, by have h : (j 0).val < 256 := (j 0).isLt; show o + (j 0).val < 512; omega⟩
  | 1 => ⟨(j 1).val, (j 1).isLt⟩

def lo (X : Slab F) : Half F := fun j => X (halfIx 0 (by decide) j)
def hi (X : Slab F) : Half F := fun j => X (halfIx 256 (by decide) j)

/-- A slab is determined by its halves. -/
theorem halves_ext {X Y : Slab F} (hl : lo X = lo Y) (hh : hi X = hi Y) : X = Y := by
  funext j
  have h0 : (j 0).val < 512 := (j 0).isLt
  by_cases h : (j 0).val < 256
  · have e : halfIx 0 (by decide) (fun | 0 => ⟨(j 0).val, h⟩ | 1 => ⟨(j 1).val, (j 1).isLt⟩ : S256x2048.Idx) = j := by
      funext a
      apply Fin.ext
      match a with
      | 0 => exact Nat.zero_add _
      | 1 => rfl
    rw [← e]
    exact congrFun hl _
  · have e : halfIx 256 (by decide) (fun | 0 => ⟨(j 0).val - 256, by show (j 0).val - 256 < 256; omega⟩ | 1 => ⟨(j 1).val, (j 1).isLt⟩ : S256x2048.Idx) = j := by
      funext a
      apply Fin.ext
      match a with
      | 0 => show 256 + ((j 0).val - 256) = (j 0).val; omega
      | 1 => rfl
    rw [← e]
    exact congrFun hh _

/-- Device `c` owns a memref at contents, at share `q`; or whole, at some contents. -/
abbrev own {s : Shape} (c : Dev nD) (M : Memref sig .tc .vmem s .bf16) (q : PosShare TreeShare) (X : s.Idx → Elt F .bf16) : sProp 𝕄 :=
  owns (c : Thread nD τ) M q X
abbrev anyOf {s : Shape} (c : Dev nD) (M : Memref sig .tc .vmem s .bf16) : sProp 𝕄 := iprop(∃ Y, own (F := F) c M fullShare Y)

theorem own_elim {s : Shape} (c : Dev nD) (M : Memref sig .tc .vmem s .bf16) (q : PosShare TreeShare) (X : s.Idx → Elt F .bf16) :
    own (F := F) c M q X ⊢ iprop(∃ f, ⌜M.view.read (Elt F) f = X⌝ ∗ (M.view.loc (c : Thread nD τ) ↦[M.view.set]{q} f)) := .rfl

theorem any_of {s : Shape} (c : Dev nD) (M : Memref sig .tc .vmem s .bf16) (X : s.Idx → Elt F .bf16) :
    own (F := F) c M fullShare X ⊢ anyOf c M := by
  iintro H; iexists X; iexact H

/-- What a view reads depends on its own elements alone. -/
theorem read_congr {s : Shape} (M : Memref sig .tc .vmem s .bf16) {f g : M.view.ty.Contents (Elt F)} (h : ∀ i ∈ M.view.set, f i = g i) :
    M.view.read (Elt F) f = M.view.read (Elt F) g := by
  funext x
  rw [View.read_apply, View.read_apply, h _ (M.view.emb_mem_set x)]

section Halves

variable (B : Memref sig .tc .vmem S3x512x2048 .bf16) (k : ℕ)
  (hs : ∀ a, (![k, 0, 0] : Fin 3 → ℕ) a + S1x512x2048.size a ≤ S3x512x2048.size a)
  (hl : ∀ a, (![k, 0, 0] : Fin 3 → ℕ) a + S1x256x2048.size a ≤ S3x512x2048.size a)
  (hh : ∀ a, (![k, 256, 0] : Fin 3 → ℕ) a + S1x256x2048.size a ≤ S3x512x2048.size a)

/-- Slot `k` of a buffer, its first half and its second. -/
abbrev slotM : Memref sig .tc .vmem S512x2048 .bf16 :=
  (B.slice (Rect.unit (s := S3x512x2048) ![k, 0, 0] S1x512x2048.size hs) (fun _ => rfl)).squeeze S512x2048 squeezes_S1x512x2048_S512x2048
abbrev lowM : Memref sig .tc .vmem S256x2048 .bf16 :=
  (B.slice (Rect.unit (s := S3x512x2048) ![k, 0, 0] S1x256x2048.size hl) (fun _ => rfl)).squeeze S256x2048 squeezes_S1x256x2048_S256x2048
abbrev highM : Memref sig .tc .vmem S256x2048 .bf16 :=
  (B.slice (Rect.unit (s := S3x512x2048) ![k, 256, 0] S1x256x2048.size hh) (fun _ => rfl)).squeeze S256x2048 squeezes_S1x256x2048_S256x2048

theorem set_slotM : (slotM B k hs).view.set = (Rect.unit (s := S3x512x2048) ![k, 0, 0] S1x512x2048.size hs).set.map B.view.emb := by
  rw [← View.set_slice]; exact View.set_reshape _ _
theorem set_lowM : (lowM B k hl).view.set = (Rect.unit (s := S3x512x2048) ![k, 0, 0] S1x256x2048.size hl).set.map B.view.emb := by
  rw [← View.set_slice]; exact View.set_reshape _ _
theorem set_highM : (highM B k hh).view.set = (Rect.unit (s := S3x512x2048) ![k, 256, 0] S1x256x2048.size hh).set.map B.view.emb := by
  rw [← View.set_slice]; exact View.set_reshape _ _

theorem rect_halves : (Rect.unit (s := S3x512x2048) ![k, 0, 0] S1x512x2048.size hs).set
    = (Rect.unit (s := S3x512x2048) ![k, 0, 0] S1x256x2048.size hl).set ∪ (Rect.unit (s := S3x512x2048) ![k, 256, 0] S1x256x2048.size hh).set := by
  ext i
  rw [Finset.mem_union, Rect.mem_set_unit, Rect.mem_set_unit, Rect.mem_set_unit]
  simp only [Fin.forall_fin_succ, S1x512x2048, S1x256x2048, Matrix.cons_val_zero, Matrix.cons_val_succ, IsEmpty.forall_iff, and_true, Fin.succ_zero_eq_one]
  show (k ≤ _ ∧ _ < k + 1) ∧ (0 ≤ _ ∧ _ < 0 + 512) ∧ (0 ≤ _ ∧ _ < 0 + 2048)
    ↔ ((k ≤ _ ∧ _ < k + 1) ∧ (0 ≤ _ ∧ _ < 0 + 256) ∧ (0 ≤ _ ∧ _ < 0 + 2048))
      ∨ ((k ≤ _ ∧ _ < k + 1) ∧ (256 ≤ _ ∧ _ < 256 + 256) ∧ (0 ≤ _ ∧ _ < 0 + 2048))
  omega

theorem set_halves : (slotM B k hs).view.set = (lowM B k hl).view.set ∪ (highM B k hh).view.set := by
  rw [set_slotM, set_lowM, set_highM, rect_halves k hs hl hh, Finset.map_union]

theorem disj_halves : Disjoint (lowM B k hl).view.set (highM B k hh).view.set := by
  rw [set_lowM, set_highM, Finset.disjoint_map]
  exact Rect.unit_disjoint (a := 1) (Or.inl (le_refl 256))

theorem read_low (f : B.view.ty.Contents (Elt F)) : (lowM B k hl).view.read (Elt F) f = lo ((slotM B k hs).view.read (Elt F) f) := by
  funext j
  show B.view.read (Elt F) f ((Rect.unit (s := S3x512x2048) ![k, 0, 0] S1x256x2048.size hl).emb (Shape.reshapeEquiv _ j))
    = B.view.read (Elt F) f ((Rect.unit (s := S3x512x2048) ![k, 0, 0] S1x512x2048.size hs).emb (Shape.reshapeEquiv _ (halfIx 0 _ j)))
  congr 1
  funext a
  apply Fin.ext
  rw [Shape.reshapeEquiv_cons_one (d := ![256, 2048]), Shape.reshapeEquiv_cons_one (d := ![512, 2048])]
  match a with
  | 0 => rfl
  | 1 => show 0 + 1 * (j 0).val = 0 + 1 * (0 + (j 0).val); omega
  | 2 => rfl

theorem read_high (f : B.view.ty.Contents (Elt F)) : (highM B k hh).view.read (Elt F) f = hi ((slotM B k hs).view.read (Elt F) f) := by
  funext j
  show B.view.read (Elt F) f ((Rect.unit (s := S3x512x2048) ![k, 256, 0] S1x256x2048.size hh).emb (Shape.reshapeEquiv _ j))
    = B.view.read (Elt F) f ((Rect.unit (s := S3x512x2048) ![k, 0, 0] S1x512x2048.size hs).emb (Shape.reshapeEquiv _ (halfIx 256 _ j)))
  congr 1
  funext a
  apply Fin.ext
  rw [Shape.reshapeEquiv_cons_one (d := ![256, 2048]), Shape.reshapeEquiv_cons_one (d := ![512, 2048])]
  match a with
  | 0 => rfl
  | 1 => show 256 + 1 * (j 0).val = 0 + 1 * (256 + (j 0).val); omega
  | 2 => rfl

variable (c : Dev nD) (q : PosShare TreeShare)

/-- A slab owned is its halves owned; -/
theorem own_split (X : Slab F) :
    own (F := F) c (slotM B k hs) q X ⊢ iprop(own c (lowM B k hl) q (lo X) ∗ own c (highM B k hh) q (hi X)) := by
  iintro H
  ihave H' := (own_elim c (slotM B k hs) q X) $$ H
  icases H' with ⟨%f, %hf, H⟩
  rw [set_halves B k hs hl hh]
  ihave H' := (pointsTo_union (disj_halves B k hl hh)).1 $$ H
  icases H' with ⟨Hl, Hh⟩
  rw [← hf, ← read_low B k hs hl, ← read_high B k hs hh]
  isplitl [Hl]
  · iapply (owns_intro (c : Thread nD τ) (lowM B k hl) q f); iexact Hl
  · iapply (owns_intro (c : Thread nD τ) (highM B k hh) q f); iexact Hh

/-- two halves owned are a slab owned, at contents with those halves; -/
theorem own_join' (A A' : Half F) :
    iprop(own (F := F) c (lowM B k hl) q A ∗ own c (highM B k hh) q A') ⊢ iprop(∃ X, ⌜lo X = A ∧ hi X = A'⌝ ∗ own (F := F) c (slotM B k hs) q X) := by
  iintro ⟨Hl, Hh⟩
  ihave Hl' := (own_elim c (lowM B k hl) q A) $$ Hl
  icases Hl' with ⟨%f, %hf, Hl⟩
  ihave Hh' := (own_elim c (highM B k hh) q A') $$ Hh
  icases Hh' with ⟨%g, %hg, Hh⟩
  ihave H := (pointsTo_join (ℓ := B.view.loc (c : Thread nD τ)) (disj_halves B k hl hh)) $$ [Hl Hh]
  · isplitl [Hl] <;> iassumption
  rw [← set_halves B k hs hl hh]
  iexists (slotM B k hs).view.read (Elt F) ((highM B k hh).view.set.piecewise g f)
  isplitr
  · ipureintro
    constructor
    · rw [← read_low B k hs hl, ← hf]
      exact read_congr (lowM B k hl) fun i hi => Finset.piecewise_eq_of_notMem _ _ _ (Finset.disjoint_left.mp (disj_halves B k hl hh) hi)
    · rw [← read_high B k hs hh, ← hg]
      exact read_congr (highM B k hh) fun i hi => Finset.piecewise_eq_of_mem _ _ _ hi
  · iapply (owns_intro (c : Thread nD τ) (slotM B k hs) q); iexact H

/-- in particular at a slab's halves. -/
theorem own_join (X : Slab F) :
    iprop(own (F := F) c (lowM B k hl) q (lo X) ∗ own c (highM B k hh) q (hi X)) ⊢ own (F := F) c (slotM B k hs) q X := by
  refine (own_join' B k hs hl hh c q (lo X) (hi X)).trans ?_
  iintro ⟨%Y, %hY, H⟩
  rw [← halves_ext hY.1 hY.2]
  iexact H

theorem any_split : anyOf (F := F) c (slotM B k hs) ⊢ iprop(anyOf (F := F) c (lowM B k hl) ∗ anyOf (F := F) c (highM B k hh)) := by
  iintro ⟨%X, H⟩
  ihave H := (own_split B k hs hl hh c fullShare X) $$ H
  icases H with ⟨Hl, Hh⟩
  isplitl [Hl]
  · iexists lo X; iexact Hl
  · iexists hi X; iexact Hh

end Halves

section Thirds

variable (b : Ref sig .tc)

/-- The three slots tile the buffer. -/
theorem rect_thirds : (Finset.univ : Finset S3x512x2048.Idx) = slot0.set ∪ (slot1.set ∪ slot2.set) := by
  ext i
  simp only [Finset.mem_univ, true_iff, Finset.mem_union, Rect.mem_set_unit, Fin.forall_fin_succ, S1x512x2048, Matrix.cons_val_zero, Matrix.cons_val_succ,
    IsEmpty.forall_iff, and_true, Fin.succ_zero_eq_one]
  have h0 : (i 0).val < 3 := (i 0).isLt
  have h1 : (i 1).val < 512 := (i 1).isLt
  have h2 : (i 2).val < 2048 := (i 2).isLt
  show ((0 ≤ (i 0).val ∧ (i 0).val < 0 + 1) ∧ (0 ≤ (i 1).val ∧ (i 1).val < 0 + 512) ∧ (0 ≤ (i 2).val ∧ (i 2).val < 0 + 2048))
    ∨ ((1 ≤ (i 0).val ∧ (i 0).val < 1 + 1) ∧ (0 ≤ (i 1).val ∧ (i 1).val < 0 + 512) ∧ (0 ≤ (i 2).val ∧ (i 2).val < 0 + 2048))
    ∨ ((2 ≤ (i 0).val ∧ (i 0).val < 2 + 1) ∧ (0 ≤ (i 1).val ∧ (i 1).val < 0 + 512) ∧ (0 ≤ (i 2).val ∧ (i 2).val < 0 + 2048))
  omega

theorem disj_01 : Disjoint slot0.set slot1.set := Rect.unit_disjoint (a := 0) (Or.inl (le_refl 1))
theorem disj_02 : Disjoint slot0.set slot2.set := Rect.unit_disjoint (a := 0) (Or.inl (by decide))
theorem disj_12 : Disjoint slot1.set slot2.set := Rect.unit_disjoint (a := 0) (Or.inl (le_refl 2))

variable (B : Memref sig .tc .vmem S3x512x2048 .bf16)

abbrev s0 := slotM B 0 inb_S3x512x2048_S1x512x2048_0_0_0
abbrev s1 := slotM B 1 inb_S3x512x2048_S1x512x2048_1_0_0
abbrev s2 := slotM B 2 inb_S3x512x2048_S1x512x2048_2_0_0

theorem set_thirds : B.view.set = (s0 B).view.set ∪ ((s1 B).view.set ∪ (s2 B).view.set) := by
  rw [set_slotM, set_slotM, set_slotM, ← Finset.map_union, ← Finset.map_union, ← rect_thirds]; rfl
theorem disj_t12 : Disjoint (s1 B).view.set (s2 B).view.set := by
  rw [set_slotM, set_slotM, Finset.disjoint_map]; exact disj_12
theorem disj_t0 : Disjoint (s0 B).view.set ((s1 B).view.set ∪ (s2 B).view.set) := by
  rw [set_slotM, set_slotM, set_slotM, ← Finset.map_union, Finset.disjoint_map]; exact Finset.disjoint_union_right.mpr ⟨disj_01, disj_02⟩

variable (c : Dev nD)

/-- A buffer owned is its three slots owned, -/
theorem any_thirds : iprop(∃ f, (B.view.loc (c : Thread nD τ) ↦[B.view.set]{fullShare} f))
    ⊢ iprop(anyOf (F := F) c (s0 B) ∗ anyOf (F := F) c (s1 B) ∗ anyOf (F := F) c (s2 B)) := by
  iintro ⟨%f, H⟩
  rw [set_thirds B]
  ihave H' := (pointsTo_union (disj_t0 B)).1 $$ H
  icases H' with ⟨H0, H⟩
  ihave H' := (pointsTo_union (disj_t12 B)).1 $$ H
  icases H' with ⟨H1, H2⟩
  isplitl [H0]
  · iexists (s0 B).view.read (Elt F) f; iapply (owns_intro (c : Thread nD τ) (s0 B) fullShare f); iexact H0
  isplitl [H1]
  · iexists (s1 B).view.read (Elt F) f; iapply (owns_intro (c : Thread nD τ) (s1 B) fullShare f); iexact H1
  · iexists (s2 B).view.read (Elt F) f; iapply (owns_intro (c : Thread nD τ) (s2 B) fullShare f); iexact H2

/-- and back. -/
theorem of_thirds : iprop(anyOf (F := F) c (s0 B) ∗ anyOf (F := F) c (s1 B) ∗ anyOf (F := F) c (s2 B))
    ⊢ iprop(∃ f, (B.view.loc (c : Thread nD τ) ↦[B.view.set]{fullShare} f)) := by
  iintro ⟨⟨%X0, H0⟩, ⟨%X1, H1⟩, ⟨%X2, H2⟩⟩
  ihave H0 := (own_elim c (s0 B) fullShare X0) $$ H0
  icases H0 with ⟨%f0, -, H0⟩
  ihave H1 := (own_elim c (s1 B) fullShare X1) $$ H1
  icases H1 with ⟨%f1, -, H1⟩
  ihave H2 := (own_elim c (s2 B) fullShare X2) $$ H2
  icases H2 with ⟨%f2, -, H2⟩
  ihave H := (pointsTo_join (ℓ := B.view.loc (c : Thread nD τ)) (disj_t12 B)) $$ [H1 H2]
  · isplitl [H1] <;> iassumption
  ihave H := (pointsTo_join (ℓ := B.view.loc (c : Thread nD τ)) (disj_t0 B)) $$ [H0 H]
  · isplitl [H0] <;> iassumption
  rw [← set_thirds B]
  iexists _
  iexact H

end Thirds

end Cert.WholeProof.Plane

end
-- ==== Proof.Whole.Plane.Sched.lean ====
/-
# The all-gather's schedule

Which cell is paid by whom, in which round, with what; what each device owes at launch and in which order; the levels.
-/
module

public import proofs.«01_k».proof.Proof.Whole.Plane.Slots

@[expose] public section

noncomputable section

namespace Cert.WholeProof.Plane

open Cert.WholeIdeal Cert.WholeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev ER : Emb U2 (MT nD τ sig ℕ (Elt F) ℕ UU ℕ) := E2

-- `X`: the slab each device contributes
variable (X : Dev nD → Slab F)

/-! ## The rounds -/

/-- The duties of round `r` of a cell: the barrier has one of each neighbour, two cells have a second round. -/
def dut : Cell → ℕ → Finset Bool
  | .bar, 0 => Finset.univ
  | .cwS0, 1 => {false}
  | .cwR0, 1 => {false}
  | .bar, _ + 1 => ∅
  | _, 0 => {false}
  | _, _ + 1 => ∅

/-- The units of each duty of round `r`. -/
def amt : Cell → ℕ → ℕ
  | .bar, _ => 1
  | .cr, _ => 1
  | .cwS0, 1 => H
  | .cwR0, 1 => H
  | .ccwS3, _ => H
  | .ccwR3, _ => H
  | _, _ => N

theorem amt_pos (k : Cell) (r : ℕ) : 0 < amt k r := by
  unfold amt; split <;> first | exact Nat.one_pos | exact H_pos | exact N_pos

/-- The news that a device's receive cells of one direction are open. -/
def openCw (b : Dev nD) : sProp 𝕄 :=
  iprop(reached ER (cell b .cwR0) 0 ∗ reached ER (cell b .cwR1) 0 ∗ reached ER (cell b .cwR2) 0)
def openCcw (b : Dev nD) : sProp 𝕄 :=
  iprop(reached ER (cell b .ccwR0) 0 ∗ reached ER (cell b .ccwR1) 0 ∗ reached ER (cell b .ccwR2) 0 ∗ reached ER (cell b .ccwR3) 0 ∗ reached ER (cell b .cr) 0)
instance openCw_storable (b : Dev nD) : BI.Storable (upEmb : UEmb _ 𝕄) (openCw (F := F) b) := by unfold openCw; infer_instance
instance openCcw_storable (b : Dev nD) : BI.Storable (upEmb : UEmb _ 𝕄) (openCcw (F := F) b) := by unfold openCcw; infer_instance

/-- What each duty hands the owner `c`. A barrier's duty `false` comes from the next device and hands its clockwise
    slots, `true` from the device before and hands its counter-clockwise slots, each with
    the news that the cells are open. A receive hands the slab (or half)
    received, a send the share of the source back. The third clockwise receive also hands the upper half of the sender's
    clockwise slot 0, and the credit the lower half of the next device's, both free by then. -/
def pay (k : Cell) (c : Dev nD) (r : ℕ) (d : Bool) : sProp 𝕄 :=
  match k, r, d with
  | .bar, 0, false => iprop((anyOf (F := F) (succ c) cw0 ∗ anyOf (F := F) (succ c) cw1 ∗ anyOf (F := F) (succ c) cw2) ∗ openCw (succ c))
  | .bar, 0, true => iprop((anyOf (F := F) (pred c) ccw0 ∗ anyOf (F := F) (pred c) ccw1 ∗ anyOf (F := F) (pred c) ccw2) ∗ openCcw (pred c))
  | .cr, 0, _ => iprop(anyOf (F := F) (succ c) cw0L ∗ reached ER (cell (succ c) .cwR0) 1)
  | .cwS0, 0, _ => own c inM fullShare.left (X c)
  | .cwS0, 1, _ => own c cw2L fullShare.right (lo (X (pred (pred (pred c)))))
  | .cwS1, 0, _ => own c cw0 fullShare.right (X (pred c))
  | .cwS2, 0, _ => own c cw1 fullShare.right (X (pred (pred c)))
  | .cwR0, 0, _ => own c cw0 fullShare (X (pred c))
  | .cwR0, 1, _ => own c cw0L fullShare (lo (X (pred (pred (pred (pred c))))))
  | .cwR1, 0, _ => own c cw1 fullShare (X (pred (pred c)))
  | .cwR2, 0, _ => iprop(own c cw2 fullShare (X (pred (pred (pred c)))) ∗ anyOf (F := F) (pred c) cw0H)
  | .ccwS0, 0, _ => own c inM fullShare.right (X c)
  | .ccwS1, 0, _ => own c ccw0 fullShare.right (X (succ c))
  | .ccwS2, 0, _ => own c ccw1 fullShare.right (X (succ (succ c)))
  | .ccwS3, 0, _ => own c ccw2H fullShare.right (hi (X (succ (succ (succ c)))))
  | .ccwR0, 0, _ => own c ccw0 fullShare (X (succ c))
  | .ccwR1, 0, _ => own c ccw1 fullShare (X (succ (succ c)))
  | .ccwR2, 0, _ => own c ccw2 fullShare (X (succ (succ (succ c))))
  | .ccwR3, 0, _ => own c cw0H fullShare (hi (X (succ (succ (succ (succ c))))))
  | _, _, _ => iprop(emp)

instance pay_storable (k : Cell) (c : Dev nD) (r : ℕ) (d : Bool) : BI.Storable (upEmb : UEmb _ 𝕄) (pay X k c r d) := by
  unfold pay; split <;> infer_instance

def ringRd : Schedule (GSem nD τ sig) Bool 𝕄 where
  duties g r := if g.1.2 = .tc then (match kindOf g.2 with | some k => dut k r | none => ∅) else ∅
  amount g r _ := match kindOf g.2 with | some k => amt k r | none => 1
  payload g r d := match kindOf g.2 with | some k => pay X k g.1.1 r d | none => iprop(emp)
  amount_pos g r d _ := by cases kindOf g.2 with | some k => exact amt_pos k r | none => exact Nat.one_pos

instance ringRd_storable (g : GSem nD τ sig) (r : ℕ) (d : Bool) : BI.Storable (upEmb : UEmb _ 𝕄) ((ringRd X).payload g r d) := by
  show BI.Storable upEmb (match kindOf g.2 with | some k => pay X k g.1.1 r d | none => iprop(emp))
  split <;> infer_instance

section At
variable (c : Dev nD) (k : Cell) (r : ℕ)

theorem duties_at : (ringRd X).duties (cell c k) r = dut k r := by
  show (if (c : Thread nD τ).2 = .tc then (match kindOf (csem k) with | some k => dut k r | none => ∅) else ∅) = _
  rw [if_pos rfl, kindOf_csem]
theorem amount_at (d : Bool) : (ringRd X).amount (cell c k) r d = amt k r := by
  show (match kindOf (csem k) with | some k => amt k r | none => 1) = _
  rw [kindOf_csem]
theorem payload_at (d : Bool) : (ringRd X).payload (cell c k) r d = pay X k c r d := by
  show (match kindOf (csem k) with | some k => pay X k c r d | none => iprop(emp)) = _
  rw [kindOf_csem]
theorem expect_one (h : dut k r = {false}) : (ringRd X).expect (cell c k) r = amt k r := by
  unfold Schedule.expect Schedule.amountOf; rw [duties_at, h, Finset.sum_singleton, amount_at]
theorem expect_bar : (ringRd X).expect (cell c .bar) 0 = 2 := by
  unfold Schedule.expect Schedule.amountOf
  rw [duties_at, Finset.sum_congr rfl fun d _ => amount_at X c .bar 0 d]
  rfl
theorem rest_one (h : dut k r = {false}) :
    bigSep ((ringRd X).duties (cell c k) r \ ∅) (fun d => (ringRd X).payload (cell c k) r d) = pay X k c r false := by
  rw [Finset.sdiff_empty, duties_at, h, bigSep_singleton, payload_at]
theorem rest_bar : bigSep ((ringRd X).duties (cell c .bar) 0 \ ∅) (fun d => (ringRd X).payload (cell c .bar) 0 d)
    = iprop(pay X .bar c 0 false ∗ pay X .bar c 0 true) := by
  rw [Finset.sdiff_empty, duties_at]
  show bigSep Finset.univ _ = _
  rw [bigSep_univ_eq_bigSepL [false, true] (by decide) (by decide), bigSepL_cons_cons, bigSepL_singleton, payload_at, payload_at]
  rfl

/-- The number of rounds of a cell. -/
def rounds : Cell → ℕ
  | .cwS0 => 2
  | .cwR0 => 2
  | _ => 1

theorem duties_later : ∀ r, rounds k ≤ r → (ringRd X).duties (cell c k) r = ∅ := fun r hr => by
  rw [duties_at]
  match k, r, hr with
  | .bar, r + 1, _ => rfl
  | .cwS0, r + 2, _ => rfl
  | .cwR0, r + 2, _ => rfl
  | .cr, r + 1, _ | .cwS1, r + 1, _ | .cwS2, r + 1, _ | .cwR1, r + 1, _ | .cwR2, r + 1, _ | .ccwS0, r + 1, _ | .ccwS1, r + 1, _
  | .ccwS2, r + 1, _ | .ccwS3, r + 1, _ | .ccwR0, r + 1, _ | .ccwR1, r + 1, _ | .ccwR2, r + 1, _ | .ccwR3, r + 1, _ => rfl

end At

/-! ## What each device owes, and the levels

A device's payments to others' cells, in the order it makes them, each at an index that is also its level: the barrier
below the first receives, a step's receives below the next step's, the credit between the second step's and the third's.
Staging and the device's own sends are at index 0. -/

abbrev dues (c : Dev nD) : List (TalkSites.Pay nD τ sig) :=
  [(cell (pred c) .bar, 12, 1), (cell (succ c) .bar, 12, 1),
   (cell (succ c) .cwR0, 13, N), (cell (pred c) .ccwR0, 13, N),
   (cell (succ c) .cwR1, 14, N), (cell (pred c) .ccwR1, 14, N),
   (cell (pred c) .cr, 15, 1),
   (cell (succ c) .cwR2, 16, N), (cell (pred c) .ccwR2, 16, N),
   (cell (succ c) .cwR0, 17, H), (cell (pred c) .ccwR3, 17, H)]

/-! ## The records -/

/-- Every cell's invariant, that every barrier's round 0 is reached, and the levels. -/
def records (K : Dev nD × Cell → ℕ) : sProp 𝕄 :=
  iprop((bigSep Finset.univ fun ck : Dev nD × Cell => cellInv ER (ringRd X) (K ck) (cell ck.1 ck.2))
    ∗ (bigSep Finset.univ fun b : Dev nD => reached ER (cell b .bar) 0)
    ∗ levs (F := F))

instance records_persistent (K : Dev nD × Cell → ℕ) : BI.Persistent (records X K) := by unfold records; infer_instance

theorem records_inv (K : Dev nD × Cell → ℕ) (c : Dev nD) (k : Cell) : records X K ⊢ cellInv ER (ringRd X) (K (c, k)) (cell c k) := by
  unfold records
  iintro ⟨H, -, -⟩
  iapply (show _ ⊢ _ from bigSep_elim (Finset.mem_univ (c, k))) $$ H
theorem records_reached (K : Dev nD × Cell → ℕ) (c : Dev nD) : records X K ⊢ reached ER (cell c .bar) 0 := by
  unfold records
  iintro ⟨-, H, -⟩
  iapply (show _ ⊢ _ from bigSep_elim (Finset.mem_univ c)) $$ H
theorem records_lev (K : Dev nD × Cell → ℕ) : records X K ⊢ levs (F := F) := by
  unfold records
  iintro ⟨-, -, H⟩
  iexact H

end Cert.WholeProof.Plane

end
-- ==== Proof.Whole.Plane.Steps.lean ====
/-
# One rule for each kind of operation of the all-gather

Signals, remote copies and waits over the schedule; loads of slots; stores of row blocks of the result.
-/
module

public import proofs.«01_k».proof.Proof.Whole.Plane.Sched

@[expose] public section

noncomputable section

namespace Cert.WholeProof.Plane

open Cert.WholeIdeal Cert.WholeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Slab F)

local notation "𝕎" => wpE (defs₀ (F := F)) 𝒱₀

set_option maxRecDepth 100000

section Steps

variable {K : Dev nD × Cell → ℕ} {c : Dev nD}

/-- A signal: the head of the dues is paid with its token and payload. -/
theorem step_signal {α : Type} {Q : α → sProp 𝕄} {k : Cell} {sem : Sem sig} (hs : csem k = .reg sem) {c' d' : Dev nD} (hn : d' = c') {d : Bool} (hd : d ∈ dut k 0)
    {n : ℕ} (hk : amt k 0 = n) {i : ℕ} {l : List (TalkSites.Pay nD τ sig)} {cont : PUnit → Prog (TpuEff nD τ sig (Elt F) Λ₀ .tc) α} :
    records X K ⊢ iprop(due (F := F) c ((cell c' k, i, n) :: l) -∗ dutyTok ER (cell c' k) 0 d -∗ reached ER (cell c' k) 0 -∗ pay X k c' 0 d
      -∗ (due (F := F) c l -∗ wp frame (𝕎 (c : Thread nD τ) none) Set.univ (cont ⟨⟩) Q)
      -∗ wp frame (𝕎 (c : Thread nD τ) none) Set.univ (.op (.semSignal (d' : Thread nD τ) sem n) cont) Q) := by
  subst hn
  have hc : cell d' k = ((d' : Thread nD τ), .reg sem) := by show (_, csem k) = _; rw [hs]
  have hd' := (duties_at X d' k 0).symm ▸ hd
  have hk' := (amount_at X d' k 0 d).trans hk
  have hp := payload_at X d' k 0 d
  have hi := records_inv X K d' k
  rw [hc] at hd' hk' hp hi
  unfold due
  rw [hc, ← hp]
  iintro #HR ⟨%W, HO⟩ HT Hr HP Hk
  iapply (Rounds.wp_signal 𝒱₀ ER (ringRd X) (c : Thread nD τ) none (dst := (d' : Thread nD τ)) (κ := K (d', k)) (d := d) hd' hk' i
    (TalkSites.tallyL l) (add_comm _ _)) $$ [HO HT HP Hr]
  · isplitr; · iapply hi; iexact HR
    isplitl [HO]; · iexact HO
    isplitl [HT]; · iexact HT
    isplitl [HP]; · iexact HP
    iexact Hr
  iintro HO
  iapply Hk
  iexists W
  iexact HO

/-- A remote copy: the source's share goes with the send, the destination and a frame with the landing. -/
theorem step_copy {α : Type} {Q : α → sProp 𝕄} {s : Shape} {src dst : Memref sig .tc .vmem s .bf16} {q : PosShare TreeShare} (Y : s.Idx → Elt F .bf16) (Fr : sProp 𝕄)
    (kS kR : Cell) (rS rR : ℕ) {sS sR : DmaSem sig} (hS : csem kS = .dma sS) (hR : csem kR = .dma sR) {c' d' : Dev nD} (hn : d' = c')
    (hdS : dut kS rS = {false}) (hdR : dut kR rR = {false}) {n : ℕ} (hN : dst.view.dmaCredit = n) (hkS : amt kS rS = n) (hkR : amt kR rR = n)
    (hpS : own c src q Y ⊢ pay X kS c rS false) (hpR : iprop(own c' dst fullShare Y ∗ Fr) ⊢ pay X kR c' rR false)
    {i : ℕ} {l : List (TalkSites.Pay nD τ sig)} {cont : PUnit → Prog (TpuEff nD τ sig (Elt F) Λ₀ .tc) α}
    {hsc : dst.view.ref.isScScratch = false} {hsrc : src.view.WordExact} {hdst : dst.view.WordExact}
    {hsem : DmaTarget.Typed .vmem (.dma sR) (.remote (d' : Thread nD τ) dst (.dma sS) hsc)} :
    records X K ⊢ iprop(own c src q Y -∗ (anyOf (F := F) c' dst ∗ Fr) -∗ due (F := F) c ((cell c' kR, i, n) :: l)
      -∗ dutyTok ER (cell c kS) rS false -∗ reached ER (cell c kS) rS -∗ dutyTok ER (cell c' kR) rR false -∗ reached ER (cell c' kR) rR
      -∗ ((cred (tallyAt (cell c kS) 0 n) ∗ due (F := F) c l) -∗ wp frame (𝕎 (c : Thread nD τ) none) Set.univ (cont ⟨⟩) Q)
      -∗ wp frame (𝕎 (c : Thread nD τ) none) Set.univ
          (.op (.enqueueDma src (.remote (d' : Thread nD τ) dst (.dma sS) hsc) (.dma sR) hsrc hdst hsem) cont) Q) := by
  subst hn
  have hcS : cell c kS = ((c : Thread nD τ), .dma sS) := by show (_, csem kS) = _; rw [hS]
  have hcR : cell d' kR = ((d' : Thread nD τ), .dma sR) := by show (_, csem kR) = _; rw [hR]
  have hdS' : false ∈ (ringRd X).duties (cell c kS) rS := by rw [duties_at, hdS]; exact Finset.mem_singleton_self _
  have hdR' : false ∈ (ringRd X).duties (cell d' kR) rR := by rw [duties_at, hdR]; exact Finset.mem_singleton_self _
  have hkS' := (amount_at X c kS rS false).trans hkS
  have hkR' := (amount_at X d' kR rR false).trans hkR
  rw [← payload_at X c kS rS false] at hpS
  rw [← payload_at X d' kR rR false] at hpR
  have hiS := records_inv X K c kS
  have hiR := records_inv X K d' kR
  rw [hcS] at hdS' hkS' hpS hiS
  rw [hcR] at hdR' hkR' hpR hiR
  unfold due
  rw [hcS, hcR]
  iintro #HR HS ⟨⟨%Z, HD⟩, HF⟩ ⟨%W, HO⟩ HtS HrS HtR HrR Hk
  ihave HS := (own_elim c src q Y) $$ HS
  icases HS with ⟨%fs, %hfs, HS⟩
  ihave HD := (own_elim d' dst fullShare Z) $$ HD
  icases HD with ⟨%fd, -, HD⟩
  iapply (Rounds.wp_send_pointsTo_with 𝒱₀ ER (ringRd X) (c : Thread nD τ) none (c' := (d' : Thread nD τ)) (κ₁ := K (c, kS)) (κ₂ := K (d', kR)) (F := Fr) (fs := fs) (fd := fd) hdS' hdR' i 0 n
    hN hkS' hkR' (TalkSites.tallyL l) (add_comm _ _) (W := W)
    ((hfs ▸ owns_intro (c : Thread nD τ) src q fs : _ ⊢ own c src q Y).trans hpS)
    ((sep_mono_left (by
      have h := owns_intro (Ix := ℕ) (Name := ℕ) (U := UU) (Lvl := ℕ) (Val := Elt F) (d' : Thread nD τ) dst fullShare (dst.view.write (Elt F) fd (src.view.read (Elt F) fs) Finset.univ)
      rw [View.read_write_univ, hfs] at h
      rw [hfs]
      exact h)).trans hpR)) $$ [HS HD HF HO HtS HrS HtR HrR]
  · isplitr; · iapply hiS; iexact HR
    isplitr; · iapply hiR; iexact HR
    isplitl [HS]; · iexact HS
    isplitl [HD HF]
    · isplitl [HD]; · iexact HD
      iexact HF
    isplitl [HO]; · iexact HO
    isplitl [HtS]; · iexact HtS
    isplitl [HrS]; · iexact HrS
    isplitl [HtR]; · iexact HtR
    iexact HrR
  iintro ⟨HC, HO⟩
  iapply Hk
  isplitl [HC]; · iexact HC
  iexists W
  iexact HO

/-- A wait for a round with one duty: its payload. -/
theorem step_wait {α : Type} {Q : α → sProp 𝕄} {w : TpuEff nD τ sig (Elt F) Λ₀ .tc PUnit} (k : Cell) {sm : SemLoc sig} (hs : csem k = sm) (r : ℕ) {n : ℕ}
    (hw : ∀ Kf : PUnit → sProp 𝕄, 𝕎 (c : Thread nD τ) none Set.univ w Kf = waitSpec (c : Thread nD τ) Set.univ sm n Kf)
    (hd : dut k r = {false}) (hn : n = amt k r) (i : ℕ) (hi : i < levels) {l : List (TalkSites.Pay nD τ sig)} (hl : AllAbove i l)
    {cont : PUnit → Prog (TpuEff nD τ sig (Elt F) Λ₀ .tc) α} :
    records X K ⊢ iprop(due (F := F) c l -∗ cred (tallyAt (cell c k) i n) -∗ atPos ER (cell c k) r ∅ 0
      -∗ ((due (F := F) c l ∗ atPos ER (cell c k) (r + 1) ∅ 0 ∗ reached ER (cell c k) (r + 1) ∗ pay X k c r false)
          -∗ wp frame (𝕎 (c : Thread nD τ) none) Set.univ (cont ⟨⟩) Q)
      -∗ wp frame (𝕎 (c : Thread nD τ) none) Set.univ (.op w cont) Q) := by
  have hc : cell c k = ((c : Thread nD τ), sm) := by show (_, csem k) = _; rw [hs]
  have he := expect_one X c k r hd
  have hp := rest_one X c k r hd
  have hinv := records_inv X K c k
  have hm := (records_lev X K).trans (mayWait (F := F) c sm hi hl)
  rw [hc] at he hp hinv
  unfold due
  rw [hc, ← hp]
  iintro #HR ⟨%W, HO⟩ HC HA Hk
  iapply (Rounds.wp_wait_rest_token 𝒱₀ ER (ringRd X) (c : Thread nD τ) none (κ := K (c, k)) hw (Set.mem_univ _) i
    (O := TalkSites.tallyL l) (W := W) (R := r) (m := 0) (T := ∅) (by rw [he, hn, Nat.zero_add])) $$ [HC HO HA]
  · isplitr; · iapply hinv; iexact HR
    isplitl [HC]; · iexact HC
    isplitl [HO]; · iexact HO
    isplitr; · iapply hm; iexact HR
    iexact HA
  iintro ⟨HO, HA, Hr, HP⟩
  iapply Hk
  isplitl [HO]; · iexists _; iexact HO
  isplitl [HA]; · iexact HA
  isplitl [Hr]; · iexact Hr
  iexact HP

/-- The barrier's wait: what both neighbours hand. -/
theorem step_barrier {α : Type} {Q : α → sProp 𝕄} {w : TpuEff nD τ sig (Elt F) Λ₀ .tc PUnit} {n : ℕ}
    (hw : ∀ Kf : PUnit → sProp 𝕄, 𝕎 (c : Thread nD τ) none Set.univ w Kf = waitSpec (c : Thread nD τ) Set.univ (csem .bar) n Kf)
    (hn : n = 2) (i : ℕ) (hi : i < levels) {l : List (TalkSites.Pay nD τ sig)} (hl : AllAbove i l)
    {cont : PUnit → Prog (TpuEff nD τ sig (Elt F) Λ₀ .tc) α} :
    records X K ⊢ iprop(due (F := F) c l -∗ cred (tallyAt (cell c .bar) i 2) -∗ atPos ER (cell c .bar) 0 ∅ 0
      -∗ ((due (F := F) c l ∗ atPos ER (cell c .bar) 1 ∅ 0 ∗ pay X .bar c 0 false ∗ pay X .bar c 0 true)
          -∗ wp frame (𝕎 (c : Thread nD τ) none) Set.univ (cont ⟨⟩) Q)
      -∗ wp frame (𝕎 (c : Thread nD τ) none) Set.univ (.op w cont) Q) := by
  subst hn
  have he := expect_bar X c
  have hp := rest_bar X c
  have hm := (records_lev X K).trans (mayWait (F := F) c (csem .bar) hi hl)
  unfold due
  rw [← hp]
  iintro #HR ⟨%W, HO⟩ HC HA Hk
  iapply (Rounds.wp_wait_rest_token 𝒱₀ ER (ringRd X) (c : Thread nD τ) none (κ := K (c, .bar)) hw (Set.mem_univ _) i
    (O := TalkSites.tallyL l) (W := W) (R := 0) (m := 0) (T := ∅) (by rw [he])) $$ [HC HO HA]
  · isplitr; · iapply (records_inv X K c .bar); iexact HR
    isplitl [HC]; · iexact HC
    isplitl [HO]; · iexact HO
    isplitr; · iapply hm; iexact HR
    iexact HA
  iintro ⟨HO, HA, Hr, HP⟩
  iapply Hk
  isplitl [HO]; · iexists _; iexact HO
  isplitl [HA]; · iexact HA
  iexact HP

/-- A cell past its last round closes at zero. -/
theorem step_close (k : Cell) {n : ℕ} (hn : rounds k = n) : records X K ⊢ iprop(atPos ER (cell c k) n ∅ 0 -∗ |={Set.univ}=> semVal (cell c k) 0) := by
  subst hn
  iintro #HR HA
  iapply (Rounds.cell_close ER (ringRd X) (Set.mem_univ (K (c, k))) (fun h => h) (R := rounds k) (duties_later X c k)) $$ [HA]
  isplitr; · iapply (records_inv X K c k); iexact HR
  iexact HA

/-! ## Loads and stores -/

/-- A slot read through the whole buffer: the value read, without its unit axis, is the slab. -/
theorem step_slot {α : Type} {Q : α → sProp 𝕄} (B : Memref sig .tc .vmem S3x512x2048 .bf16) (k : ℕ) (hb : ∀ a, (![k, 0, 0] : Fin 3 → ℕ) a + S1x512x2048.size a ≤ S3x512x2048.size a)
    (q : PosShare TreeShare) (Y : Slab F)
    {hl : B.view.LoadsAt (Rect.unit (s := S3x512x2048) ![k, 0, 0] S1x512x2048.size hb).toLoadRect}
    {cont : (S1x512x2048.Idx → Elt F .bf16) → Prog (TpuEff nD τ sig (Elt F) Λ₀ .tc) α} :
    own c (slotM B k hb) q Y ⊢ iprop((∀ v : S1x512x2048.Idx → Elt F .bf16, ⌜∀ h, shapeCast S512x2048 v h = Y⌝ -∗ own c (slotM B k hb) q Y
        -∗ wp frame (𝕎 (c : Thread nD τ) none) Set.univ (cont v) Q)
      -∗ wp frame (𝕎 (c : Thread nD τ) none) Set.univ
          (.op (.load B (Rect.unit (s := S3x512x2048) ![k, 0, 0] S1x512x2048.size hb).toLoadRect hl) cont) Q) := by
  iintro H Hk
  ihave H := (own_elim c (slotM B k hb) q Y) $$ H
  icases H with ⟨%f, %hf, H⟩
  iapply (wp_load_rect 𝒱₀ (c : Thread nD τ) none Set.univ (m := B) (r := Rect.unit (s := S3x512x2048) ![k, 0, 0] S1x512x2048.size hb)
    (S := (slotM B k hb).view.set) (by rw [show (slotM B k hb).view.set = _ from View.set_reshape _ _])) $$ H
  iintro H
  iapply Hk
  · ipureintro
    intro h
    rw [← hf]
    rfl
  · rw [← hf]
    iapply (owns_intro (c : Thread nD τ) (slotM B k hb) q f)
    iexact H

/-- The rows `512 a …` of the result's staging hold `w`. -/
def Holds (f : S4096x2048.Idx → Elt F .bf16) (a : Fin 8) (w : Slab F) : Prop :=
  ∀ i : S512x2048.Idx, ∀ j : S4096x2048.Idx, (j 0).val = 512 * a.val + (i 0).val → (j 1).val = (i 1).val → f j = w i

/-- The result's staging, the row blocks of the positions in `A` holding the slabs of the devices there. -/
def outHas (c : Dev nD) (A : List (Fin 8)) : sProp 𝕄 :=
  iprop(∃ f : S4096x2048.Idx → Elt F .bf16, ⌜∀ a ∈ A, Holds f a (X (at_ a c))⌝ ∗ (((c : Thread nD τ).loc cc2_stg1_0) ↦{fullShare} f))

/-- A load of the result's staging: nothing is known of the value and nothing is needed. -/
theorem step_peek {α : Type} {Q : α → sProp 𝕄} (A : List (Fin 8)) {r : LoadRect S4096x2048} {hl : outM.view.LoadsAt r}
    {cont : (r.shape.Idx → Elt F .bf16) → Prog (TpuEff nD τ sig (Elt F) Λ₀ .tc) α} :
    outHas X c A ⊢ iprop((∀ v, outHas X c A -∗ wp frame (𝕎 (c : Thread nD τ) none) Set.univ (cont v) Q)
      -∗ wp frame (𝕎 (c : Thread nD τ) none) Set.univ (.op (.load outM r hl) cont) Q) := by
  unfold outHas
  iintro ⟨%f, %hf, H⟩ Hk
  iapply (wp_load 𝒱₀ (c : Thread nD τ) none Set.univ (m := outM) (S := Finset.univ) (Finset.subset_univ _)) $$ H
  iintro H
  iapply Hk
  iexists f
  isplitr; · ipureintro; exact hf
  iexact H

/-- A store of a device's slab to its row block. -/
theorem step_store {α : Type} {Q : α → sProp 𝕄} {off : Fin 2 → ℕ} (a : Fin 8) (ho : off = blkOff a) {hb : ∀ x, off x + S512x2048.size x ≤ S4096x2048.size x} {w : Slab F}
    (hw : w = X (at_ a c)) (A : List (Fin 8)) (hA : a ∉ A)
    {hx : (outM.access (Rect.unit (s := S4096x2048) off S512x2048.size hb)).Stores Finset.univ}
    {hm : (Finset.univ : Finset (Rect.unit (s := S4096x2048) off S512x2048.size hb).shape.Idx) = Finset.univ ∨ ∀ x, (Rect.unit (s := S4096x2048) off S512x2048.size hb).stride x = 1}
    {cont : PUnit → Prog (TpuEff nD τ sig (Elt F) Λ₀ .tc) α} :
    outHas X c A ⊢ iprop((outHas X c (a :: A) -∗ wp frame (𝕎 (c : Thread nD τ) none) Set.univ (cont ⟨⟩) Q)
      -∗ wp frame (𝕎 (c : Thread nD τ) none) Set.univ
          (.op (.store outM (Rect.unit (s := S4096x2048) off S512x2048.size hb) w Finset.univ hx hm) cont) Q) := by
  subst ho
  unfold outHas
  iintro ⟨%f, %hf, H⟩ Hk
  iapply (wp_store 𝒱₀ (c : Thread nD τ) none Set.univ (m := outM) (r := Rect.unit (s := S4096x2048) (blkOff a) S512x2048.size hb) (Mk := Finset.univ)
    (S := Finset.univ) (Finset.subset_univ _)) $$ H
  iintro H
  iapply Hk
  iexists _
  isplitr
  swap
  · iexact H
  ipureintro
  intro b hb' i j h0 h1
  rcases List.mem_cons.mp hb' with rfl | hb'
  · have e : j = (Rect.unit (s := S4096x2048) (blkOff b) S512x2048.size hb).emb i := by
      funext x
      apply Fin.ext
      match x with
      | 0 => show (j 0).val = 512 * b.val + 1 * (i 0).val; omega
      | 1 => show (j 1).val = 0 + 1 * (i 1).val; omega
    rw [e, ← hw]
    exact View.write_emb_of_mem (v := outM.access (Rect.unit (s := S4096x2048) (blkOff b) S512x2048.size hb)) (Val := Elt F) f w (Finset.mem_univ i)
  · have hne : b ≠ a := fun h => hA (h ▸ hb')
    have hi0 : (i 0).val < 512 := (i 0).isLt
    rw [View.write_of_not_mem]
    · exact hf b hb' i j h0 h1
    · intro hmem
      obtain ⟨x, -, hx'⟩ := Finset.mem_map.mp hmem
      have hx0 : (j 0).val = 512 * a.val + 1 * (x 0).val := by rw [← hx']; rfl
      have hx1 : (x 0).val < 512 := (x 0).isLt
      exact hne (Fin.ext (by omega))

end Steps

end Cert.WholeProof.Plane

end
-- ==== Proof.Whole.Plane.Body.lean ====
/-
# The kernel's body on one device

From the records, the device's tokens, positions and credits, and its buffers, to its cells closed and the eight row
blocks of the result written.
-/
module

public import proofs.«01_k».proof.Proof.Whole.Plane.Steps

@[expose] public section

noncomputable section

namespace Cert.WholeProof.Plane

open Cert.WholeIdeal Cert.WholeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Slab F)

local notation "𝕎" => wpE (defs₀ (F := F)) 𝒱₀

set_option maxRecDepth 100000

variable (K : Dev nD × Cell → ℕ) (c : Dev nD)

/-- The tokens of the duties device `c` pays: its neighbours' cells', and its own sends'. -/
def pays : sProp 𝕄 :=
  iprop(dutyTok ER (cell (pred c) .bar) 0 false ∗ dutyTok ER (cell (succ c) .bar) 0 true
    ∗ dutyTok ER (cell (succ c) .cwR0) 0 false ∗ dutyTok ER (cell (succ c) .cwR0) 1 false ∗ dutyTok ER (cell (succ c) .cwR1) 0 false
    ∗ dutyTok ER (cell (succ c) .cwR2) 0 false
    ∗ dutyTok ER (cell (pred c) .ccwR0) 0 false ∗ dutyTok ER (cell (pred c) .ccwR1) 0 false ∗ dutyTok ER (cell (pred c) .ccwR2) 0 false
    ∗ dutyTok ER (cell (pred c) .ccwR3) 0 false
    ∗ dutyTok ER (cell (pred c) .cr) 0 false
    ∗ dutyTok ER (cell c .cwS0) 0 false ∗ dutyTok ER (cell c .cwS0) 1 false ∗ dutyTok ER (cell c .cwS1) 0 false ∗ dutyTok ER (cell c .cwS2) 0 false
    ∗ dutyTok ER (cell c .ccwS0) 0 false ∗ dutyTok ER (cell c .ccwS1) 0 false ∗ dutyTok ER (cell c .ccwS2) 0 false ∗ dutyTok ER (cell c .ccwS3) 0 false)

/-- Its positions at its own cells, all at round 0. -/
def starts : sProp 𝕄 :=
  iprop(atPos ER (cell c .bar) 0 ∅ 0 ∗ atPos ER (cell c .cr) 0 ∅ 0
    ∗ atPos ER (cell c .cwS0) 0 ∅ 0 ∗ atPos ER (cell c .cwS1) 0 ∅ 0 ∗ atPos ER (cell c .cwS2) 0 ∅ 0
    ∗ atPos ER (cell c .cwR0) 0 ∅ 0 ∗ atPos ER (cell c .cwR1) 0 ∅ 0 ∗ atPos ER (cell c .cwR2) 0 ∅ 0
    ∗ atPos ER (cell c .ccwS0) 0 ∅ 0 ∗ atPos ER (cell c .ccwS1) 0 ∅ 0 ∗ atPos ER (cell c .ccwS2) 0 ∅ 0 ∗ atPos ER (cell c .ccwS3) 0 ∅ 0
    ∗ atPos ER (cell c .ccwR0) 0 ∅ 0 ∗ atPos ER (cell c .ccwR1) 0 ∅ 0 ∗ atPos ER (cell c .ccwR2) 0 ∅ 0 ∗ atPos ER (cell c .ccwR3) 0 ∅ 0)

/-- Its own cells but the barrier are open: the receive cells', the send cells'. -/
def opens : sProp 𝕄 :=
  iprop((openCw (F := F) c ∗ openCcw (F := F) c)
    ∗ reached ER (cell c .cwS0) 0 ∗ reached ER (cell c .cwS1) 0 ∗ reached ER (cell c .cwS2) 0
    ∗ reached ER (cell c .ccwS0) 0 ∗ reached ER (cell c .ccwS1) 0 ∗ reached ER (cell c .ccwS2) 0 ∗ reached ER (cell c .ccwS3) 0)

/-- What others owe its cells. -/
def dueTo : sProp 𝕄 :=
  iprop(cred (tallyAt (cell c .bar) 12 2) ∗ cred (tallyAt (cell c .cr) 15 1)
    ∗ cred (tallyAt (cell c .cwR0) 13 N) ∗ cred (tallyAt (cell c .cwR0) 17 H) ∗ cred (tallyAt (cell c .cwR1) 14 N) ∗ cred (tallyAt (cell c .cwR2) 16 N)
    ∗ cred (tallyAt (cell c .ccwR0) 13 N) ∗ cred (tallyAt (cell c .ccwR1) 14 N) ∗ cred (tallyAt (cell c .ccwR2) 16 N) ∗ cred (tallyAt (cell c .ccwR3) 17 H))

/-- Its cells closed. -/
def closed : sProp 𝕄 :=
  iprop(semVal (cell c .bar) 0 ∗ semVal (cell c .cr) 0
    ∗ semVal (cell c .cwS0) 0 ∗ semVal (cell c .cwS1) 0 ∗ semVal (cell c .cwS2) 0
    ∗ semVal (cell c .cwR0) 0 ∗ semVal (cell c .cwR1) 0 ∗ semVal (cell c .cwR2) 0
    ∗ semVal (cell c .ccwS0) 0 ∗ semVal (cell c .ccwS1) 0 ∗ semVal (cell c .ccwS2) 0 ∗ semVal (cell c .ccwS3) 0
    ∗ semVal (cell c .ccwR0) 0 ∗ semVal (cell c .ccwR1) 0 ∗ semVal (cell c .ccwR2) 0 ∗ semVal (cell c .ccwR3) 0)

/-- A scratch buffer of three slots, at some contents. -/
def scratch (B : Memref sig .tc .vmem S3x512x2048 .bf16) : sProp 𝕄 :=
  iprop(anyOf (F := F) c (s0 B) ∗ anyOf (F := F) c (s1 B) ∗ anyOf (F := F) c (s2 B))

/-- The load of the whole operand. -/
theorem step_operand {α : Type} {Q : α → sProp 𝕄} (q : PosShare TreeShare) (Y : Slab F) {hb : ∀ a, (![0, 0] : Fin 2 → ℕ) a + S512x2048.size a ≤ S512x2048.size a}
    {hl : inM.view.LoadsAt (Rect.unit (s := S512x2048) ![0, 0] S512x2048.size hb).toLoadRect}
    {cont : (S512x2048.Idx → Elt F .bf16) → Prog (TpuEff nD τ sig (Elt F) Λ₀ .tc) α} :
    own c inM q Y ⊢ iprop((own c inM q Y -∗ wp frame (𝕎 (c : Thread nD τ) none) Set.univ (cont Y) Q)
      -∗ wp frame (𝕎 (c : Thread nD τ) none) Set.univ (.op (.load inM (Rect.unit (s := S512x2048) ![0, 0] S512x2048.size hb).toLoadRect hl) cont) Q) := by
  iintro H Hk
  ihave H := (own_elim c inM q Y) $$ H
  icases H with ⟨%f, %hf, H⟩
  iapply (wp_load_rect 𝒱₀ (c : Thread nD τ) none Set.univ (m := inM) (r := Rect.unit (s := S512x2048) ![0, 0] S512x2048.size hb) (S := inM.view.set) (by
    intro i _; show i ∈ (View.whole cc2_stg0_0).set; rw [View.set_whole]; exact Finset.mem_univ i)) $$ H
  iintro H
  have e : (inM.access (Rect.unit (s := S512x2048) ![0, 0] S512x2048.size hb)).read (Elt F) f = Y := by
    rw [← hf]
    funext i
    show inM.view.read (Elt F) f ((Rect.unit (s := S512x2048) ![0, 0] S512x2048.size hb).emb i) = _
    congr 1
    funext a
    apply Fin.ext
    match a with
    | 0 => show 0 + 1 * (i 0).val = (i 0).val; omega
    | 1 => show 0 + 1 * (i 1).val = (i 1).val; omega
  rw [e]
  iapply Hk
  rw [← hf]
  iapply (owns_intro (c : Thread nD τ) inM q f)
  iexact H

/-! The row blocks are written in this order, no two the same. -/

theorem pos_ne1 (c : Dev nD) : pos c - 1 ∉ [pos c] := by generalize pos c = p; revert p; decide
theorem pos_ne2 (c : Dev nD) : pos c + 1 ∉ [pos c - 1, pos c] := by generalize pos c = p; revert p; decide
theorem pos_ne3 (c : Dev nD) : pos c - 2 ∉ [pos c + 1, pos c - 1, pos c] := by generalize pos c = p; revert p; decide
theorem pos_ne4 (c : Dev nD) : pos c + 2 ∉ [pos c - 2, pos c + 1, pos c - 1, pos c] := by generalize pos c = p; revert p; decide
theorem pos_ne5 (c : Dev nD) : pos c - 3 ∉ [pos c + 2, pos c - 2, pos c + 1, pos c - 1, pos c] := by generalize pos c = p; revert p; decide
theorem pos_ne6 (c : Dev nD) : pos c + 3 ∉ [pos c - 3, pos c + 2, pos c - 2, pos c + 1, pos c - 1, pos c] := by generalize pos c = p; revert p; decide
theorem pos_ne7 (c : Dev nD) : pos c - 4 ∉ [pos c + 3, pos c - 3, pos c + 2, pos c - 2, pos c + 1, pos c - 1, pos c] := by generalize pos c = p; revert p; decide

section Lemmas

variable {c}

/-- A wait for a copy's bytes, on a round with one duty. -/
theorem step_wait_dma {α : Type} {Q : α → sProp 𝕄} {K : Dev nD × Cell → ℕ} (k : Cell) {sem : DmaSem sig} (hs : csem k = .dma sem) (r : ℕ) {s : Shape}
    (dst : Memref sig .tc .vmem s .bf16) {src : Memref sig .tc .vmem s .bf16} {n : ℕ} (hN : dst.view.dmaCredit = n) (hn : n = amt k r)
    (hd : dut k r = {false}) (i : ℕ) (hi : i < levels) {l : List (TalkSites.Pay nD τ sig)} (hl : AllAbove i l)
    {hsrc : src.view.WordExact} {hdst : dst.view.WordExact}
    {cont : PUnit → Prog (TpuEff nD τ sig (Elt F) Λ₀ .tc) α} :
    records X K ⊢ iprop(due (F := F) c l -∗ cred (tallyAt (cell c k) i n) -∗ atPos ER (cell c k) r ∅ 0
      -∗ ((due (F := F) c l ∗ atPos ER (cell c k) (r + 1) ∅ 0 ∗ reached ER (cell c k) (r + 1) ∗ pay X k c r false)
          -∗ wp frame (𝕎 (c : Thread nD τ) none) Set.univ (cont ⟨⟩) Q)
      -∗ wp frame (𝕎 (c : Thread nD τ) none) Set.univ (.op (.waitDma2 sem src dst hsrc hdst) cont) Q) :=
  step_wait X k hs r (fun Kf => (wpE_waitDma2_eq 𝒱₀ (c : Thread nD τ) none Set.univ Kf).trans (by rw [hN])) hd hn i hi hl

theorem halve {s : Shape} (M : Memref sig .tc .vmem s .bf16) (Y : s.Idx → Elt F .bf16) :
    own c M fullShare Y ⊢ iprop(own c M fullShare.left Y ∗ own c M fullShare.right Y) := (owns_halves (c : Thread nD τ) M fullShare Y).1
theorem unhalve {s : Shape} (M : Memref sig .tc .vmem s .bf16) (Y : s.Idx → Elt F .bf16) :
    iprop(own c M fullShare.left Y ∗ own c M fullShare.right Y) ⊢ own c M fullShare Y := (owns_halves (c : Thread nD τ) M fullShare Y).2
theorem no_frame (P : sProp 𝕄) : P ⊢ iprop(P ∗ emp) := by
  iintro H
  isplitl [H]
  · iexact H
  · iempintro

/-! What each payment hands, at the neighbour it is made to. -/

theorem pay_bar_pred : iprop(scratch (F := F) c cwM ∗ openCw (F := F) c) ⊢ pay X .bar (pred c) 0 false := by
  show _ ⊢ iprop((anyOf (F := F) (succ (pred c)) cw0 ∗ anyOf (F := F) (succ (pred c)) cw1 ∗ anyOf (F := F) (succ (pred c)) cw2) ∗ openCw (succ (pred c)))
  rw [succ_pred]; exact .rfl
theorem pay_bar_succ : iprop(scratch (F := F) c ccwM ∗ openCcw (F := F) c) ⊢ pay X .bar (succ c) 0 true := by
  show _ ⊢ iprop((anyOf (F := F) (pred (succ c)) ccw0 ∗ anyOf (F := F) (pred (succ c)) ccw1 ∗ anyOf (F := F) (pred (succ c)) ccw2) ∗ openCcw (pred (succ c)))
  rw [pred_succ]; exact .rfl
theorem pay_cr_pred : iprop(anyOf (F := F) c cw0L ∗ reached ER (cell c .cwR0) 1) ⊢ pay X .cr (pred c) 0 false := by
  show _ ⊢ iprop(anyOf (F := F) (succ (pred c)) cw0L ∗ reached ER (cell (succ (pred c)) .cwR0) 1)
  rw [succ_pred]
theorem pay_cwR0 : iprop(own (succ c) cw0 fullShare (X c) ∗ emp) ⊢ pay X .cwR0 (succ c) 0 false := by
  show _ ⊢ own (succ c) cw0 fullShare (X (pred (succ c)))
  rw [pred_succ]; exact sep_elim_left
theorem pay_cwR1 : iprop(own (succ c) cw1 fullShare (X (pred c)) ∗ emp) ⊢ pay X .cwR1 (succ c) 0 false := by
  show _ ⊢ own (succ c) cw1 fullShare (X (pred (pred (succ c))))
  rw [pred_succ]; exact sep_elim_left
theorem pay_cwR2 : iprop(own (succ c) cw2 fullShare (X (pred (pred c))) ∗ anyOf (F := F) c cw0H) ⊢ pay X .cwR2 (succ c) 0 false := by
  show _ ⊢ iprop(own (succ c) cw2 fullShare (X (pred (pred (pred (succ c))))) ∗ anyOf (F := F) (pred (succ c)) cw0H)
  rw [pred_succ]
theorem pay_cwR0' : iprop(own (succ c) cw0L fullShare (lo (X (pred (pred (pred c))))) ∗ emp) ⊢ pay X .cwR0 (succ c) 1 false := by
  show _ ⊢ own (succ c) cw0L fullShare (lo (X (pred (pred (pred (pred (succ c)))))))
  rw [pred_succ]; exact sep_elim_left
theorem pay_ccwR0 : iprop(own (pred c) ccw0 fullShare (X c) ∗ emp) ⊢ pay X .ccwR0 (pred c) 0 false := by
  show _ ⊢ own (pred c) ccw0 fullShare (X (succ (pred c)))
  rw [succ_pred]; exact sep_elim_left
theorem pay_ccwR1 : iprop(own (pred c) ccw1 fullShare (X (succ c)) ∗ emp) ⊢ pay X .ccwR1 (pred c) 0 false := by
  show _ ⊢ own (pred c) ccw1 fullShare (X (succ (succ (pred c))))
  rw [succ_pred]; exact sep_elim_left
theorem pay_ccwR2 : iprop(own (pred c) ccw2 fullShare (X (succ (succ c))) ∗ emp) ⊢ pay X .ccwR2 (pred c) 0 false := by
  show _ ⊢ own (pred c) ccw2 fullShare (X (succ (succ (succ (pred c)))))
  rw [succ_pred]; exact sep_elim_left
theorem pay_ccwR3 : iprop(own (pred c) cw0H fullShare (hi (X (succ (succ (succ c))))) ∗ emp) ⊢ pay X .ccwR3 (pred c) 0 false := by
  show _ ⊢ own (pred c) cw0H fullShare (hi (X (succ (succ (succ (succ (pred c)))))))
  rw [succ_pred]; exact sep_elim_left

end Lemmas

set_option maxHeartbeats 4000000 in
theorem body {Q : PUnit → sProp 𝕄} :
    records X K ⊢ iprop(opens (F := F) c -∗ pays c -∗ starts c -∗ dueTo c -∗ due (F := F) c (dues c) -∗ own c inM fullShare (X c) -∗ outHas X c [] -∗ scratch (F := F) c cwM -∗ scratch (F := F) c ccwM
      -∗ ((closed c ∗ due (F := F) c [] ∗ own c inM fullShare (X c)
            ∗ outHas X c [pos c - 4, pos c + 3, pos c - 3, pos c + 2, pos c - 2, pos c + 1, pos c - 1, pos c]
            ∗ scratch (F := F) c cwM ∗ scratch (F := F) c ccwM) -∗ Q ⟨⟩)
      -∗ wp frame (𝕎 (c : Thread nD τ) none) Set.univ
          (cc2_body inM (Memref.isWhole_whole _) outM (Memref.isWhole_whole _) (Memref.whole cc2_scratch0) (Memref.isWhole_whole _)
            (Memref.whole cc2_scratch1) (Memref.isWhole_whole _) cc2_scratch2 cc2_scratch3 cc2_scratch4 cc2_scratch5 cc2_scratch6) Q) := by
  unfold pays starts opens dueTo dues
  iintro #HR ⟨⟨Hcw, Hccw⟩, #RaS0, #RaS1, #RaS2, #RbS0, #RbS1, #RbS2, #RbS3⟩ ⟨TbP, TbN, TaR0, TaR0', TaR1, TaR2, TbR0, TbR1, TbR2, TbR3, Tcr, TaS0, TaS0', TaS1, TaS2, TbS0, TbS1, TbS2, TbS3⟩
    ⟨Pb, Pc, PaS0, PaS1, PaS2, PaR0, PaR1, PaR2, PbS0, PbS1, PbS2, PbS3, PbR0, PbR1, PbR2, PbR3⟩
    ⟨Cb, Cc, CaR0, CaR0', CaR1, CaR2, CbR0, CbR1, CbR2, CbR3⟩ O I Out Sa Sb Hk
  rw [cc2_body_eq_skeleton]; unfold cc2_body_skel
  rw [k2_part14_eq_skeleton]; unfold k2_part14_skel
  rw [k2_part1_eq_skeleton]; unfold k2_part1_skel
  rw [k2_part2_eq_skeleton]; unfold k2_part2_skel
  rw [k2_part3_eq_skeleton]; unfold k2_part3_skel
  rw [k2_part4_eq_skeleton]; unfold k2_part4_skel
  rw [k2_part5_eq_skeleton]; unfold k2_part5_skel
  rw [k2_part6_eq_skeleton]; unfold k2_part6_skel
  rw [k2_part7_eq_skeleton]; unfold k2_part7_skel
  rw [k2_part8_eq_skeleton]; unfold k2_part8_skel
  rw [k2_part9_eq_skeleton]; unfold k2_part9_skel
  rw [k2_part10_eq_skeleton]; unfold k2_part10_skel
  rw [k2_part11_eq_skeleton]; unfold k2_part11_skel
  rw [k2_part12_eq_skeleton]; unfold k2_part12_skel
  rw [k2_part13_eq_skeleton]; unfold k2_part13_skel
  simp only [semSignalWord, semWaitWord, Prog.lift, Prog.bind_op, Prog.bind_ret, Prog.pure_eq_ret, wp_deviceId]
  -- the barrier
  ihave #RbP := (records_reached X K (pred c)) $$ HR
  ihave #RbN := (records_reached X K (succ c)) $$ HR
  ihave P := (pay_bar_pred X) $$ [Sa Hcw]
  · isplitl [Sa] <;> iassumption
  iapply (step_signal X (c := c) (n := 1) (k := .bar) (c' := pred c) (d := false) rfl (dev1_eq c) (Finset.mem_univ _) rfl) $$ HR O TbP RbP P
  iintro O
  ihave P := (pay_bar_succ X) $$ [Sb Hccw]
  · isplitl [Sb] <;> iassumption
  iapply (step_signal X (c := c) (n := 1) (k := .bar) (c' := succ c) (d := true) rfl (dev2_eq c) (Finset.mem_univ _) rfl) $$ HR O TbN RbN P
  iintro O
  iapply (step_barrier X (wpE_semWait_eq 𝒱₀ (c : Thread nD τ) none Set.univ) rfl 12 (by decide) (by repeat first | exact allAbove_nil _ | refine allAbove_cons (by decide) ?_)) $$ HR O Cb Pb
  iintro ⟨O, Pb, P, P'⟩
  ihave P := (show pay X .bar c 0 false ⊢ iprop((anyOf (F := F) (succ c) cw0 ∗ anyOf (F := F) (succ c) cw1 ∗ anyOf (F := F) (succ c) cw2)
    ∗ reached ER (cell (succ c) .cwR0) 0 ∗ reached ER (cell (succ c) .cwR1) 0 ∗ reached ER (cell (succ c) .cwR2) 0) from .rfl) $$ P
  ihave P' := (show pay X .bar c 0 true ⊢ iprop((anyOf (F := F) (pred c) ccw0 ∗ anyOf (F := F) (pred c) ccw1 ∗ anyOf (F := F) (pred c) ccw2)
    ∗ reached ER (cell (pred c) .ccwR0) 0 ∗ reached ER (cell (pred c) .ccwR1) 0 ∗ reached ER (cell (pred c) .ccwR2) 0 ∗ reached ER (cell (pred c) .ccwR3) 0
    ∗ reached ER (cell (pred c) .cr) 0) from .rfl) $$ P'
  icases P with ⟨⟨D0, D1, D2⟩, #RaR0, #RaR1, #RaR2⟩
  icases P' with ⟨⟨E0, E1, E2⟩, #RbR0, #RbR1, #RbR2, #RbR3, #Rcr⟩
  -- the device's own slab
  iapply (step_operand c fullShare (X c)) $$ I
  iintro I
  iapply (step_peek X []) $$ Out
  iintro %u Out
  iapply (step_store X (pos c) (off1_eq c) (show k2_pay1 _ = _ from (shapeCast_self _ _).trans (congrArg X (at_blocks c).1.symm)) [] (List.not_mem_nil)) $$ Out
  iintro Out
  -- step 0
  ihave I := (halve inM (X c)) $$ I
  icases I with ⟨Il, Ir⟩
  ihave D0 := (no_frame _) $$ D0
  iapply (step_copy X (c := c) (src := inM) (dst := cw0) (n := N) (q := fullShare.left) (X c) iprop(emp) .cwS0 .cwR0 0 0 rfl rfl (dev3_eq c) rfl rfl rfl rfl rfl .rfl (pay_cwR0 X)) $$ HR Il D0 O TaS0 RaS0 TaR0 RaR0
  iintro ⟨CaS0, O⟩
  ihave E0 := (no_frame _) $$ E0
  iapply (step_copy X (c := c) (src := inM) (dst := ccw0) (n := N) (q := fullShare.right) (X c) iprop(emp) .ccwS0 .ccwR0 0 0 rfl rfl (dev4_eq c) rfl rfl rfl rfl rfl .rfl (pay_ccwR0 X)) $$ HR Ir E0 O TbS0 RbS0 TbR0 RbR0
  iintro ⟨CbS0, O⟩
  iapply (step_wait_dma X (c := c) (n := N) .ccwS0 rfl 0 inM rfl rfl rfl 0 (by decide) (by repeat first | exact allAbove_nil _ | refine allAbove_cons (by decide) ?_)) $$ HR O CbS0 PbS0
  iintro ⟨O, PbS0, -, Ir⟩
  ihave Ir := (show pay X .ccwS0 c 0 false ⊢ own c inM fullShare.right (X c) from .rfl) $$ Ir
  iapply (step_wait_dma X (c := c) (n := N) .ccwR0 rfl 0 ccw0 rfl rfl rfl 13 (by decide) (by repeat first | exact allAbove_nil _ | refine allAbove_cons (by decide) ?_)) $$ HR O CbR0 PbR0
  iintro ⟨O, PbR0, -, B0⟩
  ihave B0 := (show pay X .ccwR0 c 0 false ⊢ own c ccw0 fullShare (X (succ c)) from .rfl) $$ B0
  iapply (step_wait_dma X (c := c) (n := N) .cwS0 rfl 0 inM rfl rfl rfl 0 (by decide) (by repeat first | exact allAbove_nil _ | refine allAbove_cons (by decide) ?_)) $$ HR O CaS0 PaS0
  iintro ⟨O, PaS0, #RaS0', Il⟩
  ihave Il := (show pay X .cwS0 c 0 false ⊢ own c inM fullShare.left (X c) from .rfl) $$ Il
  iapply (step_wait_dma X (c := c) (n := N) .cwR0 rfl 0 cw0 rfl rfl rfl 13 (by decide) (by repeat first | exact allAbove_nil _ | refine allAbove_cons (by decide) ?_)) $$ HR O CaR0 PaR0
  iintro ⟨O, PaR0, #RcR0, A0⟩
  ihave A0 := (show pay X .cwR0 c 0 false ⊢ own c cw0 fullShare (X (pred c)) from .rfl) $$ A0
  ihave I := (unhalve inM (X c)) $$ [Il Ir]
  · isplitl [Il] <;> iassumption
  -- step 1
  ihave A0 := (halve cw0 (X (pred c))) $$ A0
  icases A0 with ⟨A0l, A0r⟩
  ihave B0 := (halve ccw0 (X (succ c))) $$ B0
  icases B0 with ⟨B0l, B0r⟩
  ihave D1 := (no_frame _) $$ D1
  ihave E1 := (no_frame _) $$ E1
  iapply (step_copy X (c := c) (src := cw0) (dst := cw1) (n := N) (q := fullShare.right) (X (pred c)) iprop(emp) .cwS1 .cwR1 0 0 rfl rfl (dev5_eq c) rfl rfl rfl rfl rfl .rfl (pay_cwR1 X)) $$ HR A0r D1 O TaS1 RaS1 TaR1 RaR1
  iintro ⟨CaS1, O⟩
  iapply (step_copy X (c := c) (src := ccw0) (dst := ccw1) (n := N) (q := fullShare.right) (X (succ c)) iprop(emp) .ccwS1 .ccwR1 0 0 rfl rfl (dev6_eq c) rfl rfl rfl rfl rfl .rfl (pay_ccwR1 X)) $$ HR B0r E1 O TbS1 RbS1 TbR1 RbR1
  iintro ⟨CbS1, O⟩
  iapply (step_slot (c := c) cwM 0 _ fullShare.left (X (pred c))) $$ A0l
  iintro %v %hv A0l
  iapply (step_peek X [pos c]) $$ Out
  iintro %u Out
  iapply (step_store X (c := c) (pos c - 1) (off2_1 c) (show k2_pay2 v = _ from (hv _).trans (congrArg X ((at_blocks c).2.1).symm)) [pos c] (pos_ne1 c)) $$ Out
  iintro Out
  iapply (step_slot (c := c) ccwM 0 _ fullShare.left (X (succ c))) $$ B0l
  iintro %v %hv B0l
  iapply (step_peek X [pos c - 1, pos c]) $$ Out
  iintro %u Out
  iapply (step_store X (c := c) (pos c + 1) (off3_1 c) (show k2_pay3 v = _ from (hv _).trans (congrArg X ((at_blocks c).2.2.1).symm)) [pos c - 1, pos c] (pos_ne2 c)) $$ Out
  iintro Out
  iapply (step_wait_dma X (c := c) (n := N) .ccwS1 rfl 0 ccw0 rfl rfl rfl 0 (by decide) (by repeat first | exact allAbove_nil _ | refine allAbove_cons (by decide) ?_)) $$ HR O CbS1 PbS1
  iintro ⟨O, PbS1, -, B0r⟩
  ihave B0r := (show pay X .ccwS1 c 0 false ⊢ own c ccw0 fullShare.right (X (succ c)) from .rfl) $$ B0r
  iapply (step_wait_dma X (c := c) (n := N) .ccwR1 rfl 0 ccw1 rfl rfl rfl 14 (by decide) (by repeat first | exact allAbove_nil _ | refine allAbove_cons (by decide) ?_)) $$ HR O CbR1 PbR1
  iintro ⟨O, PbR1, -, B1⟩
  ihave B1 := (show pay X .ccwR1 c 0 false ⊢ own c ccw1 fullShare (X (succ (succ c))) from .rfl) $$ B1
  iapply (step_wait_dma X (c := c) (n := N) .cwS1 rfl 0 cw0 rfl rfl rfl 0 (by decide) (by repeat first | exact allAbove_nil _ | refine allAbove_cons (by decide) ?_)) $$ HR O CaS1 PaS1
  iintro ⟨O, PaS1, -, A0r⟩
  ihave A0r := (show pay X .cwS1 c 0 false ⊢ own c cw0 fullShare.right (X (pred c)) from .rfl) $$ A0r
  iapply (step_wait_dma X (c := c) (n := N) .cwR1 rfl 0 cw1 rfl rfl rfl 14 (by decide) (by repeat first | exact allAbove_nil _ | refine allAbove_cons (by decide) ?_)) $$ HR O CaR1 PaR1
  iintro ⟨O, PaR1, -, A1⟩
  ihave A1 := (show pay X .cwR1 c 0 false ⊢ own c cw1 fullShare (X (pred (pred c))) from .rfl) $$ A1
  ihave A0 := (unhalve cw0 (X (pred c))) $$ [A0l A0r]
  · isplitl [A0l] <;> iassumption
  ihave B0 := (unhalve ccw0 (X (succ c))) $$ [B0l B0r]
  · isplitl [B0l] <;> iassumption
  -- the clockwise slot 0 is free: its lower half goes to the device before with the credit, its upper half to the next with the third copy
  ihave A0 := (any_of c cw0 (X (pred c))) $$ A0
  ihave A0 := (any_split cwM 0 _ inb_S3x512x2048_S1x256x2048_0_0_0 inb_S3x512x2048_S1x256x2048_0_256_0 c) $$ A0
  icases A0 with ⟨A0L, A0H⟩
  ihave P := (pay_cr_pred X (c := c)) $$ [A0L]
  · isplitl [A0L]; · iexact A0L
    iexact RcR0
  iapply (step_signal X (c := c) (n := 1) (k := .cr) (c' := pred c) (d := false) rfl (dev7_eq c) (Finset.mem_singleton_self _) rfl) $$ HR O Tcr Rcr P
  iintro O
  -- step 2
  ihave A1 := (halve cw1 (X (pred (pred c)))) $$ A1
  icases A1 with ⟨A1l, A1r⟩
  ihave B1 := (halve ccw1 (X (succ (succ c)))) $$ B1
  icases B1 with ⟨B1l, B1r⟩
  ihave D2 := (show iprop(anyOf (F := F) (succ c) cw2 ∗ anyOf (F := F) c cw0H) ⊢ _ from .rfl) $$ [D2 A0H]
  · isplitl [D2]; · iexact D2
    iexact A0H
  ihave E2 := (no_frame _) $$ E2
  iapply (step_copy X (c := c) (src := cw1) (dst := cw2) (n := N) (q := fullShare.right) (X (pred (pred c))) iprop(anyOf (F := F) c cw0H) .cwS2 .cwR2 0 0 rfl rfl (dev8_eq c) rfl rfl rfl rfl rfl .rfl (pay_cwR2 X)) $$ HR A1r D2 O TaS2 RaS2 TaR2 RaR2
  iintro ⟨CaS2, O⟩
  iapply (step_copy X (c := c) (src := ccw1) (dst := ccw2) (n := N) (q := fullShare.right) (X (succ (succ c))) iprop(emp) .ccwS2 .ccwR2 0 0 rfl rfl (dev9_eq c) rfl rfl rfl rfl rfl .rfl (pay_ccwR2 X)) $$ HR B1r E2 O TbS2 RbS2 TbR2 RbR2
  iintro ⟨CbS2, O⟩
  iapply (step_slot (c := c) cwM 1 _ fullShare.left (X (pred (pred c)))) $$ A1l
  iintro %v %hv A1l
  iapply (step_peek X [pos c + 1, pos c - 1, pos c]) $$ Out
  iintro %u Out
  iapply (step_store X (c := c) (pos c - 2) (off2_2 c) (show k2_pay4 v = _ from (hv _).trans (congrArg X ((at_blocks c).2.2.2.1).symm)) [pos c + 1, pos c - 1, pos c] (pos_ne3 c)) $$ Out
  iintro Out
  iapply (step_slot (c := c) ccwM 1 _ fullShare.left (X (succ (succ c)))) $$ B1l
  iintro %v %hv B1l
  iapply (step_peek X [pos c - 2, pos c + 1, pos c - 1, pos c]) $$ Out
  iintro %u Out
  iapply (step_store X (c := c) (pos c + 2) (off3_2 c) (show k2_pay5 v = _ from (hv _).trans (congrArg X ((at_blocks c).2.2.2.2.1).symm)) [pos c - 2, pos c + 1, pos c - 1, pos c] (pos_ne4 c)) $$ Out
  iintro Out
  iapply (step_wait_dma X (c := c) (n := N) .ccwS2 rfl 0 ccw1 rfl rfl rfl 0 (by decide) (by repeat first | exact allAbove_nil _ | refine allAbove_cons (by decide) ?_)) $$ HR O CbS2 PbS2
  iintro ⟨O, PbS2, -, B1r⟩
  ihave B1r := (show pay X .ccwS2 c 0 false ⊢ own c ccw1 fullShare.right (X (succ (succ c))) from .rfl) $$ B1r
  iapply (step_wait_dma X (c := c) (n := N) .ccwR2 rfl 0 ccw2 rfl rfl rfl 16 (by decide) (by repeat first | exact allAbove_nil _ | refine allAbove_cons (by decide) ?_)) $$ HR O CbR2 PbR2
  iintro ⟨O, PbR2, -, B2⟩
  ihave B2 := (show pay X .ccwR2 c 0 false ⊢ own c ccw2 fullShare (X (succ (succ (succ c)))) from .rfl) $$ B2
  iapply (step_wait_dma X (c := c) (n := N) .cwS2 rfl 0 cw1 rfl rfl rfl 0 (by decide) (by repeat first | exact allAbove_nil _ | refine allAbove_cons (by decide) ?_)) $$ HR O CaS2 PaS2
  iintro ⟨O, PaS2, -, A1r⟩
  ihave A1r := (show pay X .cwS2 c 0 false ⊢ own c cw1 fullShare.right (X (pred (pred c))) from .rfl) $$ A1r
  iapply (step_wait_dma X (c := c) (n := N) .cwR2 rfl 0 cw2 rfl rfl rfl 16 (by decide) (by repeat first | exact allAbove_nil _ | refine allAbove_cons (by decide) ?_)) $$ HR O CaR2 PaR2
  iintro ⟨O, PaR2, -, A2⟩
  ihave A2 := (show pay X .cwR2 c 0 false ⊢ iprop(own c cw2 fullShare (X (pred (pred (pred c)))) ∗ anyOf (F := F) (pred c) cw0H) from .rfl) $$ A2
  icases A2 with ⟨A2, G⟩
  ihave A1 := (unhalve cw1 (X (pred (pred c)))) $$ [A1l A1r]
  · isplitl [A1l] <;> iassumption
  ihave B1 := (unhalve ccw1 (X (succ (succ c)))) $$ [B1l B1r]
  · isplitl [B1l] <;> iassumption
  -- step 3: half a slab each way
  iapply (step_wait X (c := c) (n := 1) .cr rfl 0 (wpE_semWait_eq 𝒱₀ (c : Thread nD τ) none Set.univ) rfl rfl 15 (by decide) (by repeat first | exact allAbove_nil _ | refine allAbove_cons (by decide) ?_)) $$ HR O Cc Pc
  iintro ⟨O, Pc, -, P⟩
  ihave P := (show pay X .cr c 0 false ⊢ iprop(anyOf (F := F) (succ c) cw0L ∗ reached ER (cell (succ c) .cwR0) 1) from .rfl) $$ P
  icases P with ⟨D, #RaR0'⟩
  ihave A2 := (halve cw2 (X (pred (pred (pred c))))) $$ A2
  icases A2 with ⟨A2l, A2r⟩
  ihave B2 := (halve ccw2 (X (succ (succ (succ c))))) $$ B2
  icases B2 with ⟨B2l, B2r⟩
  ihave A2r := (own_split cwM 2 _ inb_S3x512x2048_S1x256x2048_2_0_0 inb_S3x512x2048_S1x256x2048_2_256_0 c fullShare.right (X (pred (pred (pred c))))) $$ A2r
  icases A2r with ⟨A2rL, A2rH⟩
  ihave B2r := (own_split ccwM 2 _ inb_S3x512x2048_S1x256x2048_2_0_0 inb_S3x512x2048_S1x256x2048_2_256_0 c fullShare.right (X (succ (succ (succ c))))) $$ B2r
  icases B2r with ⟨B2rL, B2rH⟩
  ihave D := (no_frame _) $$ D
  ihave G := (no_frame _) $$ G
  iapply (step_copy X (c := c) (src := cw2L) (dst := cw0L) (n := H) (q := fullShare.right) (lo (X (pred (pred (pred c))))) iprop(emp) .cwS0 .cwR0 1 1 rfl rfl (dev10_eq c) rfl rfl rfl rfl rfl .rfl (pay_cwR0' X)) $$ HR A2rL D O TaS0' RaS0' TaR0' RaR0'
  iintro ⟨CaS0, O⟩
  iapply (step_copy X (c := c) (src := ccw2H) (dst := cw0H) (n := H) (q := fullShare.right) (hi (X (succ (succ (succ c))))) iprop(emp) .ccwS3 .ccwR3 0 0 rfl rfl (dev11_eq c) rfl rfl rfl rfl rfl .rfl (pay_ccwR3 X)) $$ HR B2rH G O TbS3 RbS3 TbR3 RbR3
  iintro ⟨CbS3, O⟩
  iapply (step_slot (c := c) cwM 2 _ fullShare.left (X (pred (pred (pred c))))) $$ A2l
  iintro %v %hv A2l
  iapply (step_peek X [pos c + 2, pos c - 2, pos c + 1, pos c - 1, pos c]) $$ Out
  iintro %u Out
  iapply (step_store X (c := c) (pos c - 3) (off2_3 c) (show k2_pay6 v = _ from (hv _).trans (congrArg X ((at_blocks c).2.2.2.2.2.1).symm)) [pos c + 2, pos c - 2, pos c + 1, pos c - 1, pos c] (pos_ne5 c)) $$ Out
  iintro Out
  iapply (step_slot (c := c) ccwM 2 _ fullShare.left (X (succ (succ (succ c))))) $$ B2l
  iintro %v %hv B2l
  iapply (step_peek X [pos c - 3, pos c + 2, pos c - 2, pos c + 1, pos c - 1, pos c]) $$ Out
  iintro %u Out
  iapply (step_store X (c := c) (pos c + 3) (off3_3 c) (show k2_pay7 v = _ from (hv _).trans (congrArg X ((at_blocks c).2.2.2.2.2.2.1).symm)) [pos c - 3, pos c + 2, pos c - 2, pos c + 1, pos c - 1, pos c] (pos_ne6 c)) $$ Out
  iintro Out
  iapply (step_wait_dma X (c := c) (n := H) .ccwS3 rfl 0 ccw2H rfl rfl rfl 0 (by decide) (by repeat first | exact allAbove_nil _ | refine allAbove_cons (by decide) ?_)) $$ HR O CbS3 PbS3
  iintro ⟨O, PbS3, -, B2rH⟩
  ihave B2rH := (show pay X .ccwS3 c 0 false ⊢ own c ccw2H fullShare.right (hi (X (succ (succ (succ c))))) from .rfl) $$ B2rH
  iapply (step_wait_dma X (c := c) (n := H) .ccwR3 rfl 0 cw0H rfl rfl rfl 17 (by decide) (by repeat first | exact allAbove_nil _ | refine allAbove_cons (by decide) ?_)) $$ HR O CbR3 PbR3
  iintro ⟨O, PbR3, -, A0H⟩
  ihave A0H := (show pay X .ccwR3 c 0 false ⊢ own c cw0H fullShare (hi (X (succ (succ (succ (succ c)))))) from .rfl) $$ A0H
  iapply (step_wait_dma X (c := c) (n := H) .cwS0 rfl 1 cw2L rfl rfl rfl 0 (by decide) (by repeat first | exact allAbove_nil _ | refine allAbove_cons (by decide) ?_)) $$ HR O CaS0 PaS0
  iintro ⟨O, PaS0, -, A2rL⟩
  ihave A2rL := (show pay X .cwS0 c 1 false ⊢ own c cw2L fullShare.right (lo (X (pred (pred (pred c))))) from .rfl) $$ A2rL
  iapply (step_wait_dma X (c := c) (n := H) .cwR0 rfl 1 cw0L rfl rfl rfl 17 (by decide) (by repeat first | exact allAbove_nil _ | refine allAbove_cons (by decide) ?_)) $$ HR O CaR0' PaR0
  iintro ⟨O, PaR0, -, A0L⟩
  ihave A0L := (show pay X .cwR0 c 1 false ⊢ own c cw0L fullShare (lo (X (pred (pred (pred (pred c)))))) from .rfl) $$ A0L
  -- the two halves received are one slab, of the device opposite
  rw [← four_back c]
  ihave A0 := (own_join cwM 0 inb_S3x512x2048_S1x512x2048_0_0_0 inb_S3x512x2048_S1x256x2048_0_0_0 inb_S3x512x2048_S1x256x2048_0_256_0 c fullShare (X (pred (pred (pred (pred c)))))) $$ [A0L A0H]
  · isplitl [A0L] <;> iassumption
  iapply (step_slot (c := c) cwM 0 _ fullShare (X (pred (pred (pred (pred c)))))) $$ A0
  iintro %v %hv A0
  iapply (step_peek X [pos c + 3, pos c - 3, pos c + 2, pos c - 2, pos c + 1, pos c - 1, pos c]) $$ Out
  iintro %u Out
  iapply (step_store X (c := c) (pos c - 4) (off2_4 c) (show k2_pay8 v = _ from (hv _).trans (congrArg X ((at_blocks c).2.2.2.2.2.2.2).symm)) [pos c + 3, pos c - 3, pos c + 2, pos c - 2, pos c + 1, pos c - 1, pos c] (pos_ne7 c)) $$ Out
  iintro Out
  -- the shares go back together, the cells close
  ihave A2r := (own_join cwM 2 inb_S3x512x2048_S1x512x2048_2_0_0 inb_S3x512x2048_S1x256x2048_2_0_0 inb_S3x512x2048_S1x256x2048_2_256_0 c fullShare.right (X (pred (pred (pred c))))) $$ [A2rL A2rH]
  · isplitl [A2rL] <;> iassumption
  ihave B2r := (own_join ccwM 2 inb_S3x512x2048_S1x512x2048_2_0_0 inb_S3x512x2048_S1x256x2048_2_0_0 inb_S3x512x2048_S1x256x2048_2_256_0 c fullShare.right (X (succ (succ (succ c))))) $$ [B2rL B2rH]
  · isplitl [B2rL] <;> iassumption
  ihave A2 := (unhalve cw2 (X (pred (pred (pred c))))) $$ [A2l A2r]
  · isplitl [A2l] <;> iassumption
  ihave B2 := (unhalve ccw2 (X (succ (succ (succ c))))) $$ [B2l B2r]
  · isplitl [B2l] <;> iassumption
  imod (step_close X (K := K) (c := c) (n := 1) .bar rfl) $$ HR Pb with Pb
  imod (step_close X (K := K) (c := c) (n := 1) .cr rfl) $$ HR Pc with Pc
  imod (step_close X (K := K) (c := c) (n := 2) .cwS0 rfl) $$ HR PaS0 with PaS0
  imod (step_close X (K := K) (c := c) (n := 1) .cwS1 rfl) $$ HR PaS1 with PaS1
  imod (step_close X (K := K) (c := c) (n := 1) .cwS2 rfl) $$ HR PaS2 with PaS2
  imod (step_close X (K := K) (c := c) (n := 2) .cwR0 rfl) $$ HR PaR0 with PaR0
  imod (step_close X (K := K) (c := c) (n := 1) .cwR1 rfl) $$ HR PaR1 with PaR1
  imod (step_close X (K := K) (c := c) (n := 1) .cwR2 rfl) $$ HR PaR2 with PaR2
  imod (step_close X (K := K) (c := c) (n := 1) .ccwS0 rfl) $$ HR PbS0 with PbS0
  imod (step_close X (K := K) (c := c) (n := 1) .ccwS1 rfl) $$ HR PbS1 with PbS1
  imod (step_close X (K := K) (c := c) (n := 1) .ccwS2 rfl) $$ HR PbS2 with PbS2
  imod (step_close X (K := K) (c := c) (n := 1) .ccwS3 rfl) $$ HR PbS3 with PbS3
  imod (step_close X (K := K) (c := c) (n := 1) .ccwR0 rfl) $$ HR PbR0 with PbR0
  imod (step_close X (K := K) (c := c) (n := 1) .ccwR1 rfl) $$ HR PbR1 with PbR1
  imod (step_close X (K := K) (c := c) (n := 1) .ccwR2 rfl) $$ HR PbR2 with PbR2
  imod (step_close X (K := K) (c := c) (n := 1) .ccwR3 rfl) $$ HR PbR3 with PbR3
  rw [wp_ret]; imodintro
  iapply Hk
  unfold closed scratch
  isplitl [Pb Pc PaS0 PaS1 PaS2 PaR0 PaR1 PaR2 PbS0 PbS1 PbS2 PbS3 PbR0 PbR1 PbR2 PbR3]
  · isplitl [Pb]; · iexact Pb
    isplitl [Pc]; · iexact Pc
    isplitl [PaS0]; · iexact PaS0
    isplitl [PaS1]; · iexact PaS1
    isplitl [PaS2]; · iexact PaS2
    isplitl [PaR0]; · iexact PaR0
    isplitl [PaR1]; · iexact PaR1
    isplitl [PaR2]; · iexact PaR2
    isplitl [PbS0]; · iexact PbS0
    isplitl [PbS1]; · iexact PbS1
    isplitl [PbS2]; · iexact PbS2
    isplitl [PbS3]; · iexact PbS3
    isplitl [PbR0]; · iexact PbR0
    isplitl [PbR1]; · iexact PbR1
    isplitl [PbR2]; · iexact PbR2
    iexact PbR3
  isplitl [O]; · iexact O
  isplitl [I]; · iexact I
  isplitl [Out]; · iexact Out
  isplitl [A0 A1 A2]
  · isplitl [A0]; · iexists _; iexact A0
    isplitl [A1]; · iexists _; iexact A1
    iexists _; iexact A2
  · isplitl [B0]; · iexists _; iexact B0
    isplitl [B1]; · iexists _; iexact B1
    iexists _; iexact B2

end Cert.WholeProof.Plane

end
-- ==== Proof.Whole.Plane.Region.lean ====
/-
# The call's data and its body's obligation

What each device starts from and ends with, and the body proved against it.
-/
module

public import proofs.«01_k».proof.Proof.Whole.Plane.Body
public import Idealize.ShloMosaic.Lib.Pipeline.Kit

@[expose] public section

noncomputable section

namespace Cert.WholeProof.Plane

open Cert.WholeIdeal Cert.WholeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation cellOf)

local notation "𝕄" => MT nD τ sig ℕ (Elt F) ℕ UU ℕ

variable (V : Dev nD → Valuation τ sig (Elt F))

set_option maxRecDepth 100000

/-- The slab each device contributes: its operand as the call finds it. -/
abbrev slab (c : Dev nD) : Slab F := V c (Proc.devRef .tc main_v3)

/-- The result each device computes: row block `a` is the slab of the device at position `a`. -/
def outAt (X : Dev nD → Slab F) (c : Dev nD) : S4096x2048.Idx → Elt F .bf16 := fun j =>
  X (at_ ⟨(j 0).val / 512, by have : (j 0).val < 4096 := (j 0).isLt; omega⟩ c) (fun | 0 => ⟨(j 0).val % 512, Nat.mod_lt _ (by decide)⟩ | 1 => j 1)

theorem out_eq (X : Dev nD → Slab F) (c : Dev nD) (f : S4096x2048.Idx → Elt F .bf16)
    (h : ∀ a ∈ [pos c - 4, pos c + 3, pos c - 3, pos c + 2, pos c - 2, pos c + 1, pos c - 1, pos c], Holds f a (X (at_ a c))) : f = outAt X c := by
  funext j
  have hj : (j 0).val < 4096 := (j 0).isLt
  have h' := h ⟨(j 0).val / 512, by omega⟩ (by
    rcases blocks_cover (pos c) ⟨(j 0).val / 512, by omega⟩ with e | e | e | e | e | e | e | e <;> rw [e] <;> simp)
  exact h' (fun | 0 => ⟨(j 0).val % 512, Nat.mod_lt _ (by decide)⟩ | 1 => j 1) j
    (by show (j 0).val = 512 * ((j 0).val / 512) + (j 0).val % 512; omega) rfl

/-! ## The pipeline's data -/

/-- The generator's register and the other calls' buffers, which the body leaves alone. -/
def apart (c : Dev nD) : sProp 𝕄 :=
  iprop((∃ r, prngReg c r) ∗ some_ (F := F) c cc0_stg1_0 ∗ some_ (F := F) c cc0_stg2_0 ∗ some_ (F := F) c cc0_scratch0 ∗ some_ (F := F) c cc1_stg0_0 ∗ some_ (F := F) c cc1_stg1_0 ∗ some_ (F := F) c cc1_scratch0 ∗ some_ (F := F) c cc1_scratch1 ∗ some_ (F := F) c cc0_stg0_0)
/-- What device `c`'s body starts from, -/
def start (c : Dev nD) : sProp 𝕄 := iprop((∃ K, records (slab V) K ∗ opens (F := F) c ∗ pays c ∗ starts c) ∗ dueTo c)
def Φ₀ (c : Dev nD) : sProp 𝕄 := iprop(apart (F := F) c ∗ start V c ∗ scratch (F := F) c cwM ∗ scratch (F := F) c ccwM)
/-- and what it ends with. -/
def Φ₁ (c : Dev nD) : sProp 𝕄 := iprop(apart (F := F) c ∗ closed c ∗ scratch (F := F) c cwM ∗ scratch (F := F) c ccwM)

def dat (c : Dev nD) : Dat τ (Elt F) ℕ ℕ UU ℕ cfg2 c where
  A w := V c (Proc.devRef .tc (Pipeline.arrRef spec2 w))
  after w _ := match w with
    | ⟨0, _⟩ => slab V c
    | ⟨1, _⟩ => outAt (slab V) c
  Φ t := match t with
    | ⟨0, _⟩ => Φ₀ V c
    | ⟨_ + 1, _⟩ => Φ₁ c
  q _ := fullShare
  owed t := match t with
    | ⟨0, _⟩ => TalkSites.tallyL (dues c)
    | ⟨_ + 1, _⟩ => 0

/-- What is staged is the operand. -/
theorem staged (c : Dev nD) : (win2_0.blk (0 : Fin 1)).view.read (Elt F) (V c (Proc.devRef .tc main_v3) : Buf (Elt F) ((c : Thread nD τ).loc main_v3)) = slab V c := by
  have hz : (fun a => (win2_0.index (0 : Fin 1)) a * main_v3.ty.shape.size a) = fun _ => 0 :=
    funext fun a => by fin_cases a <;> decide
  exact Memref.read_access_unit_zero (Elt F) main_v3 hz (fun a => by fin_cases a <;> decide) _

def bodyPre (c : Dev nD) : sProp 𝕄 :=
  iprop(Φ₀ V c ∗ (dat V c).owesAt 0 t2_0.castSucc
    ∗ (∃ d, stg c cc2_stg0_0 ((dat V c).before (0 : Fin 2) t2_0 d))
    ∗ (∃ d, stg c cc2_stg1_0 ((dat V c).before (1 : Fin 2) t2_0 d)))

def bodyPost (c : Dev nD) : sProp 𝕄 :=
  iprop(Φ₁ c ∗ (dat V c).owesAt 0 t2_0.succ ∗ stg c cc2_stg0_0 (slab V c) ∗ stg c cc2_stg1_0 (outAt (slab V) c))

theorem fetch_0 (t : Fin cfg2.N) : (cfg2.win (0 : Fin 2)).fetch t = true := by rw [fin_N2 t]; rfl

theorem body_obligation (c : Dev nD) : BodyObligation (dat V c) (defs₀ (F := F)) 𝒱₀ 0 Set.univ := fun t => by
  rw [fin_N2 t]
  rw [bigSep_W2, bigSep_W2]
  simp only [owns_whole_eq]
  show bodyPre V c ⊢ wp frame (wpE (defs₀ (F := F)) 𝒱₀ (c : Thread nD τ) none) Set.univ
    (cc2_body inM (Memref.isWhole_whole _) outM (Memref.isWhole_whole _) (Memref.whole cc2_scratch0) (Memref.isWhole_whole _)
      (Memref.whole cc2_scratch1) (Memref.isWhole_whole _) cc2_scratch2 cc2_scratch3 cc2_scratch4 cc2_scratch5 cc2_scratch6) (fun _ => bodyPost V c)
  unfold bodyPre Φ₀ start
  iintro ⟨⟨Hz, ⟨⟨%K, #HR, Hop, HT, HP⟩, HC⟩, HA, HB⟩, Ho, ⟨%d0, %g0, %hg0, Hx⟩, ⟨%d1, %g1, %hg1, Hout⟩⟩
  have hx : g0 = slab V c := by rw [hg0]; unfold Dat.before; rw [if_pos (fetch_0 t2_0)]; exact staged V c
  subst hx
  unfold Dat.owesAt Pipeline.owesWithin
  icases Ho with ⟨%W, %hW, HO⟩
  iapply (body (slab V) K c) $$ HR Hop HT HP HC [HO] [Hx] [Hout] HA HB
  · unfold due; iexists W; iexact HO
  · iapply (show stg c cc2_stg0_0 (slab V c) ⊢ own c inM fullShare (slab V c) from Entails.of_eq (owns_whole_eq c cc2_stg0_0 (slab V c)).symm)
    iexists _; isplitr; · (ipureintro; rfl)
    iexact Hx
  · unfold outHas; iexists g1; isplitr; · (ipureintro; exact fun a ha => absurd ha (List.not_mem_nil))
    iexact Hout
  iintro ⟨Hcl, HO, Hx, Hout, HA, HB⟩
  unfold bodyPost Φ₁ due outHas Dat.owesAt Pipeline.owesWithin
  icases HO with ⟨%W', HO⟩
  icases Hout with ⟨%f, %hf, Hout⟩
  ihave Hx := (show own c inM fullShare (slab V c) ⊢ stg c cc2_stg0_0 (slab V c) from Entails.of_eq (owns_whole_eq c cc2_stg0_0 (slab V c))) $$ Hx
  isplitl [Hz Hcl HA HB]
  · isplitl [Hz]; · iexact Hz
    isplitl [Hcl]; · iexact Hcl
    isplitl [HA] <;> iassumption
  isplitl [HO]
  · iexists W'
    isplitr; · ipureintro; exact fun _ _ => Or.inl trivial
    iexact HO
  isplitl [Hx]; · iexact Hx
  iexists _; isplitr; · (ipureintro; exact out_eq (slab V) c f hf)
  iexact Hout

/-! ## The arrays -/

theorem share_eq (c : Dev nD) (w : Fin cfg2.W) : (dat V c).share w = fullShare := by unfold Dat.share; split <;> rfl

/-- The result's array after the call. -/
theorem arr_out (c : Dev nD) : (dat V c).arrAt (1 : Fin 2) cfg2.N = outAt (slab V) c := by
  have hz : (fun a => (win2_1.index (0 : Fin 1)) a * main_v4.ty.shape.size a) = fun _ => 0 :=
    funext fun a => by fin_cases a <;> decide
  have hr := fun f => Memref.read_access_unit_zero (Elt F) main_v4 hz (fun a => by fin_cases a <;> decide) f
  have ho : (win2_1.blk (0 : Fin 1)).view.read (Elt F) ((dat V c).arrAt (1 : Fin 2) cfg2.N) = outAt (slab V) c := by
    rw [show cfg2.N = ((0 : Fin 1) : Fin cfg2.N).val + 1 from rfl, (dat V c).arrAt_succ (1 : Fin 2) (0 : Fin 1)]
    rw [show (cfg2.win (1 : Fin 2)).flush (0 : Fin 1) = true from by decide, if_pos rfl]
    exact View.read_write_univ _ _
  exact (hr _).symm.trans ho

/-- The operand's array after the call. -/
theorem arr_in (c : Dev nD) : (dat V c).arrAt (0 : Fin 2) cfg2.N = V c (Proc.devRef .tc main_v3) := (dat V c).arrAt_in (0 : Fin 2) rfl _

end Cert.WholeProof.Plane

end
-- ==== Proof.Whole.Plane.Launch.lean ====
/-
# The call among the others

What the launch deals the devices for the call, how its own semaphores join when the call is entered, and what others
owe.
-/
module

public import proofs.«01_k».proof.Proof.Whole.Plane.Region
public import Idealize.ShloMosaic.Lib.SparseCore.Launch

@[expose] public section

noncomputable section

namespace Cert.WholeProof.Plane

open Cert.WholeIdeal Cert.WholeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation cellOf)

local notation "𝕄" => MT nD τ sig ℕ (Elt F) ℕ UU ℕ

variable (X : Dev nD → Slab F)

set_option maxRecDepth 100000

/-! ## The kernel's own semaphores, cells and tokens -/

/-- The fifteen cells whose semaphores are the kernel's own: all but the barrier's. -/
def ownCells : List Cell := [.cr, .cwS0, .cwS1, .cwS2, .cwR0, .cwR1, .cwR2, .ccwS0, .ccwS1, .ccwS2, .ccwS3, .ccwR0, .ccwR1, .ccwR2, .ccwR3]
abbrev osem (i : Fin 15) : SemLoc sig := csem (ownCells.get i)

theorem ownSemFacts : Pipeline.OwnSemFacts spec2 osem := by decide +kernel

/-- The tokens of one device's cells: each duty of each round. -/
def tokList : List (Cell × ℕ × Bool) :=
  [(.bar, 0, false), (.bar, 0, true), (.cwR0, 0, false), (.cwR0, 1, false), (.cwR1, 0, false), (.cwR2, 0, false),
   (.ccwR0, 0, false), (.ccwR1, 0, false), (.ccwR2, 0, false), (.ccwR3, 0, false), (.cr, 0, false),
   (.cwS0, 0, false), (.cwS0, 1, false), (.cwS1, 0, false), (.cwS2, 0, false),
   (.ccwS0, 0, false), (.ccwS1, 0, false), (.ccwS2, 0, false), (.ccwS3, 0, false)]
theorem tokList_nodup : tokList.Nodup := by decide

abbrev tokOf (ci : Dev nD × Fin 19) : GSem nD τ sig × ℕ × Bool := (cell ci.1 (tokList.get ci.2).1, (tokList.get ci.2).2)
theorem tokOf_injective : Function.Injective tokOf := by
  rintro ⟨c, i⟩ ⟨c', i'⟩ h
  have h1 : cell c (tokList.get i).1 = cell c' (tokList.get i').1 := by have := congrArg Prod.fst h; exact this
  have h2 : (tokList.get i).2 = (tokList.get i').2 := by have := congrArg Prod.snd h; exact this
  have h3 : (c, (tokList.get i).1) = (c', (tokList.get i').1) := by apply cell_injective; exact h1
  have h4 : tokList.get i = tokList.get i' := by
    refine Prod.ext ?_ h2
    have := congrArg Prod.snd h3; exact this
  rw [show c = c' from congrArg Prod.fst h3, tokList_nodup.injective_get h4]

/-- The barriers, open from the launch; the others, opened when the call is entered. -/
def bars : Finset (GSem nD τ sig) := Finset.univ.map ⟨fun c : Dev nD => cell c .bar, fun c c' h => congrArg Prod.fst (cell_injective (a₁ := (c, .bar)) (a₂ := (c', .bar)) h)⟩
def later : Finset Cell := Finset.univ.erase .bar
def owns_ : Finset (GSem nD τ sig) := (Finset.univ ×ˢ later).map ⟨fun ck : Dev nD × Cell => cell ck.1 ck.2, cell_injective⟩
def tokens : Finset (GSem nD τ sig × ℕ × Bool) := Finset.univ.map ⟨tokOf, tokOf_injective⟩

theorem apart_cells : Disjoint bars owns_ := Finset.disjoint_left.mpr fun g h h' => by
  obtain ⟨c, -, rfl⟩ := Finset.mem_map.mp h
  obtain ⟨ck, hck, e⟩ := Finset.mem_map.mp h'
  have e' : ck = (c, Cell.bar) := cell_injective e
  rw [e'] at hck
  exact absurd (Finset.mem_product.mp hck).2 (Finset.notMem_erase _ _)

theorem over_cells (Φ : Cell → sProp 𝕄) : bigSep Finset.univ Φ = bigSepL allCells Φ :=
  bigSep_univ_eq_bigSepL allCells rfl nodup_allCells Φ

/-- The tokens of device `c`'s own cells. -/
def toks (c : Dev nD) : sProp 𝕄 := bigSep Finset.univ fun i : Fin 19 => dutyTok ER (cell c (tokList.get i).1) (tokList.get i).2.1 (tokList.get i).2.2

theorem toks_eq (c : Dev nD) : toks (F := F) c = bigSepL [0, 1, 2, 3, 4, 5, 6, 7, 8, 9, 10, 11, 12, 13, 14, 15, 16, 17, 18]
    fun i : Fin 19 => dutyTok ER (cell c (tokList.get i).1) (tokList.get i).2.1 (tokList.get i).2.2 := by
  unfold toks; exact bigSep_univ_eq_bigSepL _ (by decide) (by decide) _

/-- The records but the levels. -/
def recs (K : Dev nD × Cell → ℕ) : sProp 𝕄 :=
  iprop((bigSep Finset.univ fun ck : Dev nD × Cell => cellInv ER (ringRd X) (K ck) (cell ck.1 ck.2))
    ∗ (bigSep Finset.univ fun b : Dev nD => reached ER (cell b .bar) 0))
instance recs_persistent (K : Dev nD × Cell → ℕ) : BI.Persistent (recs X K) := by unfold recs; infer_instance

/-- Its position at its barrier, and the rights to open its other cells. -/
def parked (c : Dev nD) : sProp 𝕄 := iprop(atPos ER (cell c .bar) 0 ∅ 0 ∗ bigSep later fun k => openTok ER (cell c k))
/-- What a device keeps until the call is entered. -/
def kept (c : Dev nD) : sProp 𝕄 := iprop(∃ K, recs X K ∗ pays c ∗ parked (F := F) c)

theorem ownSems0_eq (c : Dev nD) : (Pipeline.ownSems0 (Ix := ℕ) (Name := ℕ) (U := UU) (Lvl := ℕ) (Val := Elt F) (τ := τ) osem c : sProp 𝕄)
    = bigSepL ownCells fun k => semVal (cell c k) 0 := by
  rw [Pipeline.ownSems0_eq_of_list c osem [0, 1, 2, 3, 4, 5, 6, 7, 8, 9, 10, 11, 12, 13, 14] (by decide) (by decide)]; rfl
theorem over_later (Φ : Cell → sProp 𝕄) : bigSep later Φ = bigSepL ownCells Φ :=
  bigSep_eq_bigSepL_of_eq ownCells (by decide) (by decide) Φ
/-- All the counters at zero are the barrier's and the kernel's own. -/
theorem closed_eq (c : Dev nD) : closed (F := F) c
    = iprop(semVal (cell c .bar) 0 ∗ Pipeline.ownSems0 (Ix := ℕ) (Name := ℕ) (U := UU) (Lvl := ℕ) (Val := Elt F) (τ := τ) osem c) := by
  rw [ownSems0_eq]; rfl
theorem starts_eq (c : Dev nD) : starts (F := F) c = iprop(atPos ER (cell c .bar) 0 ∅ 0 ∗ bigSep later fun k => atPos ER (cell c k) 0 ∅ 0) := by
  rw [over_later]; rfl

/-! ## The tokens dealt around the cycle -/

theorem to_succ (f : Dev nD → sProp 𝕄) : bigSep Finset.univ f = bigSep Finset.univ fun c => f (succ c) := bigSep_univ_equiv cycle f
theorem to_pred (f : Dev nD → sProp 𝕄) : bigSep Finset.univ f = bigSep Finset.univ fun c => f (pred c) := bigSep_univ_equiv cycle.symm f

/-- A token of some cell, as a function of the device. -/
abbrev tokAt (k : Cell) (r : ℕ) (d : Bool) (c : Dev nD) : sProp 𝕄 := dutyTok ER (cell c k) r d

theorem toks_around : (bigSep Finset.univ fun c : Dev nD => (toks c : sProp 𝕄)) = bigSep Finset.univ fun c : Dev nD => pays c := by
  have e : (bigSep Finset.univ fun c : Dev nD => (toks c : sProp 𝕄)) = bigSep Finset.univ fun c : Dev nD =>
      iprop(tokAt .bar 0 false c ∗ tokAt .bar 0 true c ∗ tokAt .cwR0 0 false c ∗ tokAt .cwR0 1 false c ∗ tokAt .cwR1 0 false c ∗ tokAt .cwR2 0 false c
        ∗ tokAt .ccwR0 0 false c ∗ tokAt .ccwR1 0 false c ∗ tokAt .ccwR2 0 false c ∗ tokAt .ccwR3 0 false c ∗ tokAt .cr 0 false c
        ∗ tokAt .cwS0 0 false c ∗ tokAt .cwS0 1 false c ∗ tokAt .cwS1 0 false c ∗ tokAt .cwS2 0 false c
        ∗ tokAt .ccwS0 0 false c ∗ tokAt .ccwS1 0 false c ∗ tokAt .ccwS2 0 false c ∗ tokAt .ccwS3 0 false c) :=
    bigSep_congr fun c _ => by rw [toks_eq]; rfl
  rw [e]
  unfold pays
  simp only [bigSep_sep']
  rw [to_pred (tokAt .bar 0 false), to_succ (tokAt .bar 0 true), to_succ (tokAt .cwR0 0 false), to_succ (tokAt .cwR0 1 false), to_succ (tokAt .cwR1 0 false),
    to_succ (tokAt .cwR2 0 false), to_pred (tokAt .ccwR0 0 false), to_pred (tokAt .ccwR1 0 false), to_pred (tokAt .ccwR2 0 false), to_pred (tokAt .ccwR3 0 false),
    to_pred (tokAt .cr 0 false)]

theorem over_bars (Φ : GSem nD τ sig → sProp 𝕄) : bigSep bars Φ = bigSep Finset.univ fun c : Dev nD => Φ (cell c .bar) := by
  unfold bars; rw [bigSep_map]; rfl
theorem over_owns (Φ : GSem nD τ sig → sProp 𝕄) : bigSep owns_ Φ = bigSep Finset.univ fun c : Dev nD => bigSep later fun k => Φ (cell c k) := by
  unfold owns_; rw [bigSep_map, SparseCore.bigSep_product]; rfl
theorem over_all (Φ : GSem nD τ sig → sProp 𝕄) : bigSep (bars ∪ owns_) Φ = bigSep Finset.univ fun ck : Dev nD × Cell => Φ (cell ck.1 ck.2) := by
  refine (BI.bigSep_union apart_cells).trans ?_
  rw [over_bars, over_owns]
  refine (bigSep_sep' _ _ _).symm.trans ?_
  rw [bigSep_univ_prod]
  exact bigSep_congr fun c _ => (BI.bigSep_erase (Φ := fun k : Cell => Φ (cell c k)) (Finset.mem_univ Cell.bar)).symm

/-- What the launch gives the devices for the call, dealt among them. -/
theorem deal : iprop((bigSep Finset.univ fun c : Dev nD => semVal (cell c .bar) 0) ∗ BI.own (ER (launchOf bars owns_ tokens))) ⊢ |={Set.univ}=> bigSep Finset.univ (kept X) := by
  rw [← over_bars fun g => semVal g 0]
  iintro ⟨Hv, Hu⟩
  imod (Rounds.fund_launch (Es := Set.univ) ER (ringRd X) apart_cells (fun _ _ h => h) tokens ∅) $$ [Hv Hu] with ⟨%κ, -, HI, HR, Hat, Hop, Htok⟩
  · isplitl [Hv] <;> iassumption
  ihave Htok := (Entails.of_eq ((show bigSep tokens (fun x => (dutyTok ER x.1 x.2.1 x.2.2 : sProp 𝕄)) = bigSep Finset.univ fun c : Dev nD => toks c from by
    unfold tokens; rw [bigSep_map, bigSep_univ_prod]; rfl).trans toks_around)) $$ Htok
  ihave #HI := (Entails.of_eq (over_all fun g => cellInv ER (ringRd X) (κ g) g)) $$ HI
  ihave #HR := (Entails.of_eq (over_bars fun g => reached ER g 0)) $$ HR
  ihave Hat := (Entails.of_eq (over_bars fun g => atPos ER g 0 ∅ 0)) $$ Hat
  ihave Hop := (Entails.of_eq (over_owns fun g => openTok ER g)) $$ Hop
  imodintro
  iapply (with_persistent (R := recs X (fun ck => κ (cell ck.1 ck.2))) (Φ := fun c => iprop(pays c ∗ parked (F := F) c)) fun c _ => show _ ⊢ kept X c from by
    unfold kept; iintro H; iexists (fun ck => κ (cell ck.1 ck.2)); iexact H)
  isplitr
  · unfold recs
    isplitl; · iexact HI
    iexact HR

  · unfold parked
    simp only [bigSep_sep']
    isplitl [Htok]; · iexact Htok
    isplitl [Hat] <;> iassumption

/-! ## Entering the call -/

theorem opens_intro (c : Dev nD) : (bigSep later fun k => reached ER (cell c k) 0 : sProp 𝕄) ⊢ opens (F := F) c := by
  rw [over_later]
  unfold opens openCw openCcw
  iintro H
  ihave H := (show (bigSepL ownCells fun k => reached ER (cell c k) 0 : sProp 𝕄) ⊢ iprop(reached ER (cell c .cr) 0
    ∗ reached ER (cell c .cwS0) 0 ∗ reached ER (cell c .cwS1) 0 ∗ reached ER (cell c .cwS2) 0
    ∗ reached ER (cell c .cwR0) 0 ∗ reached ER (cell c .cwR1) 0 ∗ reached ER (cell c .cwR2) 0
    ∗ reached ER (cell c .ccwS0) 0 ∗ reached ER (cell c .ccwS1) 0 ∗ reached ER (cell c .ccwS2) 0 ∗ reached ER (cell c .ccwS3) 0
    ∗ reached ER (cell c .ccwR0) 0 ∗ reached ER (cell c .ccwR1) 0 ∗ reached ER (cell c .ccwR2) 0 ∗ reached ER (cell c .ccwR3) 0) from .rfl) $$ H
  icases H with ⟨#A, #B0, #B1, #B2, #C0, #C1, #C2, #D0, #D1, #D2, #D3, #E0, #E1, #E2, #E3⟩
  isplitr
  · isplitr
    · isplitr; · iexact C0
      isplitr <;> iassumption
    isplitr; · iexact E0
    isplitr; · iexact E1
    isplitr; · iexact E2
    isplitr <;> iassumption
  isplitr; · iexact B0
  isplitr; · iexact B1
  isplitr; · iexact B2
  isplitr; · iexact D0
  isplitr; · iexact D1
  isplitr <;> iassumption

/-- The kernel's own semaphores join their cells. -/
theorem open_all (K : Dev nD × Cell → ℕ) (c : Dev nD) : iprop(recs X K ∗ bigSep later fun k => iprop(openTok ER (cell c k) ∗ semVal (cell c k) 0))
    ⊢ |={Set.univ}=> bigSep later fun k => iprop(atPos ER (cell c k) 0 ∅ 0 ∗ reached ER (cell c k) 0) :=
  (with_persistent fun k _ => show _ ⊢ iprop(|={Set.univ}=> (atPos ER (cell c k) 0 ∅ 0 ∗ reached ER (cell c k) 0)) from by
    unfold recs
    iintro ⟨⟨HI, -⟩, Ho, Hv⟩
    ihave Hc := (show _ ⊢ _ from bigSep_elim (Finset.mem_univ (c, k))) $$ HI
    iapply (Rounds.cell_open ER (ringRd X) (g := cell c k) (Set.mem_univ (K (c, k))))
    isplitl [Hc]; · iexact Hc
    isplitl [Ho] <;> iassumption).trans (bigSep_fupd _ _)

theorem enter (V : Dev nD → Valuation τ sig (Elt F)) (c : Dev nD) :
    iprop((kept (slab V) c ∗ dueTo (F := F) c) ∗ Pipeline.ownSems0 (Ix := ℕ) (Name := ℕ) (U := UU) (Lvl := ℕ) (Val := Elt F) (τ := τ) osem c
        ∗ levAts (SiteBlocks.L levels) SiteBlocks.lv) ⊢ |={Set.univ}=> start V c := by
  rw [ownSems0_eq, ← over_later]
  unfold kept parked start
  iintro ⟨⟨⟨%K, #HR, HT, ⟨Hb, Ho⟩⟩, HD⟩, Hs, Hl⟩
  imod (open_all (slab V) K c) $$ [Ho Hs] with H
  · isplitr; · iexact HR
    rw [bigSep_sep']
    isplitl [Ho] <;> iassumption
  ihave H := (Entails.of_eq (bigSep_sep' later (fun k => (atPos ER (cell c k) 0 ∅ 0 : sProp 𝕄)) (fun k => reached ER (cell c k) 0))) $$ H
  icases H with ⟨Ha, Hr⟩
  ihave Hr := (opens_intro (F := F) c) $$ Hr
  imodintro
  isplitr [HD]
  · iexists K
    isplitl [Hl]
    · unfold recs records levs
      icases HR with ⟨H1, H2⟩
      isplitr; · iexact H1
      isplitr; · iexact H2

      iexact Hl
    isplitl [Hr]; · iexact Hr
    isplitl [HT]; · iexact HT

    rw [starts_eq]; isplitl [Hb] <;> iassumption

  iexact HD

/-! ## The launch credit -/

/-- The payments to device `c`'s own cells. -/
abbrev owed (c : Dev nD) : List (TalkSites.Pay nD τ sig) :=
  [(cell c .bar, 12, 1), (cell c .bar, 12, 1), (cell c .cwR0, 13, N), (cell c .ccwR0, 13, N), (cell c .cwR1, 14, N), (cell c .ccwR1, 14, N),
   (cell c .cr, 15, 1), (cell c .cwR2, 16, N), (cell c .ccwR2, 16, N), (cell c .cwR0, 17, H), (cell c .ccwR3, 17, H)]

theorem owed_here (c : Dev nD) : ∀ x ∈ owed c, x.1.1 = (c.tc : Thread nD τ) := fun x hx => by
  simp only [List.mem_cons, List.not_mem_nil, or_false] at hx
  rcases hx with rfl | rfl | rfl | rfl | rfl | rfl | rfl | rfl | rfl | rfl | rfl <;> rfl

theorem sum_succ (f : Dev nD → CellTallies nD τ sig ℕ) : ∑ c, f (succ c) = ∑ c, f c := Equiv.sum_comp cycle f
theorem sum_pred (f : Dev nD → CellTallies nD τ sig ℕ) : ∑ c, f (pred c) = ∑ c, f c := Equiv.sum_comp cycle.symm f

/-- A payment's tally, as a function of the device. -/
abbrev tal (k : Cell) (i n : ℕ) (c : Dev nD) : CellTallies nD τ sig ℕ := tallyAt (cell c k) i n

theorem sum_owed : (∑ d, TalkSites.tallyL (dues d) : CellTallies nD τ sig ℕ) = ∑ d, TalkSites.tallyL (owed d) := by
  show (∑ d, (tal .bar 12 1 (pred d) + (tal .bar 12 1 (succ d) + (tal .cwR0 13 N (succ d) + (tal .ccwR0 13 N (pred d) + (tal .cwR1 14 N (succ d) + (tal .ccwR1 14 N (pred d)
      + (tal .cr 15 1 (pred d) + (tal .cwR2 16 N (succ d) + (tal .ccwR2 16 N (pred d) + (tal .cwR0 17 H (succ d) + (tal .ccwR3 17 H (pred d) + 0)))))))))))
    : CellTallies nD τ sig ℕ)
    = ∑ d, (tal .bar 12 1 d + (tal .bar 12 1 d + (tal .cwR0 13 N d + (tal .ccwR0 13 N d + (tal .cwR1 14 N d + (tal .ccwR1 14 N d
      + (tal .cr 15 1 d + (tal .cwR2 16 N d + (tal .ccwR2 16 N d + (tal .cwR0 17 H d + (tal .ccwR3 17 H d + 0)))))))))))
  simp only [Finset.sum_add_distrib]
  rw [sum_pred (tal .bar 12 1), sum_succ (tal .bar 12 1), sum_succ (tal .cwR0 13 N), sum_pred (tal .ccwR0 13 N), sum_succ (tal .cwR1 14 N), sum_pred (tal .ccwR1 14 N),
    sum_pred (tal .cr 15 1), sum_succ (tal .cwR2 16 N), sum_pred (tal .ccwR2 16 N), sum_succ (tal .cwR0 17 H), sum_pred (tal .ccwR3 17 H)]

theorem creds (c : Dev nD) : (cred (TalkSites.tallyL (owed c)) : sProp 𝕄) ⊢ dueTo c := by
  rw [TalkSites.cred_tallyL]
  unfold dueTo
  iintro H
  ihave H := (show (bigSepL (owed c) fun x => cred x.tally : sProp 𝕄) ⊢ iprop(cred (tal .bar 12 1 c) ∗ cred (tal .bar 12 1 c) ∗ cred (tal .cwR0 13 N c)
      ∗ cred (tal .ccwR0 13 N c) ∗ cred (tal .cwR1 14 N c) ∗ cred (tal .ccwR1 14 N c) ∗ cred (tal .cr 15 1 c) ∗ cred (tal .cwR2 16 N c) ∗ cred (tal .ccwR2 16 N c)
      ∗ cred (tal .cwR0 17 H c) ∗ cred (tal .ccwR3 17 H c)) from Entails.of_eq rfl) $$ H
  icases H with ⟨H1, H2, H3, H4, H5, H6, H7, H8, H9, H10, H11⟩
  isplitl [H1 H2]
  · rw [show (tallyAt (cell c .bar) 12 2 : CellTallies nD τ sig ℕ) = tallyAt (cell c .bar) 12 1 + tallyAt (cell c .bar) 12 1 from (tallyAt_add _ _ 1 1).symm]
    iapply (cred_add (tallyAt (cell c .bar) 12 1) (tallyAt (cell c .bar) 12 1)).2
    isplitl [H1] <;> iassumption
  isplitl [H7]; · iexact H7
  isplitl [H3]; · iexact H3
  isplitl [H10]; · iexact H10
  isplitl [H5]; · iexact H5
  isplitl [H8]; · iexact H8
  isplitl [H4]; · iexact H4
  isplitl [H6]; · iexact H6
  isplitl [H9]; · iexact H9
  iexact H11

/-! A scratch buffer whole is its three slots. -/

theorem scratch_eq_cw (c : Dev nD) :
    (iprop(∃ f : Buf (Elt F) ((c : Thread nD τ).loc cc2_scratch0), ((c : Thread nD τ).loc cc2_scratch0) ↦{fullShare} f) : sProp 𝕄) = scratch (F := F) c cwM := by
  rw [show (iprop(∃ f : Buf (Elt F) ((c : Thread nD τ).loc cc2_scratch0), ((c : Thread nD τ).loc cc2_scratch0) ↦{fullShare} f) : sProp 𝕄)
    = iprop(∃ f, (cwM.view.loc (c : Thread nD τ) ↦[cwM.view.set]{fullShare} f)) from by rw [show cwM.view.set = Finset.univ from View.set_whole _]]
  exact BI.Entails.antisymm (any_thirds cwM c) (of_thirds cwM c)

theorem scratch_eq_ccw (c : Dev nD) :
    (iprop(∃ f : Buf (Elt F) ((c : Thread nD τ).loc cc2_scratch1), ((c : Thread nD τ).loc cc2_scratch1) ↦{fullShare} f) : sProp 𝕄) = scratch (F := F) c ccwM := by
  rw [show (iprop(∃ f : Buf (Elt F) ((c : Thread nD τ).loc cc2_scratch1), ((c : Thread nD τ).loc cc2_scratch1) ↦{fullShare} f) : sProp 𝕄)
    = iprop(∃ f, (ccwM.view.loc (c : Thread nD τ) ↦[ccwM.view.set]{fullShare} f)) from by rw [show ccwM.view.set = Finset.univ from View.set_whole _]]
  exact BI.Entails.antisymm (any_thirds ccwM c) (of_thirds ccwM c)

/-! ## Into the body and out of it -/

theorem phi_in (V : Dev nD → Valuation τ sig (Elt F)) (c : Dev nD) :
    iprop(Pipeline.scopedRest spec2 c ∗ (∃ r, prngReg c r) ∗ start V c) ⊢ (dat V c).Φ 0 := by
  rw [show (dat V c).Φ 0 = Φ₀ V c from rfl, scopedRest2_eq, scratch_eq_cw, scratch_eq_ccw]
  unfold Φ₀ apart
  iintro ⟨⟨H0, H1, H2, H3, H4, H5, H6, H7, H8, H9⟩, Hp, Hs⟩
  isplitl [Hp H0 H1 H2 H3 H4 H5 H6 H9]
  · isplitl [Hp]; · iexact Hp
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H9
  isplitl [Hs]; · iexact Hs
  isplitl [H7] <;> iassumption

theorem phi_out (V : Dev nD → Valuation τ sig (Elt F)) (c : Dev nD) :
    (dat V c).Φ (Fin.last cfg2.N) ⊢ iprop(Pipeline.scopedRest spec2 c ∗ (∃ r, prngReg c r)
      ∗ Pipeline.ownSems0 (Ix := ℕ) (Name := ℕ) (U := UU) (Lvl := ℕ) (Val := Elt F) (τ := τ) osem c ∗ semVal (cell c .bar) 0) := by
  rw [show (dat V c).Φ (Fin.last cfg2.N) = Φ₁ c from rfl, scopedRest2_eq, scratch_eq_cw, scratch_eq_ccw]
  unfold Φ₁ apart
  rw [closed_eq]
  iintro ⟨⟨Hp, H0, H1, H2, H3, H4, H5, H6, H9⟩, ⟨Hb, Ho⟩, H7, H8⟩
  isplitr [Hp Ho Hb]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [Hp]; · iexact Hp
  isplitl [Ho] <;> iassumption

end Cert.WholeProof.Plane

end
-- ==== Proof.Whole.Calls.Contents.lean ====
/-
# What the buffers hold between the calls

The contents each call leaves, in closed form, and the arrays' contents along the program.
-/
module

public import proofs.«01_k».proof.Proof.Whole.Gather.Call
public import proofs.«01_k».proof.Proof.Whole.Ring.Launch
public import proofs.«01_k».proof.Proof.Whole.Plane.Launch

@[expose] public section

noncomputable section

namespace Cert.WholeProof

open Cert.WholeIdeal Cert.WholeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig ℕ (Elt F) ℕ UU ℕ

variable (m : (ℓ : Loc nD τ sig) → Buf (Elt F) ℓ)

set_option maxRecDepth 100000

/-- The rows each device gathers, -/
def gathered (c : Dev nD) : S512x2048.Idx → Elt F .bf16 :=
  Gather.slabOf c (m ((c : Thread nD τ).loc main_arg0) : Gather.Ids F) (m ((c : Thread nD τ).loc main_arg1) : Gather.Tab F)
/-- their sums over the rings, -/
def summed (c : Dev nD) : S512x2048.Idx → Elt F .bf16 := Ring.outAt (gathered m) c
/-- and the planes' slabs together. -/
def joined (c : Dev nD) : S4096x2048.Idx → Elt F .bf16 := Plane.outAt (summed m) c

/-- What the calls leave in their results. -/
def outs : Outs (F := F) := fun _ r c =>
  if h : r = main_v2 then h ▸ gathered m c
  else if h : r = main_v3 then h ▸ summed m c
  else if h : r = main_v4 then h ▸ joined m c
  else m ((c : Thread nD τ).loc r)

theorem outs_v2 (c : Dev nD) : outs m 2 main_v2 c = gathered m c := dif_pos rfl
theorem outs_v3 (c : Dev nD) : outs m 3 main_v3 c = summed m c := (dif_neg (by decide)).trans (dif_pos rfl)
theorem outs_v4 (c : Dev nD) : outs m 4 main_v4 c = joined m c :=
  (dif_neg (by decide)).trans ((dif_neg (by decide)).trans (dif_pos rfl))

theorem V1_col (c : Dev nD) : V1 m c (Proc.devRef .tc main_v1) = Gather.colm (V1 m) c := by
  have h : Gather.toks (V1 m) c = m ((c : Thread nD τ).loc main_arg0) := V1_of m c main_arg0 (by decide)
  unfold Gather.colm
  rw [h]
  show StableHlo.after hostOps0 (fun b => m (c, b)) (Proc.devRef .tc main_v1) = _
  simp only [hostOps0]
  after_results_simp <;> rfl

theorem V2_v2 (c : Dev nD) : V2 m (outs m) c (Proc.devRef .tc main_v2) = Gather.slabOf c (Gather.toks (V1 m) c) (Gather.tabl (V1 m) c) := by
  rw [show Gather.toks (V1 m) c = m ((c : Thread nD τ).loc main_arg0) from V1_of m c main_arg0 (by decide),
    show Gather.tabl (V1 m) c = m ((c : Thread nD τ).loc main_arg1) from V1_of m c main_arg1 (by decide)]
  exact (Function.update_self _ _ _).trans (outs_v2 m c)
theorem slab_ring : Ring.slab (V2 m (outs m)) = gathered m :=
  funext fun c => (Function.update_self _ _ _).trans (outs_v2 m c)
theorem V3_v3 (c : Dev nD) : V3 m (outs m) c (Proc.devRef .tc main_v3) = Ring.outAt (Ring.slab (V2 m (outs m))) c := by
  rw [slab_ring]; exact (Function.update_self _ _ _).trans (outs_v3 m c)
theorem slab_plane : Plane.slab (V3 m (outs m)) = summed m :=
  funext fun c => (Function.update_self _ _ _).trans (outs_v3 m c)
theorem V4_v4 (c : Dev nD) : V4 m (outs m) c (Proc.devRef .tc main_v4) = Plane.outAt (Plane.slab (V3 m (outs m))) c := by
  rw [slab_plane]; exact (Function.update_self _ _ _).trans (outs_v4 m c)

/-- The program's result: the joined slabs, each entry a wider float. -/
theorem V5_v5 (c : Dev nD) : V5 m (outs m) c (Proc.devRef .tc main_v5) = extf .f32 (joined m c) bitsLt_bf16_f32 := by
  have h : V4 m (outs m) c (Proc.devRef .tc main_v4) = joined m c := (Function.update_self _ _ _).trans (outs_v4 m c)
  rw [← h]
  show StableHlo.after hostOps3 (V4 m (outs m) c) (Proc.devRef .tc main_v5) = _
  generalize V4 m (outs m) c = W
  simp only [hostOps3]
  after_results_simp <;> rfl

/-! ## What is owed along the program -/

abbrev planeDues (c : Dev nD) : List (TalkSites.Pay nD τ sig) := Plane.dues c
abbrev allDues (c : Dev nD) : List (TalkSites.Pay nD τ sig) := Ring.dues c (planeDues c)

theorem plane_above (c : Dev nD) : AllAbove 11 (planeDues c) := by
  repeat first | exact allAbove_nil _ | refine allAbove_cons (by decide) ?_
theorem all_above (c : Dev nD) : AllAbove 0 (allDues c) := by
  repeat first | exact (plane_above c).below (by decide) | refine allAbove_cons (by decide) ?_
theorem all_eq (c : Dev nD) : (TalkSites.tallyL (allDues c) : CellTallies nD τ sig ℕ) = TalkSites.tallyL (planeDues c) + TalkSites.tallyL (Ring.dues c []) := by
  rw [add_comm, ← TalkSites.tallyL_append]; rfl

/-- The three calls' data. -/
def pdats : (p : Fin 3) → (c : Dev nD) → Dat τ (Elt F) ℕ ℕ UU ℕ (cfgs p) c
  | ⟨0, _⟩, c => Gather.dat (V1 m) allDues c
  | ⟨1, _⟩, c => Ring.dat (V2 m (outs m)) planeDues c
  | ⟨2, _⟩, c => Plane.dat (V3 m (outs m)) c
  | ⟨_ + 3, h⟩, _ => absurd h (Nat.not_lt.2 (Nat.le_add_left _ _))

end Cert.WholeProof

end
-- ==== Proof.Whole.Calls.Segments.lean ====
/-
# The three calls as segments

Each call's record: what it is entered with and what it leaves, with the segments' other buffers and the later calls'
ghost state riding along.
-/
module

public import proofs.«01_k».proof.Proof.Whole.Calls.Contents
public import Idealize.ShloMosaic.Lib.Pipeline.RegionTalk

@[expose] public section

noncomputable section

namespace Cert.WholeProof

open Cert.WholeIdeal Cert.WholeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig ℕ (Elt F) ℕ UU ℕ

variable (m : (ℓ : Loc nD τ sig) → Buf (Elt F) ℓ)

set_option maxRecDepth 100000

/-- What a device keeps for the ring and for the plane until they are entered. -/
def ringTk (c : Dev nD) : sProp 𝕄 := iprop(Ring.kept (gathered m) c ∗ Ring.dueTo (F := F) c)
def planeTk (c : Dev nD) : sProp 𝕄 := iprop(Plane.kept (summed m) c ∗ Plane.dueTo (F := F) c)
abbrev bar0 (c : Dev nD) : sProp 𝕄 := semVal (Ring.cell c .bar) 0
abbrev bar1 (c : Dev nD) : sProp 𝕄 := semVal (Plane.cell c .bar) 0

theorem ring_open (c : Dev nD) : iprop(ringTk m c ∗ Pipeline.ownSems0 (Ix := ℕ) (Name := ℕ) (U := UU) (Lvl := ℕ) (Val := Elt F) (τ := τ) Ring.osem c
    ∗ levAts (SiteBlocks.L levels) SiteBlocks.lv) ⊢ |={Set.univ}=> Ring.start (V2 m (outs m)) c := by
  have h := Ring.enter (V2 m (outs m)) c
  rw [slab_ring] at h
  exact h
theorem plane_open (c : Dev nD) : iprop(planeTk m c ∗ Pipeline.ownSems0 (Ix := ℕ) (Name := ℕ) (U := UU) (Lvl := ℕ) (Val := Elt F) (τ := τ) Plane.osem c
    ∗ levAts (SiteBlocks.L levels) SiteBlocks.lv) ⊢ |={Set.univ}=> Plane.start (V3 m (outs m)) c := by
  have h := Plane.enter (V3 m (outs m)) c
  rw [slab_plane] at h
  exact h

/-- A buffer of the others is no window's array. -/
theorem ne_arr {b : DevRef τ sig} {r W : ℕ} {spec : Fin W → Pipeline.WinSpec sig r} {T : Finset (DevRef τ sig)} {x : DevRef τ sig}
    (hx : x ∈ Pipeline.arrRefs spec) (hb : b ∈ others spec \ T) : b ≠ x := fun e =>
  (Finset.mem_sdiff.mp (Finset.mem_sdiff.mp hb).1).2 (e ▸ hx)

theorem held_none (c : Dev nD) (W : Valuation τ sig (Elt F)) :
    (StableHlo.held (Ix := ℕ) (Name := ℕ) (U := UU) (Lvl := ℕ) (c : Thread nD τ) ∅ W : sProp 𝕄) = BI.emp := by
  unfold StableHlo.held; exact BI.bigSep_empty

/-- What no call writes, `H0` among them, is held alike before and after the gather. -/
theorem H0_same (c : Dev nD) : (StableHlo.held (Ix := ℕ) (Name := ℕ) (U := UU) (Lvl := ℕ) (c : Thread nD τ) Gather.H0 (V1 m c) : sProp 𝕄)
    = StableHlo.held (c : Thread nD τ) Gather.H0 (V2 m (outs m) c) :=
  StableHlo.held_congr _ fun b hb => by
    rw [Finset.mem_singleton.mp hb]
    exact (V2_of m (outs m) c main_arg1 (by decide)).symm

theorem gather_out (c : Dev nD) : (Gather.dat (V1 m) allDues c).Φ (Fin.last cfg0.N) ⊢ iprop(Pipeline.scopedRest spec0 c ∗ (∃ r, prngReg c r)
    ∗ StableHlo.held (c : Thread nD τ) Gather.H0 (V2 m (outs m) c)
    ∗ Pipeline.ownSems0 (Ix := ℕ) (Name := ℕ) (U := UU) (Lvl := ℕ) (Val := Elt F) (τ := τ) Gather.osem c ∗ emp) := by
  rw [← H0_same]; exact Gather.phi_out (V1 m) allDues c

theorem ring_in (c : Dev nD) : iprop(Pipeline.scopedRest spec1 c ∗ (∃ r, prngReg c r) ∗ StableHlo.held (c : Thread nD τ) ∅ (V2 m (outs m) c)
    ∗ Ring.start (V2 m (outs m)) c) ⊢ (Ring.dat (V2 m (outs m)) planeDues c).Φ 0 := by
  refine .trans ?_ (Ring.phi_in (V2 m (outs m)) planeDues c)
  iintro ⟨Hs, Hp, -, H⟩
  isplitl [Hs]; · iexact Hs
  isplitl [Hp] <;> iassumption
theorem ring_out (c : Dev nD) : (Ring.dat (V2 m (outs m)) planeDues c).Φ (Fin.last cfg1.N) ⊢ iprop(Pipeline.scopedRest spec1 c ∗ (∃ r, prngReg c r)
    ∗ StableHlo.held (c : Thread nD τ) ∅ (V3 m (outs m) c)
    ∗ Pipeline.ownSems0 (Ix := ℕ) (Name := ℕ) (U := UU) (Lvl := ℕ) (Val := Elt F) (τ := τ) Ring.osem c ∗ bar0 c) := by
  refine (Ring.phi_out (V2 m (outs m)) planeDues c).trans ?_
  rw [held_none]
  iintro ⟨Hs, Hp, Ho, Hb⟩
  isplitl [Hs]; · iexact Hs
  isplitl [Hp]; · iexact Hp
  isplitr; · iempintro
  isplitl [Ho] <;> iassumption
theorem plane_in (c : Dev nD) : iprop(Pipeline.scopedRest spec2 c ∗ (∃ r, prngReg c r) ∗ StableHlo.held (c : Thread nD τ) ∅ (V3 m (outs m) c)
    ∗ Plane.start (V3 m (outs m)) c) ⊢ (Plane.dat (V3 m (outs m)) c).Φ 0 := by
  refine .trans ?_ (Plane.phi_in (V3 m (outs m)) c)
  iintro ⟨Hs, Hp, -, H⟩
  isplitl [Hs]; · iexact Hs
  isplitl [Hp] <;> iassumption
theorem plane_out (c : Dev nD) : (Plane.dat (V3 m (outs m)) c).Φ (Fin.last cfg2.N) ⊢ iprop(Pipeline.scopedRest spec2 c ∗ (∃ r, prngReg c r)
    ∗ StableHlo.held (c : Thread nD τ) ∅ (V4 m (outs m) c)
    ∗ Pipeline.ownSems0 (Ix := ℕ) (Name := ℕ) (U := UU) (Lvl := ℕ) (Val := Elt F) (τ := τ) Plane.osem c ∗ bar1 c) := by
  refine (Plane.phi_out (V3 m (outs m)) c).trans ?_
  rw [held_none]
  iintro ⟨Hs, Hp, Ho, Hb⟩
  isplitl [Hs]; · iexact Hs
  isplitl [Hp]; · iexact Hp
  isplitr; · iempintro
  isplitl [Ho] <;> iassumption

/-! ## The arrays after each call -/

theorem arr0 (c : Dev nD) (w : Fin 3) : (Gather.dat (V1 m) allDues c).arrAt w cfg0.N = V2 m (outs m) c (Proc.devRef .tc (Pipeline.arrRef spec0 w)) := by
  fin_cases w
  · exact (Gather.arr_toks (V1 m) allDues c).trans (V2_of m (outs m) c main_arg0 (by decide)).symm
  · exact (Gather.arr_col (V1 m) allDues c).trans (V2_of m (outs m) c main_v1 (by decide)).symm
  · exact (Gather.arr_out (V1 m) allDues c).trans (V2_v2 m c).symm
theorem arr1 (c : Dev nD) (w : Fin 2) : (Ring.dat (V2 m (outs m)) planeDues c).arrAt w cfg1.N = V3 m (outs m) c (Proc.devRef .tc (Pipeline.arrRef spec1 w)) := by
  fin_cases w
  · exact (Ring.arr_in (V2 m (outs m)) planeDues c).trans (V3_of m (outs m) c main_v2 (by decide)).symm
  · exact (Ring.arr_out (V2 m (outs m)) planeDues c).trans (V3_v3 m c).symm
theorem arr2 (c : Dev nD) (w : Fin 2) : (Plane.dat (V3 m (outs m)) c).arrAt w cfg2.N = V4 m (outs m) c (Proc.devRef .tc (Pipeline.arrRef spec2 w)) := by
  fin_cases w
  · exact (Plane.arr_in (V3 m (outs m)) c).trans (V4_of m (outs m) c main_v3 (by decide)).symm
  · exact (Plane.arr_out (V3 m (outs m)) c).trans (V4_v4 m c).symm

theorem cut1 (c : Dev nD) (t : Fin (cfg1.N + 1)) (g : GSem nD τ sig) (i : ℕ) (h : 0 < (Ring.dat (V2 m (outs m)) planeDues c).owed t g i) :
    i ∈ SiteBlocks.L levels g ∧ 0 < SiteBlocks.lv g i := by
  rcases t with ⟨_ | _, ht⟩
  · exact cut (all_above c) h
  · exact cut ((plane_above c).below (by decide)) h
theorem cut2 (c : Dev nD) (t : Fin (cfg2.N + 1)) (g : GSem nD τ sig) (i : ℕ) (h : 0 < (Plane.dat (V3 m (outs m)) c).owed t g i) :
    i ∈ SiteBlocks.L levels g ∧ 0 < SiteBlocks.lv g i := by
  rcases t with ⟨_ | _, ht⟩
  · exact cut ((plane_above c).below (by decide)) h
  · exact absurd h (Nat.lt_irrefl 0)

/-! ## The records -/

set_option backward.isDefEq.respectTransparency.types false in
def reg0 : Pipeline.RegionSeg (pcfgs (F := F)) adm (pdats m) 0 defs₀ 𝒱₀ (SiteBlocks.L levels) SiteBlocks.lv 0 :=
  Pipeline.RegionSeg.ofTalk (pcfgs (F := F)) adm (pdats m) 0 defs₀ 𝒱₀ (SiteBlocks.L levels) SiteBlocks.lv 0 Gather.osem Gather.ownSemFacts
    Gather.H0 (others spec0) Gather.H0_sub launch0.toP rfl (fun c => (Gather.body_obligation (V1 m) allDues all_above (V1_col m) c).loose)
    (fun c => TalkSites.tallyL (allDues c)) (fun _ => 0) (fun c => (add_zero _).symm) (fun _ => rfl) (fun _ => rfl) (fun c w => Gather.share_eq (V1 m) allDues c w)
    (V1 m) (V2 m (outs m)) (fun c b hb => Function.update_of_ne (ne_arr (by decide) hb) _ _)
    (fun _ => iprop(emp)) (fun _ => iprop(emp)) (fun c => iprop(Pipeline.ownSems0 Gather.osem c ∗ levs (F := F))) (fun _ => iprop(emp))
    (fun c => by iintro ⟨-, Ho, Hl⟩; imodintro; unfold levs; isplitl [Ho] <;> iassumption)
    (fun c => Gather.phi_in (V1 m) allDues c) (fun c => gather_out m c)
    (fun c => fupd_intro)
    (fun _ => 0) ⟨fun c w s => SiteBlocks.mem_L c _ (by decide), fun c w s => Nat.le_refl _, fun c t g i h => cut (all_above c) h⟩
    (fun c => iprop(ringTk m c ∗ planeTk m c))
    (fun c w => rfl) (fun c w => arr0 m c w)

set_option backward.isDefEq.respectTransparency.types false in
def reg1 : Pipeline.RegionSeg (pcfgs (F := F)) adm (pdats m) 0 defs₀ 𝒱₀ (SiteBlocks.L levels) SiteBlocks.lv 1 :=
  Pipeline.RegionSeg.ofTalk (pcfgs (F := F)) adm (pdats m) 0 defs₀ 𝒱₀ (SiteBlocks.L levels) SiteBlocks.lv 1 Ring.osem Ring.ownSemFacts
    ∅ (others spec1) (Finset.empty_subset _) launch1.toP rfl (fun c => (Ring.body_obligation (V2 m (outs m)) planeDues plane_above c).loose)
    (fun c => TalkSites.tallyL (planeDues c)) (fun c => TalkSites.tallyL (Ring.dues c [])) all_eq (fun _ => rfl) (fun _ => rfl) (fun c w => Ring.share_eq (V2 m (outs m)) planeDues c w)
    (V2 m (outs m)) (V3 m (outs m)) (fun c b hb => Function.update_of_ne (ne_arr (by decide) hb) _ _)
    (ringTk m) bar0 (Ring.start (V2 m (outs m))) bar0
    (fun c => ring_open m c)
    (fun c => ring_in m c) (fun c => ring_out m c)
    (fun c => fupd_intro)
    (fun _ => 0) ⟨fun c w s => SiteBlocks.mem_L c _ (by decide), fun c w s => Nat.le_refl _, fun c t g i h => cut1 m c t g i h⟩
    (planeTk m)
    (fun c w => rfl) (fun c w => arr1 m c w)

set_option backward.isDefEq.respectTransparency.types false in
def reg2 : Pipeline.RegionSeg (pcfgs (F := F)) adm (pdats m) 0 defs₀ 𝒱₀ (SiteBlocks.L levels) SiteBlocks.lv 2 :=
  Pipeline.RegionSeg.ofTalk (pcfgs (F := F)) adm (pdats m) 0 defs₀ 𝒱₀ (SiteBlocks.L levels) SiteBlocks.lv 2 Plane.osem Plane.ownSemFacts
    ∅ (others spec2) (Finset.empty_subset _) launch2.toP rfl (fun c => (Plane.body_obligation (V3 m (outs m)) c).loose)
    (fun _ => 0) (fun c => TalkSites.tallyL (planeDues c)) (fun c => (zero_add _).symm) (fun _ => rfl) (fun _ => rfl) (fun c w => Plane.share_eq (V3 m (outs m)) c w)
    (V3 m (outs m)) (V4 m (outs m)) (fun c b hb => Function.update_of_ne (ne_arr (by decide) hb) _ _)
    (planeTk m) bar1 (Plane.start (V3 m (outs m))) bar1
    (fun c => plane_open m c)
    (fun c => plane_in m c) (fun c => plane_out m c)
    (fun c => fupd_intro)
    (fun _ => 0) ⟨fun c w s => SiteBlocks.mem_L c _ (by decide), fun c w s => Nat.le_refl _, fun c t g i h => cut2 m c t g i h⟩
    (fun c => bar0 (F := F) c)
    (fun c w => rfl) (fun c w => arr2 m c w)

/-! ## The states between the segments -/

abbrev prng (c : Dev nD) : sProp 𝕄 := iprop(∃ r, prngReg c r)

/-- What stands beside the buffers: before the gather and after it, after the ring, after the plane. -/
def E (j : Fin 4) (c : Dev nD) : sProp 𝕄 := match j with
  | ⟨0, _⟩ => iprop(prng c ∗ (ringTk m c ∗ planeTk m c) ∗ due (F := F) c (allDues c))
  | ⟨1, _⟩ => iprop(prng c ∗ (ringTk m c ∗ planeTk m c) ∗ due (F := F) c (allDues c))
  | ⟨2, _⟩ => iprop(prng c ∗ (bar0 (F := F) c ∗ planeTk m c) ∗ due (F := F) c (planeDues c))
  | ⟨_ + 3, _⟩ => iprop(prng c ∗ (bar0 (F := F) c ∗ bar1 (F := F) c) ∗ due (F := F) c [])

theorem E_0 (c : Dev nD) : E m 0 c = iprop(prng c ∗ (ringTk m c ∗ planeTk m c) ∗ due (F := F) c (allDues c)) := rfl
theorem E_1 (c : Dev nD) : E m 1 c = iprop(prng c ∗ (ringTk m c ∗ planeTk m c) ∗ due (F := F) c (allDues c)) := rfl
theorem E_2 (c : Dev nD) : E m 2 c = iprop(prng c ∗ (bar0 (F := F) c ∗ planeTk m c) ∗ due (F := F) c (planeDues c)) := rfl
theorem E_3 (c : Dev nD) : E m 3 c = iprop(prng c ∗ (bar0 (F := F) c ∗ bar1 (F := F) c) ∗ due (F := F) c []) := rfl

theorem arr_sub0 : Pipeline.arrRefs spec0 ⊆ Pipeline.ucRefs τ sig := Pipeline.arrRefs_sub_ucRefs spec0 (by decide)
theorem arr_sub1 : Pipeline.arrRefs spec1 ⊆ Pipeline.ucRefs τ sig := Pipeline.arrRefs_sub_ucRefs spec1 (by decide)
theorem arr_sub2 : Pipeline.arrRefs spec2 ⊆ Pipeline.ucRefs τ sig := Pipeline.arrRefs_sub_ucRefs spec2 (by decide)

theorem pre0 (c : Dev nD) : iprop(StableHlo.held (c : Thread nD τ) (Pipeline.ucRefs τ sig) (V1 m c) ∗ E m 0 c) ⊢ (reg0 m).pre c := by
  show _ ⊢ iprop(StableHlo.held (c : Thread nD τ) (Pipeline.arrRefs spec0) (V1 m c) ∗ prng c
    ∗ (StableHlo.held (c : Thread nD τ) (others spec0) (V1 m c) ∗ (ringTk m c ∗ planeTk m c)) ∗ emp
    ∗ ∃ W, owes (c : Thread nD τ) (TalkSites.tallyL (allDues c) + 0) W)
  rw [E_0, due, StableHlo.held_sub_split (c : Thread nD τ) arr_sub0, add_zero]
  iintro ⟨⟨Ha, Ho⟩, Hp, HT, HD⟩
  isplitl [Ha]; · iexact Ha
  isplitl [Hp]; · iexact Hp
  isplitl [Ho HT]
  · isplitl [Ho] <;> iassumption
  isplitr; · iempintro
  iexact HD
theorem post0 (c : Dev nD) : (reg0 m).post c ⊢ iprop(StableHlo.held (c : Thread nD τ) (Pipeline.ucRefs τ sig) (V2 m (outs m) c) ∗ E m 1 c) := by
  show iprop(StableHlo.held (c : Thread nD τ) (Pipeline.arrRefs spec0) (V2 m (outs m) c) ∗ prng c
    ∗ (StableHlo.held (c : Thread nD τ) (others spec0) (V2 m (outs m) c) ∗ (ringTk m c ∗ planeTk m c)) ∗ emp
    ∗ ∃ W, owes (c : Thread nD τ) (TalkSites.tallyL (allDues c)) W) ⊢ _
  rw [E_1, due, StableHlo.held_sub_split (c : Thread nD τ) arr_sub0]
  iintro ⟨Ha, Hp, ⟨Ho, HT⟩, -, HD⟩
  isplitl [Ha Ho]
  · isplitl [Ha] <;> iassumption
  isplitl [Hp]; · iexact Hp
  isplitl [HT]; · iexact HT
  iexact HD
theorem pre1 (c : Dev nD) : iprop(StableHlo.held (c : Thread nD τ) (Pipeline.ucRefs τ sig) (V2 m (outs m) c) ∗ E m 1 c) ⊢ (reg1 m).pre c := by
  show _ ⊢ iprop(StableHlo.held (c : Thread nD τ) (Pipeline.arrRefs spec1) (V2 m (outs m) c) ∗ prng c
    ∗ (StableHlo.held (c : Thread nD τ) (others spec1) (V2 m (outs m) c) ∗ planeTk m c) ∗ ringTk m c
    ∗ ∃ W, owes (c : Thread nD τ) (TalkSites.tallyL (planeDues c) + TalkSites.tallyL (Ring.dues c [])) W)
  rw [E_1, due, StableHlo.held_sub_split (c : Thread nD τ) arr_sub1, ← all_eq]
  iintro ⟨⟨Ha, Ho⟩, Hp, ⟨HR, HP⟩, HD⟩
  isplitl [Ha]; · iexact Ha
  isplitl [Hp]; · iexact Hp
  isplitl [Ho HP]
  · isplitl [Ho] <;> iassumption
  isplitl [HR]; · iexact HR
  iexact HD
theorem post1 (c : Dev nD) : (reg1 m).post c ⊢ iprop(StableHlo.held (c : Thread nD τ) (Pipeline.ucRefs τ sig) (V3 m (outs m) c) ∗ E m 2 c) := by
  show iprop(StableHlo.held (c : Thread nD τ) (Pipeline.arrRefs spec1) (V3 m (outs m) c) ∗ prng c
    ∗ (StableHlo.held (c : Thread nD τ) (others spec1) (V3 m (outs m) c) ∗ planeTk m c) ∗ bar0 (F := F) c
    ∗ ∃ W, owes (c : Thread nD τ) (TalkSites.tallyL (planeDues c)) W) ⊢ _
  rw [E_2, due, StableHlo.held_sub_split (c : Thread nD τ) arr_sub1]
  iintro ⟨Ha, Hp, ⟨Ho, HP⟩, HB, HD⟩
  isplitl [Ha Ho]
  · isplitl [Ha] <;> iassumption
  isplitl [Hp]; · iexact Hp
  isplitl [HP HB]
  · isplitl [HB] <;> iassumption
  iexact HD
theorem pre2 (c : Dev nD) : iprop(StableHlo.held (c : Thread nD τ) (Pipeline.ucRefs τ sig) (V3 m (outs m) c) ∗ E m 2 c) ⊢ (reg2 m).pre c := by
  show _ ⊢ iprop(StableHlo.held (c : Thread nD τ) (Pipeline.arrRefs spec2) (V3 m (outs m) c) ∗ prng c
    ∗ (StableHlo.held (c : Thread nD τ) (others spec2) (V3 m (outs m) c) ∗ bar0 (F := F) c) ∗ planeTk m c
    ∗ ∃ W, owes (c : Thread nD τ) (0 + TalkSites.tallyL (planeDues c)) W)
  rw [E_2, due, StableHlo.held_sub_split (c : Thread nD τ) arr_sub2, zero_add]
  iintro ⟨⟨Ha, Ho⟩, Hp, ⟨HB, HP⟩, HD⟩
  isplitl [Ha]; · iexact Ha
  isplitl [Hp]; · iexact Hp
  isplitl [Ho HB]
  · isplitl [Ho] <;> iassumption
  isplitl [HP]; · iexact HP
  iexact HD
theorem post2 (c : Dev nD) : (reg2 m).post c ⊢ iprop(StableHlo.held (c : Thread nD τ) (Pipeline.ucRefs τ sig) (V4 m (outs m) c) ∗ E m 3 c) := by
  show iprop(StableHlo.held (c : Thread nD τ) (Pipeline.arrRefs spec2) (V4 m (outs m) c) ∗ prng c
    ∗ (StableHlo.held (c : Thread nD τ) (others spec2) (V4 m (outs m) c) ∗ bar0 (F := F) c) ∗ bar1 (F := F) c
    ∗ ∃ W, owes (c : Thread nD τ) (0 : CellTallies nD τ sig ℕ) W) ⊢ _
  rw [E_3, due, StableHlo.held_sub_split (c : Thread nD τ) arr_sub2]
  iintro ⟨Ha, Hp, ⟨Ho, HB⟩, HC, HD⟩
  isplitl [Ha Ho]
  · isplitl [Ha] <;> iassumption
  isplitl [Hp]; · iexact Hp
  isplitl [HB HC]
  · isplitl [HB] <;> iassumption
  iexact HD

end Cert.WholeProof

end
-- ==== Proof.Whole.Calls.Run.lean ====
/-
# The whole program, run

The launch deals each device what the three calls need; the segments run one after the other; the end is read off the
last contents.
-/
module

public import proofs.«01_k».proof.Proof.Whole.Calls.Segments
public import Idealize.ShloMosaic.Lib.Pipeline.CollectiveSegs

@[expose] public section

noncomputable section

namespace Cert.WholeProof

open Cert.WholeIdeal Cert.WholeIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)

variable {F : FTy → Type} [FloatOps F]

local notation "𝕄" => MT nD τ sig ℕ (Elt F) ℕ UU ℕ

variable (m : (ℓ : Loc nD τ sig) → Buf (Elt F) ℓ) (ρ : Dev nD → PrngReg)

set_option maxRecDepth 100000

/-! ## What the launch deals -/

/-- What each device owes at the launch, over all the calls. -/
abbrev O₀ (c : Dev nD) : CellTallies nD τ sig ℕ := TalkSites.tallyL (allDues c)

theorem sum_all : (∑ d, O₀ d : CellTallies nD τ sig ℕ) = ∑ d, TalkSites.tallyL (Plane.owed d ++ Ring.owed d) := by
  rw [Finset.sum_congr rfl fun d _ => all_eq d, Finset.sum_add_distrib, Plane.sum_owed, Ring.sum_owed, ← Finset.sum_add_distrib]
  exact Finset.sum_congr rfl fun d _ => (TalkSites.tallyL_append _ _).symm

theorem launch_creds (c : Dev nD) : (Pipeline.launchCred O₀ c : sProp 𝕄) ⊢ iprop(Ring.dueTo (F := F) c ∗ Plane.dueTo (F := F) c) := by
  rw [Pipeline.launchCred_of_sum O₀ (fun d => TalkSites.tallyL (Plane.owed d ++ Ring.owed d)) sum_all
    (fun d g hg => tallyL_here (fun x hx => (List.mem_append.mp hx).elim (Plane.owed_here d x) (Ring.owed_here d x)) g hg) c, TalkSites.tallyL_append]
  iintro H
  ihave H := (cred_add (TalkSites.tallyL (Plane.owed c)) (TalkSites.tallyL (Ring.owed c))).1 $$ H
  icases H with ⟨HP, HR⟩
  isplitl [HR]
  · iapply (Ring.creds c) $$ HR
  · iapply (Plane.creds c) $$ HP

/-- The counters that no call scopes are the two barriers'. -/
theorem bars_eq (c : Dev nD) : (unscopedSems0 c : sProp 𝕄) = iprop(bar0 (F := F) c ∗ bar1 (F := F) c) := by
  unfold unscopedSems0
  rw [bigSep_eq_bigSepL_of_eq [SemLoc.reg Ring.barS, SemLoc.reg Plane.barS] (by decide) (by decide)]
  rfl

/-- The ghost state of the ring and of the plane before any device has its part. -/
def ghosts : sProp 𝕄 := iprop((BI.own (E1 (launchOf Ring.bars Ring.owns_ Ring.tokens)) ∗ BI.own (ES (Release.initSlots Ring.slotKeys 1)))
  ∗ BI.own (E2 (launchOf Plane.bars Plane.owns_ Plane.tokens)))

/-- It waits with one device. -/
def lead : Dev nD := ⟨0, by decide⟩
def G (c : Dev nD) : sProp 𝕄 := if c = lead then ghosts else BI.emp
theorem G_eq : (bigSep Finset.univ (G (F := F)) : sProp 𝕄) = ghosts := by
  rw [bigSep_univ_at _ lead, bigSep_congr (s := Finset.univ.erase lead) (Ψ := fun _ => (BI.emp : sProp 𝕄))
      fun c hc => by unfold G; rw [if_neg (Finset.ne_of_mem_erase hc)], BI.bigSep_emp_const]
  unfold G; rw [if_pos rfl]
  exact BI.equiv_iff.mp sep_emp

def u₀ : UU := (initOf (Pipeline.cells cfgs cellOf_inj) (Pipeline.launchToks cfgs cellOf_inj),
  ((launchOf Ring.bars Ring.owns_ Ring.tokens, Release.initSlots Ring.slotKeys 1), (launchOf Plane.bars Plane.owns_ Plane.tokens, 1)))

theorem launch_ghosts : (ownU u₀ : sProp 𝕄)
    ⊢ |={Set.univ}=> iprop(BI.own (EP (F := F) (initOf (Pipeline.cells cfgs cellOf_inj) (Pipeline.launchToks cfgs cellOf_inj))) ∗ bigSep Finset.univ (G (F := F))) := by
  rw [G_eq]
  unfold u₀ ghosts
  iintro Hu
  ihave H := (ownU_pair _ _) $$ Hu
  icases H with ⟨HP, HX⟩
  ihave H := (own_pair_emb embR _ _) $$ HX
  icases H with ⟨HB, HA⟩
  ihave H := (own_pair_emb EB _ _) $$ HB
  icases H with ⟨H1, HS⟩
  ihave H := (own_pair_emb EA _ _) $$ HA
  icases H with ⟨H2, -⟩
  imodintro
  isplitl [HP]; · iexact HP
  isplitr [H2]
  · isplitl [H1] <;> iassumption
  · iexact H2

/-- What of a device's launch holdings is no ghost state. -/
def plain (c : Dev nD) : sProp 𝕄 := iprop(StableHlo.held (c : Thread nD τ) (Pipeline.ucRefs τ sig) (V0 m c) ∗ prng c
  ∗ (Ring.dueTo (F := F) c ∗ Plane.dueTo (F := F) c) ∗ due (F := F) c (allDues c))

theorem plain_intro (c : Dev nD) : iprop(unscopedBufs c (fun b => m ((c.tc : Thread nD τ).loc b)) ∗ unscopedSems0 c
      ∗ owes (c.tc : Thread nD τ) (O₀ c) ∅ ∗ Pipeline.launchCred O₀ c ∗ prngReg c (ρ c) ∗ G c)
    ⊢ (iprop(plain m c ∗ (bar0 (F := F) c ∗ bar1 (F := F) c) ∗ G c) : sProp 𝕄) := by
  rw [show (unscopedBufs c (fun b => m ((c.tc : Thread nD τ).loc b)) : sProp 𝕄) = StableHlo.held (c : Thread nD τ) (Pipeline.ucRefs τ sig) (V0 m c) from
    Pipeline.unscopedBufs_held c (V0 m c), bars_eq]
  unfold plain due
  iintro ⟨Hh, Hb, HO, Hc, Hp, HG⟩
  ihave Hc := (launch_creds (F := F) c) $$ Hc
  isplitr [Hb HG]
  · isplitl [Hh]; · iexact Hh
    isplitl [Hp]; · iexists (ρ c); iexact Hp
    isplitl [Hc]; · iexact Hc
    iexists ∅; iexact HO
  isplitl [Hb] <;> iassumption

abbrev T₀ (c : Dev nD) : sProp 𝕄 := iprop(StableHlo.held (c : Thread nD τ) (Pipeline.ucRefs τ sig) (V0 m c) ∗ E m 0 c)

theorem T₀_intro (c : Dev nD) : iprop(plain m c ∗ Ring.kept (gathered m) c ∗ Plane.kept (summed m) c) ⊢ T₀ m c := by
  unfold T₀ plain
  rw [E_0]
  unfold ringTk planeTk
  iintro ⟨⟨Hh, Hp, ⟨HR, HP⟩, HO⟩, KR, KP⟩
  isplitl [Hh]; · iexact Hh
  isplitl [Hp]; · iexact Hp
  isplitr [HO]
  · isplitl [KR HR]
    · isplitl [KR] <;> iassumption
    · isplitl [KP] <;> iassumption
  · iexact HO

theorem launched : iprop((bigSep Finset.univ fun c : Dev nD => iprop(unscopedBufs c (fun b => m ((c.tc : Thread nD τ).loc b)) ∗ unscopedSems0 c
      ∗ owes (c.tc : Thread nD τ) (O₀ c) ∅ ∗ Pipeline.launchCred O₀ c ∗ prngReg c (ρ c) ∗ G c)) ∗ levAts (SiteBlocks.L levels) SiteBlocks.lv)
    ⊢ (|={Set.univ}=> bigSep Finset.univ (T₀ m) : sProp 𝕄) := by
  have h : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c))
      ⊢ (iprop((bigSep Finset.univ fun c => plain m c) ∗ ((bigSep Finset.univ fun c => bar0 (F := F) c) ∗ (bigSep Finset.univ fun c => bar1 (F := F) c)) ∗ ghosts) : sProp 𝕄) := by
    rw [← G_eq, ← bigSep_sep', ← bigSep_sep', ← bigSep_sep']
    exact bigSep_mono fun c _ => plain_intro m ρ c
  have h' : iprop((bigSep Finset.univ fun c => plain m c) ∗ (bigSep Finset.univ (Ring.kept (gathered m))) ∗ bigSep Finset.univ (Plane.kept (summed m)))
      ⊢ (bigSep Finset.univ (T₀ m) : sProp 𝕄) := by
    rw [← bigSep_sep', ← bigSep_sep']
    exact bigSep_mono fun c _ => T₀_intro m c
  iintro ⟨H, -⟩
  ihave H := h $$ H
  unfold ghosts
  icases H with ⟨HP, ⟨H0, H1⟩, ⟨HA, HS⟩, HB⟩
  imod (Ring.deal (gathered m)) $$ [H0 HA HS] with KR
  · isplitl [H0]; · iexact H0
    isplitl [HA] <;> iassumption
  imod (Plane.deal (summed m)) $$ [H1 HB] with KP
  · isplitl [H1] <;> iassumption
  imodintro
  iapply h'
  isplitl [HP]; · iexact HP
  isplitl [KR] <;> iassumption

/-! ## The run -/

abbrev Tₙ (c : Dev nD) : sProp 𝕄 := iprop(StableHlo.held (c : Thread nD τ) (Pipeline.ucRefs τ sig) (V5 m (outs m) c) ∗ unscopedSems0 c)

theorem E_last (c : Dev nD) : E m 3 c ⊢ iprop(unscopedSems0 c ∗ ∃ W, owes (c : Thread nD τ) (0 : CellTallies nD τ sig ℕ) W) := by
  rw [E_3, bars_eq, due]
  iintro ⟨-, HB, HO⟩
  isplitl [HB]; · iexact HB
  iexact HO

/-- What is read off a device's end. -/
def Ends (c : Dev nD) (s : MemSt nD τ sig (Elt F)) : Prop :=
  (s.mem ((c.tc : Thread nD τ).loc main_v5) = extf .f32 (joined m c) bitsLt_bf16_f32
    ∧ s.mem ((c.tc : Thread nD τ).loc main_arg0) = m ((c.tc : Thread nD τ).loc main_arg0)
    ∧ s.mem ((c.tc : Thread nD τ).loc main_arg1) = m ((c.tc : Thread nD τ).loc main_arg1))
  ∧ ∀ sm : SemLoc sig, sm.isScoped .tc = false → s.sem ((c.tc : Thread nD τ), sm) = 0

theorem read_end (c : Dev nD) (s' : Phys nD τ sig (Elt F)) : iprop(Tₙ m c ∗ SI s') ⊢ (|={Set.univ}=> iprop(⌜Ends m c s'.mem⌝ ∗ SI s') : sProp 𝕄) := by
  unfold Tₙ StableHlo.held
  iintro ⟨⟨Hh, Hb⟩, HSI⟩
  ihave Hr := (pointsTo_read_all (Pipeline.ucRefs τ sig) (fun b => ((c : Thread nD τ).1, b)) (V5 m (outs m) c) s') $$ [Hh HSI]
  · isplitl [Hh] <;> iassumption
  icases Hr with ⟨%h, HSI⟩
  imod (Pipeline.unscopedSems0_read (c := c) fupd_intro s') $$ [Hb HSI] with ⟨%hz, HSI⟩
  · isplitl [Hb] <;> iassumption
  imodintro
  isplitr
  · ipureintro
    exact ⟨⟨(h (Proc.devRef .tc main_v5) (Finset.mem_filter.mpr ⟨StableHlo.devRef_mem_tcRefs main_v5, by decide⟩)).trans (V5_v5 m c),
      (h (Proc.devRef .tc main_arg0) (Finset.mem_filter.mpr ⟨StableHlo.devRef_mem_tcRefs main_arg0, by decide⟩)).trans (V5_main_arg0 m (outs m) c),
      (h (Proc.devRef .tc main_arg1) (Finset.mem_filter.mpr ⟨StableHlo.devRef_mem_tcRefs main_arg1, by decide⟩)).trans (V5_main_arg1 m (outs m) c)⟩, hz⟩
  · iexact HSI

set_option backward.isDefEq.respectTransparency.types false in
/-- Every fair execution of the program on the mesh ends, with each device's result its plane's slabs joined, its
    arguments unchanged and every semaphore at zero. -/
theorem run_value : θ_run defs (onTc (τ := τ) (main (F := F))) ⟨m, fun _ => 0, ρ⟩ (fun r => (∀ c : Dev nD,
      r.2.mem ((c.tc : Thread nD τ).loc main_v5) = extf .f32 (joined m c) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_regions_kit_dev_sems (pcfgs (F := F)) adm (pdats m) 0 cellOf_inj EP defs₀ 𝒱₀ (SiteBlocks.L levels) SiteBlocks.lv m ρ main
    (segs m (outs m) 𝒱₀ (SiteBlocks.L levels) SiteBlocks.lv (E m) 0 (pdats m) (reg0 m) (reg1 m) (reg2 m))
    (fun c Q => by
      rewrite [main_chain c, Seg.run_eq_chain,
        show (segs m (outs m) 𝒱₀ (SiteBlocks.L levels) SiteBlocks.lv (E m) 0 (pdats m) (reg0 m) (reg1 m) (reg2 m) c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide)
    O₀ (fun g h => SiteBlocks.hL levels g h) G u₀ launch_ghosts
    (T₀ := T₀ m) (Tₙ := Tₙ m)
    (hch := fun c => ⟨.rfl, pre0 m c, (post0 m c).trans (pre1 m c), (post1 m c).trans (pre2 m c), post2 m c,
      (sep_mono .rfl (E_last m c)).trans Laws.sep_assoc.2⟩)
    (hinit := launched m ρ) (QY := Ends m) (hfin := read_end m)
    (hQ := fun s h hs => ⟨fun c => (h c).1, sem_eq_zero hs fun c sm hsm => (h c).2 sm hsm⟩)

end Cert.WholeProof

end
-- ==== Proof.Whole.Value.Ref.lean ====
/-
# The reference at an index

Where every token names a row of the table, a row of the reference's result is the row that its token names.
-/
module

public import proofs.«01_k».proof.Defs
public import proofs.«01_k».proof.Proof.Gen.WholeReferenceIdeal.Run
public import proofs.«01_k».proof.Proof.Gen.Pre_tokens_in_table_WholeIdeal
public import Idealize.ShloMosaic.Lib.Pipeline.Value
public import Idealize.ShloMosaic.Lib.Pointwise
public import Idealize.ShloMosaic.Lib.ReduceAll
public import Idealize.ShloMosaic.Lib.Routing.Ops

@[expose] public section

noncomputable section

namespace Cert.WholeRefProof

open Cert.WholeReferenceIdeal Cert.WholeReferenceIdeal.Gen
open Idealize.ShloMosaic

set_option maxRecDepth 100000

/-- Every token names a row of the table. -/
def InTable (ids : IVec S4096 32) : Prop := ∀ i : Fin 4096, 0 ≤ (ids (ix1 i)).toInt ∧ (ids (ix1 i)).toNat < 32768

/-- The precondition says so. -/
theorem inTable (ids : IVec S4096 32) (T : FVec Ideal Cert.Pre_tokens_in_table_WholeIdeal.S8192x2048 .f32)
    (h : Cert.Pre_tokens_in_table_WholeIdeal.fn (F := Ideal) ids T = fun _ => 1#1) : InTable ids := fun i => by
  haveI : Subsingleton Cert.Pre_tokens_in_table_WholeIdeal.S_.Idx := ⟨fun a b => funext fun k => k.elim0⟩
  have h' := Host.reduce_andi_all _ _ _ _ (fun k => k.elim0) (congrFun h _) (ix1 i)
  have h2 : ∀ p q : Bool, BitVec.ofBool p &&& BitVec.ofBool q = 1#1 ↔ (p = true ∧ q = true) := by decide
  have h'' : BitVec.ofBool ((0#32).sle (ids (ix1 i))) &&& BitVec.ofBool ((ids (ix1 i)).slt 32768#32) = 1#1 := h'
  rw [h2, BitVec.sle_iff_toInt_le, BitVec.slt_iff_toInt_lt, show (0#32).toInt = 0 from rfl, show (32768#32).toInt = 32768 from rfl] at h''
  refine ⟨h''.1, ?_⟩
  have hw := (ids (ix1 i)).isLt
  have e := BitVec.toInt_eq_toNat_cond (ids (ix1 i))
  split at e <;> omega

/-- The tokens, those below zero counted from the table's end. -/
def wrapped (ids : IVec S4096 32) : IVec S4096 32 :=
  select (cmpi .slt ids (broadcastInDim S4096 ![] bcast_S_S4096 (constantI S_ 32 0#32)))
    (addi ids (broadcastInDim S4096 ![] bcast_S_S4096 (constantI S_ 32 32768#32))) ids

/-- The reference's operations, composed. -/
def rowsOut (ids : IVec S4096 32) (E : S32768x2048.Idx → Ideal .f32) : S4096x2048.Idx → Ideal .f32 :=
  Host.gather gather_S32768x2048_S4096x1_S4096x2048_1_0_n_n_0_1_12048 E (broadcastInDim S4096x1 ![0] bcast_S4096_S4096x1_0 (wrapped ids))

theorem wrapped_ix (ids : IVec S4096 32) (i : Fin 4096) (h : 0 ≤ (ids (ix1 i)).toInt) : wrapped ids (ix1 i) = ids (ix1 i) := by
  show Scalar.select (BitVec.ofBool ((ids (ix1 i)).slt 0#32)) _ (ids (ix1 i)) = _
  have e : (ids (ix1 i)).slt 0#32 = false := by
    rw [Bool.eq_false_iff, Ne, BitVec.slt_iff_toInt_lt, show (0#32).toInt = 0 from rfl]
    omega
  rw [e]
  rfl

theorem ofNat_word (w : BitVec 32) : w = BitVec.ofNat 32 w.toNat := by simp

theorem column_ix (ids : IVec S4096 32) (i : Fin 4096) (h : 0 ≤ (ids (ix1 i)).toInt) :
    broadcastInDim S4096x1 ![0] bcast_S4096_S4096x1_0 (wrapped ids) (ix2 i 0) = BitVec.ofNat 32 (ids (ix1 i)).toNat := by
  rw [broadcastInDim_apply ![0] bcast_S4096_S4096x1_0 (wrapped ids) (ix2 i 0) (ix1 i) (by intro a; fin_cases a; rfl), wrapped_ix ids i h]
  exact ofNat_word _

theorem rowsOut_ix (ids : IVec S4096 32) (E : S32768x2048.Idx → Ideal .f32) (hin : InTable ids) (i : Fin 4096) (l : Fin 2048) :
    rowsOut ids E (ix2 i l) = E (ix2 ⟨(ids (ix1 i)).toNat, (hin i).2⟩ l) := by
  unfold rowsOut
  have hc := column_ix ids i (hin i).1
  generalize broadcastInDim S4096x1 ![0] bcast_S4096_S4096x1_0 (wrapped ids) = col at hc
  exact Routing.gather_row gather_S32768x2048_S4096x1_S4096x2048_1_0_n_n_0_1_12048 rfl rfl rfl rfl rfl E col i l ⟨(ids (ix1 i)).toNat, (hin i).2⟩ hc (by decide)

end Cert.WholeRefProof

end
-- ==== Proof.Whole.Value.Result.lean ====
/-
# The program's result against the reference's

Of the four devices of a ring exactly one holds a token's row, the others zeros, so the sum over the ring is the row; and
the slabs of a plane, in the order of its cycle, are the groups of tokens in order.
-/
module

public import proofs.«01_k».proof.Proof.Whole.Value.Ref
public import proofs.«01_k».proof.Proof.Whole.Calls.Contents

@[expose] public section

noncomputable section

namespace Cert.WholeProof

open Cert.WholeIdeal Cert.WholeIdeal.Gen Cert.WholeRefProof
open Idealize.ShloMosaic Idealize.ShloMosaic.TcCoe

set_option maxRecDepth 100000

/-! ## The sum over a ring -/

theorem pred_at (a b : Fin 4) (h : b - 1 = a) (c : Dev nD) : Ring.pred (Ring.at_ b c) = Ring.at_ a c := by
  subst h; revert c b; decide +kernel

/-- Four numbers added from one of them round to the one before it are their sum. -/
theorem round_sum (p : Fin 4 → EReal) (a : Fin 4) : p (a + 3) + (p (a + 2) + (p (a + 1) + p a)) = ∑ z, p z := by
  rw [Fin.sum_univ_four]
  fin_cases a
  · show p 3 + (p 2 + (p 1 + p 0)) = _; abel
  · show p 0 + (p 3 + (p 2 + p 1)) = _; abel
  · show p 1 + (p 0 + (p 3 + p 2)) = _; abel
  · show p 2 + (p 1 + (p 0 + p 3)) = _; abel

theorem ring_sum (X : Dev nD → Ring.Slab Ideal) (c : Dev nD) (j : S512x2048.Idx) :
    Ring.outAt X c j = (∑ z : Fin 4, (X (Ring.at_ z c) j : EReal) : EReal) := by
  have key : ∀ (a : Fin 4) (i : S128x2048.Idx), Ring.acc X 3 (Ring.at_ (a + 3) c) a i = (∑ z : Fin 4, (X (Ring.at_ z c) (Ring.rowIx a i) : EReal) : EReal) := by
    intro a i
    have e : Ring.acc X 3 (Ring.at_ (a + 3) c) a i = (X (Ring.at_ (a + 3) c) (Ring.rowIx a i) + (X (Ring.pred (Ring.at_ (a + 3) c)) (Ring.rowIx a i)
        + (X (Ring.pred (Ring.pred (Ring.at_ (a + 3) c))) (Ring.rowIx a i) + X (Ring.pred (Ring.pred (Ring.pred (Ring.at_ (a + 3) c)))) (Ring.rowIx a i) : EReal) : EReal) : EReal) := rfl
    rw [e, pred_at (a + 2) (a + 3) (by clear e; revert a; decide), pred_at (a + 1) (a + 2) (by clear e; revert a; decide), pred_at a (a + 1) (by clear e; revert a; decide)]
    exact round_sum (fun z => X (Ring.at_ z c) (Ring.rowIx a i)) a
  show Ring.acc X 3 (Ring.at_ (Ring.chunkOf j + 3) c) (Ring.chunkOf j) (Ring.inChunk j) = _
  rw [key, Ring.rowIx_inChunk]

/-! ## The rows -/

/-- The group and the part of the table, for the device at position `z` of the ring of the one at position `a` of a cycle; -/
theorem grp_at (z : Fin 4) (a : Fin 8) (c : Dev nD) : Gather.grp (Ring.at_ z (Plane.at_ a c)) = a.val := by
  revert z a c; decide +kernel
theorem part_at (z : Fin 4) (d : Dev nD) : Gather.part (Ring.at_ z d) = 8192 * z.val := by
  revert z d; decide +kernel
/-- and the block of rows of the table that a device holds. -/
theorem table_block (z : Fin 4) (d : Dev nD) : Layout.meshLin [2, 4, 4] (Ring.at_ z d).val [2] = z.val := by
  revert z d; decide +kernel

/-- Token `i`'s group's row, as the devices of a ring read it. -/
theorem word_at (ids : Gather.Ids Ideal) (z : Fin 4) (a : Fin 8) (c : Dev nD) (i : ℕ) (hi : i < 512) :
    Gather.word (F := Ideal) (Ring.at_ z (Plane.at_ a c)) ids i = ids (ix1 ⟨512 * a.val + i, by have := a.isLt; omega⟩) := by
  unfold Gather.word
  refine congrArg ids (funext fun b => Fin.ext ?_)
  have := a.isLt
  fin_cases b
  show (512 * Gather.grp (Ring.at_ z (Plane.at_ a c)) + i) % 4096 = 512 * a.val + i
  rw [grp_at]
  exact Nat.mod_eq_of_lt (by omega)

variable (m : (ℓ : Loc nD τ sig) → Buf (Elt Ideal) ℓ)

/-- A row of a group, on the device at position `z` of its ring: the table's row when the device's part holds it. -/
theorem row_at (ids : IVec S4096 32) (E : Cert.WholeReferenceIdeal.S32768x2048.Idx → Ideal .f32) (hin : InTable ids)
    (hX : ∀ c : Dev nD, m ((c : Thread nD τ).loc main_arg0) = ids
      ∧ m ((c : Thread nD τ).loc main_arg1) = Layout.blockN ⟨2, ![8192, 2048]⟩ ⟨2, ![32768, 2048]⟩ (Layout.meshBlock [2, 4, 4] ![[2], []] c) E)
    (z : Fin 4) (a : Fin 8) (c : Dev nD) (k : S512x2048.Idx) (i : Fin 4096) (hi : 512 * a.val + (k 0).val = i.val) :
    (gathered (F := Ideal) m (Ring.at_ z (Plane.at_ a c)) k : EReal)
      = if z.val = (ids (ix1 i)).toNat / 8192 then (E (ix2 ⟨(ids (ix1 i)).toNat, (hin i).2⟩ (k 1)) : EReal) else 0 := by
  have hw : Gather.word (F := Ideal) (Ring.at_ z (Plane.at_ a c)) ids (k 0).val = ids (ix1 i) :=
    (word_at ids z a c _ (k 0).isLt).trans (congrArg (fun k => ids (ix1 k)) (Fin.ext hi))
  have ho : Gather.Owned (F := Ideal) (Ring.at_ z (Plane.at_ a c)) ids (k 0).val ↔ z.val = (ids (ix1 i)).toNat / 8192 := by
    unfold Gather.Owned Gather.Mine
    rw [hw, part_at]
    omega
  have hf : Gather.from_ (F := Ideal) (Ring.at_ z (Plane.at_ a c)) ids (k 0).val = (ids (ix1 i)).toNat - 8192 * z.val := by
    unfold Gather.from_
    rw [hw, part_at]
  unfold gathered
  rw [(hX _).1, (hX _).2]
  have hd := table_block z (Plane.at_ a c)
  generalize Ring.at_ z (Plane.at_ a c) = d at *
  show (if Gather.Owned (F := Ideal) d ids (k 0).val then _ else (Scalar.ofBits .f32 0x00000000#32 : Ideal .f32)) = _
  by_cases h : Gather.Owned (F := Ideal) d ids (k 0).val
  · rw [if_pos h, if_pos (ho.mp h), hf, Layout.blockN_apply]
    have hz := ho.mp h
    refine congrArg E (funext fun b => Fin.ext ?_)
    fin_cases b
    · show Layout.meshLin [2, 4, 4] d.val [2] * 8192 + ((ids (ix1 i)).toNat - 8192 * z.val) % 8192 = (ids (ix1 i)).toNat
      rw [hd]
      omega
    · show 0 * 2048 + (k 1).val = (k 1).val; omega
  · rw [if_neg h, if_neg fun h' => h (ho.mpr h')]
    exact Ideal.ofBits_zero_f32

/-- Each device's result is the reference's. -/
theorem joined_eq (ids : IVec S4096 32) (E : Cert.WholeReferenceIdeal.S32768x2048.Idx → Ideal .f32) (hin : InTable ids)
    (hX : ∀ c : Dev nD, m ((c : Thread nD τ).loc main_arg0) = ids
      ∧ m ((c : Thread nD τ).loc main_arg1) = Layout.blockN ⟨2, ![8192, 2048]⟩ ⟨2, ![32768, 2048]⟩ (Layout.meshBlock [2, 4, 4] ![[2], []] c) E)
    (c : Dev nD) : (extf .f32 (joined (F := Ideal) m c) bitsLt_bf16_f32 : S4096x2048.Idx → Ideal .f32) = rowsOut ids E := by
  funext j
  have hj : (j 0).val < 4096 := (j 0).isLt
  have e0 : rowsOut ids E j = _ := (congrArg (rowsOut ids E) (show j = ix2 (j 0) (j 1) from funext fun b => by fin_cases b <;> rfl)).trans (rowsOut_ix ids E hin (j 0) (j 1))
  refine (ring_sum (gathered m) _ _).trans (Eq.trans ?_ e0.symm)
  refine (Finset.sum_congr rfl fun z _ => row_at m ids E hin hX z _ c _ (j 0) (Nat.div_add_mod (j 0).val 512)).trans ?_
  have hn := (hin (j 0)).2
  refine (Finset.sum_eq_single (⟨(ids (ix1 (j 0))).toNat / 8192, by omega⟩ : Fin 4)
    (fun z _ hz => if_neg fun h => hz (Fin.ext h)) (fun h => absurd (Finset.mem_univ _) h)).trans (if_pos rfl)

end Cert.WholeProof

end
-- ==== Proof.Machine.lean ====
/-
# The machine's floats

The program and its idealization are one text: the idealization replaced nothing. So what was proved of the idealization
at any floats holds of the program at the machine's.
-/
module

public import proofs.«01_k».proof.Defs
public import proofs.«01_k».proof.Proof.Gen.Whole
public import proofs.«01_k».proof.Proof.Whole.Calls.Run

@[expose] public section

noncomputable section

namespace Cert.MachineProof

open Idealize.ShloMosaic Idealize.SL.Sem

variable {F : FTy → Type} [FloatOps F]

theorem table_whole : Cert.Whole.defs₀ (F := F) = Cert.WholeIdeal.defs₀ (F := F) :=
  congrArg Defs.onTc (funext fun l => funext fun a => match l, a with
    | 0, _ => rfl
    | 1, _ => rfl
    | 2, _ => rfl
    | ⟨_ + 3, h⟩, _ => absurd h (Nat.not_lt.2 (Nat.le_add_left _ _)))
theorem defs_whole : Cert.Whole.defs (F := F) = Cert.WholeIdeal.defs (F := F) := congrArg (Pipeline.defs Cert.Whole.pcfgs) table_whole

theorem frame_whole : Cert.quiescent_Whole := fun m ρ _ => by
  rw [defs_whole]
  exact (θ_run Cert.WholeIdeal.defs _ _).mono (fun _ h => ⟨fun c => (h.1 c).2, h.2⟩) (Cert.WholeProof.run_value (F := Bits) m ρ)

end Cert.MachineProof

end
-- ==== Proof.lean ====
/-
# The certificate

The runs of the program at both float instances, the reference's run, and their agreement, assembled into the claims.
-/
module

public import proofs.«01_k».proof.Defs
public import proofs.«01_k».proof.Proof.Gen.Whole
public import proofs.«01_k».proof.Proof.Gen.Whole.Skeleton
public import proofs.«01_k».proof.Proof.Gen.Whole.Launch
public import proofs.«01_k».proof.Proof.Gen.Whole.Points
public import proofs.«01_k».proof.Proof.Gen.Whole.Regions
public import proofs.«01_k».proof.Proof.Gen.Whole.Loops
public import proofs.«01_k».proof.Proof.Gen.WholeIdeal
public import proofs.«01_k».proof.Proof.Gen.WholeIdeal.Skeleton
public import proofs.«01_k».proof.Proof.Gen.WholeIdeal.Launch
public import proofs.«01_k».proof.Proof.Gen.WholeIdeal.Points
public import proofs.«01_k».proof.Proof.Gen.WholeIdeal.Regions
public import proofs.«01_k».proof.Proof.Gen.WholeIdeal.Loops
public import proofs.«01_k».proof.Proof.Gen.WholeReferenceIdeal
public import proofs.«01_k».proof.Proof.Gen.WholeReferenceIdeal.Run
public import proofs.«01_k».proof.Proof.Gen.Pre_tokens_in_table_WholeIdeal
public import proofs.«01_k».proof.Proof.Gen.Pre_tokens_in_table_WholeReferenceIdeal
public import proofs.«01_k».proof.Proof.Whole.Calls.Run
public import proofs.«01_k».proof.Proof.Whole.Value.Ref
public import proofs.«01_k».proof.Proof.Whole.Value.Result
public import proofs.«01_k».proof.Proof.Machine
public import Idealize.ShloMosaic.Adequacy
public import Idealize.ShloMosaic.Init
public import Idealize.ShloMosaic.Lib.Quiescent

@[expose] public section

noncomputable section

namespace Cert.Proof

open Idealize.ShloMosaic Idealize.SL.Sem

/-- The program runs, keeps its operands, and leaves every counter at zero. -/
theorem frame_whole : Cert.quiescent_Whole := Cert.MachineProof.frame_whole

/-- So does its idealization, -/
theorem frame_wholeIdeal : Cert.quiescent_WholeIdeal := fun m ρ _ =>
  (θ_run Cert.WholeIdeal.defs _ _).mono (fun _ h => ⟨fun c => (h.1 c).2, h.2⟩) (Cert.WholeProof.run_value (F := Ideal) m ρ)

theorem frame_wholeIdeal_pre : Cert.quiescent_WholeIdeal_pre_tokens_in_table_WholeIdeal := fun m ρ _ =>
  (θ_run Cert.WholeIdeal.defs _ _).mono (fun _ h => ⟨fun c => (h.1 c).2, h.2⟩) (Cert.WholeProof.run_value (F := Ideal) m ρ)

/-- and the reference. -/
theorem frame_wholeReference : Cert.quiescent_WholeReferenceIdeal := fun m ρ _ =>
  (θ_run Cert.WholeReferenceIdeal.defs _ _).mono (fun r h => ⟨fun c => (h c).2, sem_eq_zero_of_no_sems (by decide) r.2⟩)
    (Cert.WholeReferenceIdeal.Value.run (F := Ideal) m ρ)

theorem frame_wholeReference_pre : Cert.quiescent_WholeReferenceIdeal_pre_tokens_in_table_WholeReferenceIdeal := fun m ρ _ =>
  (θ_run Cert.WholeReferenceIdeal.defs _ _).mono (fun r h => ⟨fun c => (h c).2, sem_eq_zero_of_no_sems (by decide) r.2⟩)
    (Cert.WholeReferenceIdeal.Value.run (F := Ideal) m ρ)

/-- Every device's result is the reference's: the table's row of each token. -/
theorem value_whole : Cert.algebraic_WholeIdeal_WholeReferenceIdeal_pre_tokens_in_table_WholeIdeal := fun m ρ m' ρ' hpre hX =>
  have hin := Cert.WholeRefProof.inTable _ _ (hpre 0)
  ⟨Cert.WholeRefProof.rowsOut (m' (((0 : Dev Cert.WholeReferenceIdeal.nD).tc : Thread Cert.WholeReferenceIdeal.nD Cert.WholeReferenceIdeal.τ).loc Cert.WholeReferenceIdeal.main_arg0))
      (m' (((0 : Dev Cert.WholeReferenceIdeal.nD).tc : Thread Cert.WholeReferenceIdeal.nD Cert.WholeReferenceIdeal.τ).loc Cert.WholeReferenceIdeal.main_arg1)),
    (θ_run Cert.WholeIdeal.defs _ _).mono
      (fun _ h c => ⟨(h.1 c).1.trans (Cert.WholeProof.joined_eq m _ _ (fun i => (hX 0).1 ▸ hin i) hX c), (h.1 c).2⟩)
      (Cert.WholeProof.run_value (F := Ideal) m ρ),
    (θ_run Cert.WholeReferenceIdeal.defs _ _).mono (fun _ h => h 0) (Cert.WholeReferenceIdeal.Value.run (F := Ideal) m' ρ')⟩

theorem claim : Cert.Claim := ⟨Cert.Whole.Gen.facts, Cert.WholeIdeal.Gen.facts, Cert.WholeReferenceIdeal.Gen.facts,
  Cert.Pre_tokens_in_table_WholeIdeal.Gen.facts, Cert.Pre_tokens_in_table_WholeReferenceIdeal.Gen.facts,
  frame_whole, frame_wholeIdeal, frame_wholeIdeal_pre, frame_wholeReference, frame_wholeReference_pre, trivial, value_whole⟩

end Cert.Proof

end
